-- ==== Defs.lean ====
def Pre_Attn [hPre_in_range : Cert.Pre_in_range.Facts] (m : (ℓ : Loc Cert.Attn.nD Cert.Attn.τ Cert.Attn.sig) → Buf (Elt Bits) ℓ) : Prop :=
  ∀ c : Dev Cert.Attn.nD,
    (Cert.Pre_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6))) = (fun _ => 1#1)

def Pre_AttnIdeal [hPre_in_range : Cert.Pre_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnIdeal_pre [hPre_pre : Cert.Pre_pre.Facts] (m : (ℓ : Loc Cert.AttnIdeal.nD Cert.AttnIdeal.τ Cert.AttnIdeal.sig) → Buf (Elt Ideal) ℓ) : Prop :=
  ∀ c : Dev Cert.AttnIdeal.nD,
    (Cert.Pre_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Attn [hAttn : Cert.Attn.Facts] [hPre_in_range : Cert.Pre_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] [hPre_in_range : Cert.Pre_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_pre [hAttnIdeal : Cert.AttnIdeal.Facts] [hPre_pre : Cert.Pre_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Attn_AttnIdeal : Prop :=
  IdealRules.named_const.Statement Cert.AttnIdeal.κ "log2e_inv_sqrt_d" .f32 0x3E38AA3B#32 (((Real.log 2)⁻¹ * (1 / 8) : ℝ) : EReal)

def algebraic_AttnIdeal_ReferenceIdeal_pre_pre [hAttnIdeal : Cert.AttnIdeal.Facts] [hReferenceIdeal : Cert.ReferenceIdeal.Facts] [hPre_pre : Cert.Pre_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AttnIdeal_pre m →
    (∀ c : Dev Cert.AttnIdeal.nD,
      m' ((c.tc : Thread Cert.ReferenceIdeal.nD Cert.ReferenceIdeal.τ).loc Cert.ReferenceIdeal.main_arg0) = m ((c.tc : Thread Cert.AttnIdeal.nD Cert.AttnIdeal.τ).loc Cert.AttnIdeal.main_arg0)
      ∧ m' ((c.tc : Thread Cert.ReferenceIdeal.nD Cert.ReferenceIdeal.τ).loc Cert.ReferenceIdeal.main_arg1) = m ((c.tc : Thread Cert.AttnIdeal.nD Cert.AttnIdeal.τ).loc Cert.AttnIdeal.main_arg1)
      ∧ m' ((c.tc : Thread Cert.ReferenceIdeal.nD Cert.ReferenceIdeal.τ).loc Cert.ReferenceIdeal.main_arg2) = m ((c.tc : Thread Cert.AttnIdeal.nD Cert.AttnIdeal.τ).loc Cert.AttnIdeal.main_arg2)
      ∧ m' ((c.tc : Thread Cert.ReferenceIdeal.nD Cert.ReferenceIdeal.τ).loc Cert.ReferenceIdeal.main_arg3) = m ((c.tc : Thread Cert.AttnIdeal.nD Cert.AttnIdeal.τ).loc Cert.AttnIdeal.main_arg3)
      ∧ m' ((c.tc : Thread Cert.ReferenceIdeal.nD Cert.ReferenceIdeal.τ).loc Cert.ReferenceIdeal.main_arg4) = m ((c.tc : Thread Cert.AttnIdeal.nD Cert.AttnIdeal.τ).loc Cert.AttnIdeal.main_arg4)
      ∧ m' ((c.tc : Thread Cert.ReferenceIdeal.nD Cert.ReferenceIdeal.τ).loc Cert.ReferenceIdeal.main_arg5) = m ((c.tc : Thread Cert.AttnIdeal.nD Cert.AttnIdeal.τ).loc Cert.AttnIdeal.main_arg5)
      ∧ m' ((c.tc : Thread Cert.ReferenceIdeal.nD Cert.ReferenceIdeal.τ).loc Cert.ReferenceIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hAttn : Cert.Attn.Facts) (hAttnIdeal : Cert.AttnIdeal.Facts) (hReferenceIdeal : Cert.ReferenceIdeal.Facts) (hPre_in_range : Cert.Pre_in_range.Facts) (hPre_pre : Cert.Pre_pre.Facts),
    quiescent_Attn (hAttn := hAttn) (hPre_in_range := hPre_in_range)
    ∧ quiescent_AttnIdeal (hAttnIdeal := hAttnIdeal) (hPre_in_range := hPre_in_range)
    ∧ quiescent_AttnIdeal_pre_pre (hAttnIdeal := hAttnIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Attn_AttnIdeal
    ∧ algebraic_AttnIdeal_ReferenceIdeal_pre_pre (hAttnIdeal := hAttnIdeal) (hReferenceIdeal := hReferenceIdeal) (hPre_pre := hPre_pre)
-- ==== Pre_in_range.lean ====
abbrev S4 : Shape := ⟨1, ![4]⟩
abbrev S4x2048x8192 : Shape := ⟨3, ![4, 2048, 8192]⟩
abbrev S4x8x4x8192 : Shape := ⟨4, ![4, 8, 4, 8192]⟩
abbrev S4x8x8192x128 : Shape := ⟨4, ![4, 8, 8192, 128]⟩
abbrev S4x8x1x8192 : Shape := ⟨4, ![4, 8, 1, 8192]⟩
abbrev S4x8x64x8192 : Shape := ⟨4, ![4, 8, 64, 8192]⟩
abbrev S4x8x64x128 : Shape := ⟨4, ![4, 8, 64, 128]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S4 32) (main_arg1 : FVec F S4x2048x8192 .fp8e4m3) (main_arg2 : FVec F S4x8x4x8192 .f32) (main_arg3 : FVec F S4x8x8192x128 .fp8e4m3) (main_arg4 : FVec F S4x8x1x8192 .f32) (main_arg5 : FVec F S4x8x64x8192 .fp8e4m3) (main_arg6 : FVec F S4x8x64x128 .f32) : IVec S_ 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8192#32
  let main_v2 : IVec S4 32 := broadcastInDim S4 ![] bcast_S_S4 main_c_0
  let main_v3 : IVec S4 1 := cmpi .sle main_arg0 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Pre_pre.lean ====
abbrev S4 : Shape := ⟨1, ![4]⟩
abbrev S4x2048x8192 : Shape := ⟨3, ![4, 2048, 8192]⟩
abbrev S4x8x4x8192 : Shape := ⟨4, ![4, 8, 4, 8192]⟩
abbrev S4x8x8192x128 : Shape := ⟨4, ![4, 8, 8192, 128]⟩
abbrev S4x8x1x8192 : Shape := ⟨4, ![4, 8, 1, 8192]⟩
abbrev S4x8x64x8192 : Shape := ⟨4, ![4, 8, 64, 8192]⟩
abbrev S4x8x64x128 : Shape := ⟨4, ![4, 8, 64, 128]⟩
abbrev S_ : Shape := ⟨0, ![]⟩
abbrev S4x8x64x1 : Shape := ⟨4, ![4, 8, 64, 1]⟩

class Facts : Prop where
  bcast_S_S4 : S_.BroadcastsInDim S4 (![] : Fin 0 → Fin S4.rank)
  reducesTo_S4_S_d0 : S4.ReducesTo [0] S_
  h_S_ : 0 < S_.numel
  bcast_S_S4x8x4x8192 : S_.BroadcastsInDim S4x8x4x8192 (![] : Fin 0 → Fin S4x8x4x8192.rank)
  reducesTo_S4x8x4x8192_S_d0_1_2_3 : S4x8x4x8192.ReducesTo [0, 1, 2, 3] S_
  slices_S4x8x64x128_S4x8x64x1_0_0_0_0 : S4x8x64x128.Slices ![0, 0, 0, 0] S4x8x64x1
  bcast_S4x8x64x1_S4x8x64x128_0_1_2_3 : S4x8x64x1.BroadcastsInDim S4x8x64x128 (![0, 1, 2, 3] : Fin 4 → Fin S4x8x64x128.rank)
  reducesTo_S4x8x64x128_S_d0_1_2_3 : S4x8x64x128.ReducesTo [0, 1, 2, 3] S_

variable [Facts]

def fn {F : FTy → Type} [FloatOps F] (main_arg0 : IVec S4 32) (main_arg1 : FVec F S4x2048x8192 .fp8e4m3) (main_arg2 : FVec F S4x8x4x8192 .f32) (main_arg3 : FVec F S4x8x8192x128 .fp8e4m3) (main_arg4 : FVec F S4x8x1x8192 .f32) (main_arg5 : FVec F S4x8x64x8192 .fp8e4m3) (main_arg6 : FVec F S4x8x64x128 .f32) : IVec S_ 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8192#32
  let main_v2 : IVec S4 32 := broadcastInDim S4 ![] bcast_S_S4 main_c_0
  let main_v3 : IVec S4 1 := cmpi .sle main_arg0 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_cst : FVec F S_ .f32 := constant S_ .f32 0x00000000#32
  let main_v6 : FVec F S4x8x4x8192 .f32 := broadcastInDim S4x8x4x8192 ![] bcast_S_S4x8x4x8192 main_cst
  let main_v7 : IVec S4x8x4x8192 1 := cmpf .ogt main_arg2 main_v6
  let main_c_2 : IVec S_ 1 := constantI S_ 1 1#1
  let main_v8 : IVec S_ 1 := (fun x v => Host.reduce IntOp.andi x v reducesTo_S4x8x4x8192_S_d0_1_2_3 h_S_) main_v7 main_c_2
  let main_v9 : IVec S_ 1 := andi main_v5 main_v8
  let main_v10 : FVec F S4x8x64x1 .f32 := (extractStridedSlice S4x8x64x1 ![0, 0, 0, 0] · slices_S4x8x64x128_S4x8x64x1_0_0_0_0) main_arg6
  let main_v11 : FVec F S4x8x64x128 .f32 := broadcastInDim S4x8x64x128 ![0, 1, 2, 3] bcast_S4x8x64x1_S4x8x64x128_0_1_2_3 main_v10
  let main_v12 : IVec S4x8x64x128 1 := cmpf .oeq main_arg6 main_v11
  let main_c_3 : IVec S_ 1 := constantI S_ 1 1#1
  let main_v13 : IVec S_ 1 := (fun x v => Host.reduce IntOp.andi x v reducesTo_S4x8x64x128_S_d0_1_2_3 h_S_) main_v12 main_c_3
  let main_v14 : IVec S_ 1 := andi main_v9 main_v13
  main_v14
-- ==== Attn.lean ====
abbrev S4 : Shape := ⟨1, ![4]⟩
abbrev S4x2048x8192 : Shape := ⟨3, ![4, 2048, 8192]⟩
abbrev S4x8x4x8192 : Shape := ⟨4, ![4, 8, 4, 8192]⟩
abbrev S4x8x8192x128 : Shape := ⟨4, ![4, 8, 8192, 128]⟩
abbrev S4x8x1x8192 : Shape := ⟨4, ![4, 8, 1, 8192]⟩
abbrev S4x8x64x8192 : Shape := ⟨4, ![4, 8, 64, 8192]⟩
abbrev S4x8x64x128 : Shape := ⟨4, ![4, 8, 64, 128]⟩
abbrev S4x8192x2048 : Shape := ⟨3, ![4, 8192, 2048]⟩
abbrev S1x256x256 : Shape := ⟨3, ![1, 256, 256]⟩
abbrev S1x1x4x256 : Shape := ⟨4, ![1, 1, 4, 256]⟩
abbrev S1x1x8192x128 : Shape := ⟨4, ![1, 1, 8192, 128]⟩
abbrev S1x1x1x8192 : Shape := ⟨4, ![1, 1, 1, 8192]⟩
abbrev S1x1x64x8192 : Shape := ⟨4, ![1, 1, 64, 8192]⟩
abbrev S1x1x64x128 : Shape := ⟨4, ![1, 1, 64, 128]⟩
abbrev S8192x128 : Shape := ⟨2, ![8192, 128]⟩
abbrev S8192x1024 : Shape := ⟨2, ![8192, 1024]⟩
abbrev S64x1024 : Shape := ⟨2, ![64, 1024]⟩
abbrev S1 : Shape := ⟨1, ![1]⟩
abbrev S1x1x1x128 : Shape := ⟨4, ![1, 1, 1, 128]⟩
abbrev S1x128 : Shape := ⟨2, ![1, 128]⟩
abbrev S128x128 : Shape := ⟨2, ![128, 128]⟩
abbrev S8x256 : Shape := ⟨2, ![8, 256]⟩
abbrev S1x1x512x128 : Shape := ⟨4, ![1, 1, 512, 128]⟩
abbrev S512x128 : Shape := ⟨2, ![512, 128]⟩
abbrev S512x256 : Shape := ⟨2, ![512, 256]⟩
abbrev S1x64x256 : Shape := ⟨3, ![1, 64, 256]⟩
abbrev S64x256 : Shape := ⟨2, ![64, 256]⟩
abbrev S128x256 : Shape := ⟨2, ![128, 256]⟩
abbrev S64x8x256 : Shape := ⟨3, ![64, 8, 256]⟩
abbrev S1x1x1x256 : Shape := ⟨4, ![1, 1, 1, 256]⟩
abbrev S1x256 : Shape := ⟨2, ![1, 256]⟩
abbrev S256 : Shape := ⟨1, ![256]⟩
abbrev S1x1x64x512 : Shape := ⟨4, ![1, 1, 64, 512]⟩
abbrev S64x512 : Shape := ⟨2, ![64, 512]⟩
abbrev S64x128 : Shape := ⟨2, ![64, 128]⟩
abbrev S256x256 : Shape := ⟨2, ![256, 256]⟩

abbrev nBuf : Space → Nat
  | .hbm => 7
  | .vmem => 17
  | .smem => 1
  | _ => 0

abbrev bufTy : (tb : Table) → Fin (tcTables nBuf tb) → BufTy
  | .hbm, ⟨0, _⟩ => ⟨S4x2048x8192, .fp8e4m3⟩
  | .hbm, ⟨1, _⟩ => ⟨S4x8x4x8192, .f32⟩
  | .hbm, ⟨2, _⟩ => ⟨S4x8x8192x128, .fp8e4m3⟩
  | .hbm, ⟨3, _⟩ => ⟨S4x8x1x8192, .f32⟩
  | .hbm, ⟨4, _⟩ => ⟨S4x8x64x8192, .fp8e4m3⟩
  | .hbm, ⟨5, _⟩ => ⟨S4x8x64x128, .f32⟩
  | .hbm, ⟨6, _⟩ => ⟨S4x8192x2048, .bf16⟩
  | .local _ .vmem, ⟨0, _⟩ => ⟨S1x256x256, .fp8e4m3⟩
  | .local _ .vmem, ⟨1, _⟩ => ⟨S1x256x256, .fp8e4m3⟩
  | .local _ .vmem, ⟨2, _⟩ => ⟨S1x1x4x256, .f32⟩
  | .local _ .vmem, ⟨3, _⟩ => ⟨S1x1x4x256, .f32⟩
  | .local _ .vmem, ⟨4, _⟩ => ⟨S1x1x8192x128, .fp8e4m3⟩
  | .local _ .vmem, ⟨5, _⟩ => ⟨S1x1x8192x128, .fp8e4m3⟩
  | .local _ .vmem, ⟨6, _⟩ => ⟨S1x1x1x8192, .f32⟩
  | .local _ .vmem, ⟨7, _⟩ => ⟨S1x1x1x8192, .f32⟩
  | .local _ .vmem, ⟨8, _⟩ => ⟨S1x1x64x8192, .fp8e4m3⟩
  | .local _ .vmem, ⟨9, _⟩ => ⟨S1x1x64x8192, .fp8e4m3⟩
  | .local _ .vmem, ⟨10, _⟩ => ⟨S1x1x64x128, .f32⟩
  | .local _ .vmem, ⟨11, _⟩ => ⟨S1x1x64x128, .f32⟩
  | .local _ .vmem, ⟨12, _⟩ => ⟨S1x256x256, .bf16⟩
  | .local _ .vmem, ⟨13, _⟩ => ⟨S1x256x256, .bf16⟩
  | .local _ .vmem, ⟨14, _⟩ => ⟨S8192x128, .f32⟩
  | .local _ .vmem, ⟨15, _⟩ => ⟨S8192x1024, .f32⟩
  | .local _ .vmem, ⟨16, _⟩ => ⟨S64x1024, .f32⟩
  | .local _ .smem, ⟨0, _⟩ => ⟨S4, .i32⟩
  | _, _ => ⟨S4x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 32], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_20 : BitVec 32 := 1#32
  ⟨c0_i32_18, v49, c1_i32_20⟩

def k0_mult1 (v1 : BitVec 32) (k0_t1 : Fin (k0_t1_loop v1).trips) : BitVec 32 :=
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  v143
def k0_off2 (v1 : BitVec 32) (k0_t1 : Fin (k0_t1_loop v1).trips) : Fin 4 → Nat :=
  let c0_77 : Index := 0#32
  let c0_78 : Index := 0#32
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  let v144 : BitVec 32 := v143
  let v145 : Index := Scalar.indexCast v144
  let c0_79 : Index := 0#32
  ![0, 0, v145.toNat, 0]
def k0_off3 (v1 : BitVec 32) (k0_t1 : Fin (k0_t1_loop v1).trips) : Fin 2 → Nat :=
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  let v144 : BitVec 32 := v143
  let v148 : Index := Scalar.indexCast v144
  let c0_80 : Index := 0#32
  ![v148.toNat, 0]
def k0_off4 (v1 : BitVec 32) (k0_t1 : Fin (k0_t1_loop v1).trips) : Fin 2 → Nat :=
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  let v144 : BitVec 32 := v143
  let v156 : Index := Scalar.indexCast v144
  let c0_85 : Index := 0#32
  ![v156.toNat, 0]
def k0_off5 (v1 : BitVec 32) (k0_t1 : Fin (k0_t1_loop v1).trips) : Fin 2 → Nat :=
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  let v144 : BitVec 32 := v143
  let v168 : Index := Scalar.indexCast v144
  let c256_90 : Index := 256#32
  ![v168.toNat, 256]
def k0_off6 (v1 : BitVec 32) (k0_t1 : Fin (k0_t1_loop v1).trips) : Fin 2 → Nat :=
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  let v144 : BitVec 32 := v143
  let v180 : Index := Scalar.indexCast v144
  let c512_95 : Index := 512#32
  ![v180.toNat, 512]
def k0_off7 (v1 : BitVec 32) (k0_t1 : Fin (k0_t1_loop v1).trips) : Fin 2 → Nat :=
  let c0_i32_18 : BitVec 32 := 0#32
  let c1_i32_20 : BitVec 32 := 1#32
  let arg14 : BitVec 32 := Scf.iv c0_i32_18 c1_i32_20 k0_t1
  let c512_i32_76 : BitVec 32 := 512#32
  let v143 : BitVec 32 := Scalar.muli arg14 c512_i32_76
  let v144 : BitVec 32 := v143
  let v192 : Index := Scalar.indexCast v144
  let c768_100 : Index := 768#32
  ![v192.toNat, 768]
@[reducible] def k0_t2_loop (v1 : BitVec 32) : Scf.Loop 32 :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let v46 : BitVec 32 := Scalar.addi c0_i32_18 v45
  let c1_i32_21 : BitVec 32 := 1#32
  ⟨v49, v46, c1_i32_21⟩
def k0_mult2 (v1 : BitVec 32) (k0_t2 : Fin (k0_t2_loop v1).trips) : BitVec 32 :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  v143
def k0_off8 (v1 : BitVec 32) (k0_t2 : Fin (k0_t2_loop v1).trips) : Fin 4 → Nat :=
  let c0_77 : Index := 0#32
  let c0_78 : Index := 0#32
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  let v144 : BitVec 32 := v143
  let v145 : Index := Scalar.indexCast v144
  let c0_79 : Index := 0#32
  ![0, 0, v145.toNat, 0]
def k0_off9 (v1 : BitVec 32) (k0_t2 : Fin (k0_t2_loop v1).trips) : Fin 2 → Nat :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  let v144 : BitVec 32 := v143
  let v148 : Index := Scalar.indexCast v144
  let c0_80 : Index := 0#32
  ![v148.toNat, 0]
def k0_off10 (v1 : BitVec 32) (k0_t2 : Fin (k0_t2_loop v1).trips) : Fin 2 → Nat :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  let v144 : BitVec 32 := v143
  let v156 : Index := Scalar.indexCast v144
  let c0_85 : Index := 0#32
  ![v156.toNat, 0]
def k0_off11 (v1 : BitVec 32) (k0_t2 : Fin (k0_t2_loop v1).trips) : Fin 2 → Nat :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  let v144 : BitVec 32 := v143
  let v168 : Index := Scalar.indexCast v144
  let c256_90 : Index := 256#32
  ![v168.toNat, 256]
def k0_off12 (v1 : BitVec 32) (k0_t2 : Fin (k0_t2_loop v1).trips) : Fin 2 → Nat :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  let v144 : BitVec 32 := v143
  let v180 : Index := Scalar.indexCast v144
  let c512_95 : Index := 512#32
  ![v180.toNat, 512]
def k0_off13 (v1 : BitVec 32) (k0_t2 : Fin (k0_t2_loop v1).trips) : Fin 2 → Nat :=
  let c0_i32_18 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v45 : BitVec 32 := Scalar.subi v18 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg14 : BitVec 32 := Scf.iv v49 c1_i32_21 k0_t2
  let c512_i32_76 : BitVec 32 := 512#32
  let v143 : BitVec 32 := Scalar.muli arg14 c512_i32_76
  let v144 : BitVec 32 := v143
  let v192 : Index := Scalar.indexCast v144
  let c768_100 : Index := 768#32
  ![v192.toNat, 768]
@[reducible] def k0_t3_loop (v1 : BitVec 32) : Scf.Loop 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_23 : BitVec 32 := 1#32
  ⟨v18, v56, c1_i32_23⟩
def k0_mult3 (v1 : BitVec 32) (k0_t3 : Fin (k0_t3_loop v1).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  v143
def k0_off14 (v1 : BitVec 32) (k0_t3 : Fin (k0_t3_loop v1).trips) : Fin 4 → Nat :=
  let c0_77 : Index := 0#32
  let c0_78 : Index := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  let v144 : BitVec 32 := v143
  let v145 : Index := Scalar.indexCast v144
  let c0_79 : Index := 0#32
  ![0, 0, v145.toNat, 0]
def k0_off15 (v1 : BitVec 32) (k0_t3 : Fin (k0_t3_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  let v144 : BitVec 32 := v143
  let v148 : Index := Scalar.indexCast v144
  let c0_80 : Index := 0#32
  ![v148.toNat, 0]
def k0_off16 (v1 : BitVec 32) (k0_t3 : Fin (k0_t3_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  let v144 : BitVec 32 := v143
  let v163 : Index := Scalar.indexCast v144
  let c0_86 : Index := 0#32
  ![v163.toNat, 0]
def k0_off17 (v1 : BitVec 32) (k0_t3 : Fin (k0_t3_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  let v144 : BitVec 32 := v143
  let v182 : Index := Scalar.indexCast v144
  let c256_92 : Index := 256#32
  ![v182.toNat, 256]
def k0_off18 (v1 : BitVec 32) (k0_t3 : Fin (k0_t3_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  let v144 : BitVec 32 := v143
  let v201 : Index := Scalar.indexCast v144
  let c512_98 : Index := 512#32
  ![v201.toNat, 512]
def k0_off19 (v1 : BitVec 32) (k0_t3 : Fin (k0_t3_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_23 : BitVec 32 := 1#32
  let arg14 : BitVec 32 := Scf.iv v18 c1_i32_23 k0_t3
  let c512_i32_76 : BitVec 32 := 512#32
  let v143 : BitVec 32 := Scalar.muli arg14 c512_i32_76
  let v144 : BitVec 32 := v143
  let v220 : Index := Scalar.indexCast v144
  let c768_104 : Index := 768#32
  ![v220.toNat, 768]
@[reducible] def k0_t4_loop (v1 : BitVec 32) : Scf.Loop 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let v53 : BitVec 32 := Scalar.addi v18 v52
  let c1_i32_24 : BitVec 32 := 1#32
  ⟨v56, v53, c1_i32_24⟩
def k0_mult4 (v1 : BitVec 32) (k0_t4 : Fin (k0_t4_loop v1).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  v143
def k0_off20 (v1 : BitVec 32) (k0_t4 : Fin (k0_t4_loop v1).trips) : Fin 4 → Nat :=
  let c0_77 : Index := 0#32
  let c0_78 : Index := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  let v144 : BitVec 32 := v143
  let v145 : Index := Scalar.indexCast v144
  let c0_79 : Index := 0#32
  ![0, 0, v145.toNat, 0]
def k0_off21 (v1 : BitVec 32) (k0_t4 : Fin (k0_t4_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  let v144 : BitVec 32 := v143
  let v148 : Index := Scalar.indexCast v144
  let c0_80 : Index := 0#32
  ![v148.toNat, 0]
def k0_off22 (v1 : BitVec 32) (k0_t4 : Fin (k0_t4_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  let v144 : BitVec 32 := v143
  let v163 : Index := Scalar.indexCast v144
  let c0_86 : Index := 0#32
  ![v163.toNat, 0]
def k0_off23 (v1 : BitVec 32) (k0_t4 : Fin (k0_t4_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  let v144 : BitVec 32 := v143
  let v182 : Index := Scalar.indexCast v144
  let c256_92 : Index := 256#32
  ![v182.toNat, 256]
def k0_off24 (v1 : BitVec 32) (k0_t4 : Fin (k0_t4_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  let v144 : BitVec 32 := v143
  let v201 : Index := Scalar.indexCast v144
  let c512_98 : Index := 512#32
  ![v201.toNat, 512]
def k0_off25 (v1 : BitVec 32) (k0_t4 : Fin (k0_t4_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v52 : BitVec 32 := Scalar.subi v37 v18
  let c1_i32_22 : BitVec 32 := 1#32
  let v54 : BitVec 32 := Scalar.divsi v52 c1_i32_22
  let v55 : BitVec 32 := Scalar.muli v54 c1_i32_22
  let v56 : BitVec 32 := Scalar.addi v18 v55
  let c1_i32_24 : BitVec 32 := 1#32
  let arg14 : BitVec 32 := Scf.iv v56 c1_i32_24 k0_t4
  let c512_i32_76 : BitVec 32 := 512#32
  let v143 : BitVec 32 := Scalar.muli arg14 c512_i32_76
  let v144 : BitVec 32 := v143
  let v220 : Index := Scalar.indexCast v144
  let c768_104 : Index := 768#32
  ![v220.toNat, 768]
@[reducible] def k0_t5_loop (v1 : BitVec 32) : Scf.Loop 32 :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_58 : BitVec 32 := 1#32
  ⟨c0_i32_56, v107, c1_i32_58⟩
def k0_mult5 (v1 : BitVec 32) (k0_t5 : Fin (k0_t5_loop v1).trips) : BitVec 32 :=
  let c0_i32_56 : BitVec 32 := 0#32
  let c1_i32_58 : BitVec 32 := 1#32
  let arg14 : BitVec 32 := Scf.iv c0_i32_56 c1_i32_58 k0_t5
  let c512_i32_76 : BitVec 32 := 512#32
  let v143 : BitVec 32 := Scalar.muli arg14 c512_i32_76
  v143
def k0_off26 (v1 : BitVec 32) (k0_t5 : Fin (k0_t5_loop v1).trips) : Fin 4 → Nat :=
  let c0_77 : Index := 0#32
  let c0_78 : Index := 0#32
  let c0_79 : Index := 0#32
  let c0_i32_56 : BitVec 32 := 0#32
  let c1_i32_58 : BitVec 32 := 1#32
  let arg14 : BitVec 32 := Scf.iv c0_i32_56 c1_i32_58 k0_t5
  let c512_i32_76 : BitVec 32 := 512#32
  let v143 : BitVec 32 := Scalar.muli arg14 c512_i32_76
  let v144 : BitVec 32 := v143
  let v145 : Index := Scalar.indexCast v144
  ![0, 0, 0, v145.toNat]
def k0_off27 (v1 : BitVec 32) (k0_t5 : Fin (k0_t5_loop v1).trips) : Fin 2 → Nat :=
  let c0_i32_56 : BitVec 32 := 0#32
  let c1_i32_58 : BitVec 32 := 1#32
  let arg14 : BitVec 32 := Scf.iv c0_i32_56 c1_i32_58 k0_t5
  let c512_i32_76 : BitVec 32 := 512#32
  let v143 : BitVec 32 := Scalar.muli arg14 c512_i32_76
  let v144 : BitVec 32 := v143
  let v148 : Index := Scalar.indexCast v144
  let c0_80 : Index := 0#32
  ![v148.toNat, 0]
def k0_off28 (v1 : BitVec 32) (k0_t5 : Fin (k0_t5_loop v1).trips) : Fin 2 → Nat :=
  let c0_i32_56 : BitVec 32 := 0#32
  let c1_i32_58 : BitVec 32 := 1#32
  let arg14 : BitVec 32 := Scf.iv c0_i32_56 c1_i32_58 k0_t5
  let c512_i32_76 : BitVec 32 := 512#32
  let v143 : BitVec 32 := Scalar.muli arg14 c512_i32_76
  let v144 : BitVec 32 := v143
  let v167 : Index := Scalar.indexCast v144
  let c256_88 : Index := 256#32
  ![v167.toNat, 256]
def k0_off29 (v1 : BitVec 32) (k0_t5 : Fin (k0_t5_loop v1).trips) : Fin 2 → Nat :=
  let c0_i32_56 : BitVec 32 := 0#32
  let c1_i32_58 : BitVec 32 := 1#32
  let arg14 : BitVec 32 := Scf.iv c0_i32_56 c1_i32_58 k0_t5
  let c512_i32_76 : BitVec 32 := 512#32
  let v143 : BitVec 32 := Scalar.muli arg14 c512_i32_76
  let v144 : BitVec 32 := v143
  let v186 : Index := Scalar.indexCast v144
  let c512_96 : Index := 512#32
  ![v186.toNat, 512]
def k0_off30 (v1 : BitVec 32) (k0_t5 : Fin (k0_t5_loop v1).trips) : Fin 2 → Nat :=
  let c0_i32_56 : BitVec 32 := 0#32
  let c1_i32_58 : BitVec 32 := 1#32
  let arg14 : BitVec 32 := Scf.iv c0_i32_56 c1_i32_58 k0_t5
  let c512_i32_76 : BitVec 32 := 512#32
  let v143 : BitVec 32 := Scalar.muli arg14 c512_i32_76
  let v144 : BitVec 32 := v143
  let v205 : Index := Scalar.indexCast v144
  let c768_104 : Index := 768#32
  ![v205.toNat, 768]
@[reducible] def k0_t6_loop (v1 : BitVec 32) : Scf.Loop 32 :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let v104 : BitVec 32 := Scalar.addi c0_i32_56 v103
  let c1_i32_59 : BitVec 32 := 1#32
  ⟨v107, v104, c1_i32_59⟩
def k0_mult6 (v1 : BitVec 32) (k0_t6 : Fin (k0_t6_loop v1).trips) : BitVec 32 :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_59 : BitVec 32 := 1#32
  let arg14 : BitVec 32 := Scf.iv v107 c1_i32_59 k0_t6
  let c512_i32_76 : BitVec 32 := 512#32
  let v143 : BitVec 32 := Scalar.muli arg14 c512_i32_76
  v143
def k0_off31 (v1 : BitVec 32) (k0_t6 : Fin (k0_t6_loop v1).trips) : Fin 4 → Nat :=
  let c0_77 : Index := 0#32
  let c0_78 : Index := 0#32
  let c0_79 : Index := 0#32
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_59 : BitVec 32 := 1#32
  let arg14 : BitVec 32 := Scf.iv v107 c1_i32_59 k0_t6
  let c512_i32_76 : BitVec 32 := 512#32
  let v143 : BitVec 32 := Scalar.muli arg14 c512_i32_76
  let v144 : BitVec 32 := v143
  let v145 : Index := Scalar.indexCast v144
  ![0, 0, 0, v145.toNat]
def k0_off32 (v1 : BitVec 32) (k0_t6 : Fin (k0_t6_loop v1).trips) : Fin 2 → Nat :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_59 : BitVec 32 := 1#32
  let arg14 : BitVec 32 := Scf.iv v107 c1_i32_59 k0_t6
  let c512_i32_76 : BitVec 32 := 512#32
  let v143 : BitVec 32 := Scalar.muli arg14 c512_i32_76
  let v144 : BitVec 32 := v143
  let v148 : Index := Scalar.indexCast v144
  let c0_80 : Index := 0#32
  ![v148.toNat, 0]
def k0_off33 (v1 : BitVec 32) (k0_t6 : Fin (k0_t6_loop v1).trips) : Fin 2 → Nat :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_59 : BitVec 32 := 1#32
  let arg14 : BitVec 32 := Scf.iv v107 c1_i32_59 k0_t6
  let c512_i32_76 : BitVec 32 := 512#32
  let v143 : BitVec 32 := Scalar.muli arg14 c512_i32_76
  let v144 : BitVec 32 := v143
  let v167 : Index := Scalar.indexCast v144
  let c256_88 : Index := 256#32
  ![v167.toNat, 256]
def k0_off34 (v1 : BitVec 32) (k0_t6 : Fin (k0_t6_loop v1).trips) : Fin 2 → Nat :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_59 : BitVec 32 := 1#32
  let arg14 : BitVec 32 := Scf.iv v107 c1_i32_59 k0_t6
  let c512_i32_76 : BitVec 32 := 512#32
  let v143 : BitVec 32 := Scalar.muli arg14 c512_i32_76
  let v144 : BitVec 32 := v143
  let v186 : Index := Scalar.indexCast v144
  let c512_96 : Index := 512#32
  ![v186.toNat, 512]
def k0_off35 (v1 : BitVec 32) (k0_t6 : Fin (k0_t6_loop v1).trips) : Fin 2 → Nat :=
  let c0_i32_56 : BitVec 32 := 0#32
  let c512_i32_4 : BitVec 32 := 512#32
  let v19 : BitVec 32 := Scalar.addi v1 c512_i32_4
  let c1_i32_5 : BitVec 32 := 1#32
  let v20 : BitVec 32 := Scalar.subi v19 c1_i32_5
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let v103 : BitVec 32 := Scalar.subi v37 c0_i32_56
  let c1_i32_57 : BitVec 32 := 1#32
  let v105 : BitVec 32 := Scalar.divsi v103 c1_i32_57
  let v106 : BitVec 32 := Scalar.muli v105 c1_i32_57
  let v107 : BitVec 32 := Scalar.addi c0_i32_56 v106
  let c1_i32_59 : BitVec 32 := 1#32
  let arg14 : BitVec 32 := Scf.iv v107 c1_i32_59 k0_t6
  let c512_i32_76 : BitVec 32 := 512#32
  let v143 : BitVec 32 := Scalar.muli arg14 c512_i32_76
  let v144 : BitVec 32 := v143
  let v205 : Index := Scalar.indexCast v144
  let c768_104 : Index := 768#32
  ![v205.toNat, 768]

def k0_chk1_0 (v1 : BitVec 32) : Prop :=
  ((k0_t1_loop v1).OK) ∧
  (∀ k0_t1 : Fin (k0_t1_loop v1).trips, 512 ∣ (k0_mult1 v1 k0_t1).toNat) ∧
  (∀ k0_t1 : Fin (k0_t1_loop v1).trips, ∀ a, (k0_off2 v1 k0_t1) a + S1x1x512x128.size a ≤ S1x1x8192x128.size a) ∧
  (∀ k0_t1 : Fin (k0_t1_loop v1).trips, ∀ a, (k0_off3 v1 k0_t1) a + S512x128.size a ≤ S8192x128.size a) ∧
  (∀ k0_t1 : Fin (k0_t1_loop v1).trips, ∀ a, (k0_off4 v1 k0_t1) a + S512x256.size a ≤ S8192x1024.size a) ∧
  (∀ k0_t1 : Fin (k0_t1_loop v1).trips, ∀ a, (k0_off5 v1 k0_t1) a + S512x256.size a ≤ S8192x1024.size a) ∧
  (∀ k0_t1 : Fin (k0_t1_loop v1).trips, ∀ a, (k0_off6 v1 k0_t1) a + S512x256.size a ≤ S8192x1024.size a) ∧
  (∀ k0_t1 : Fin (k0_t1_loop v1).trips, ∀ a, (k0_off7 v1 k0_t1) a + S512x256.size a ≤ S8192x1024.size a) ∧
  ((k0_t2_loop v1).OK) ∧
  (∀ k0_t2 : Fin (k0_t2_loop v1).trips, 512 ∣ (k0_mult2 v1 k0_t2).toNat) ∧
  (∀ k0_t2 : Fin (k0_t2_loop v1).trips, ∀ a, (k0_off8 v1 k0_t2) a + S1x1x512x128.size a ≤ S1x1x8192x128.size a) ∧
  (∀ k0_t2 : Fin (k0_t2_loop v1).trips, ∀ a, (k0_off9 v1 k0_t2) a + S512x128.size a ≤ S8192x128.size a) ∧
  (∀ k0_t2 : Fin (k0_t2_loop v1).trips, ∀ a, (k0_off10 v1 k0_t2) a + S512x256.size a ≤ S8192x1024.size a) ∧
  (∀ k0_t2 : Fin (k0_t2_loop v1).trips, ∀ a, (k0_off11 v1 k0_t2) a + S512x256.size a ≤ S8192x1024.size a) ∧
  (∀ k0_t2 : Fin (k0_t2_loop v1).trips, ∀ a, (k0_off12 v1 k0_t2) a + S512x256.size a ≤ S8192x1024.size a) ∧
  (∀ k0_t2 : Fin (k0_t2_loop v1).trips, ∀ a, (k0_off13 v1 k0_t2) a + S512x256.size a ≤ S8192x1024.size a) ∧
  ((k0_t3_loop v1).OK) ∧
  (∀ k0_t3 : Fin (k0_t3_loop v1).trips, 512 ∣ (k0_mult3 v1 k0_t3).toNat) ∧
  (∀ k0_t3 : Fin (k0_t3_loop v1).trips, ∀ a, (k0_off14 v1 k0_t3) a + S1x1x512x128.size a ≤ S1x1x8192x128.size a) ∧
  (∀ k0_t3 : Fin (k0_t3_loop v1).trips, ∀ a, (k0_off15 v1 k0_t3) a + S512x128.size a ≤ S8192x128.size a) ∧
  (∀ k0_t3 : Fin (k0_t3_loop v1).trips, ∀ a, (k0_off16 v1 k0_t3) a + S512x256.size a ≤ S8192x1024.size a) ∧
  (∀ k0_t3 : Fin (k0_t3_loop v1).trips, ∀ a, (k0_off17 v1 k0_t3) a + S512x256.size a ≤ S8192x1024.size a) ∧
  (∀ k0_t3 : Fin (k0_t3_loop v1).trips, ∀ a, (k0_off18 v1 k0_t3) a + S512x256.size a ≤ S8192x1024.size a) ∧
  (∀ k0_t3 : Fin (k0_t3_loop v1).trips, ∀ a, (k0_off19 v1 k0_t3) a + S512x256.size a ≤ S8192x1024.size a) ∧
  ((k0_t4_loop v1).OK) ∧
  (∀ k0_t4 : Fin (k0_t4_loop v1).trips, 512 ∣ (k0_mult4 v1 k0_t4).toNat) ∧
  (∀ k0_t4 : Fin (k0_t4_loop v1).trips, ∀ a, (k0_off20 v1 k0_t4) a + S1x1x512x128.size a ≤ S1x1x8192x128.size a) ∧
  (∀ k0_t4 : Fin (k0_t4_loop v1).trips, ∀ a, (k0_off21 v1 k0_t4) a + S512x128.size a ≤ S8192x128.size a) ∧
  (∀ k0_t4 : Fin (k0_t4_loop v1).trips, ∀ a, (k0_off22 v1 k0_t4) a + S512x256.size a ≤ S8192x1024.size a) ∧
  (∀ k0_t4 : Fin (k0_t4_loop v1).trips, ∀ a, (k0_off23 v1 k0_t4) a + S512x256.size a ≤ S8192x1024.size a) ∧
  (∀ k0_t4 : Fin (k0_t4_loop v1).trips, ∀ a, (k0_off24 v1 k0_t4) a + S512x256.size a ≤ S8192x1024.size a) ∧
  (∀ k0_t4 : Fin (k0_t4_loop v1).trips, ∀ a, (k0_off25 v1 k0_t4) a + S512x256.size a ≤ S8192x1024.size a)
def k0_chk1_1 (v1 : BitVec 32) : Prop :=
  ((k0_t5_loop v1).OK) ∧
  (∀ k0_t5 : Fin (k0_t5_loop v1).trips, 512 ∣ (k0_mult5 v1 k0_t5).toNat) ∧
  (∀ k0_t5 : Fin (k0_t5_loop v1).trips, ∀ a, (k0_off26 v1 k0_t5) a + S1x1x64x512.size a ≤ S1x1x64x8192.size a) ∧
  (∀ k0_t5 : Fin (k0_t5_loop v1).trips, ∀ a, (k0_off27 v1 k0_t5) a + S512x256.size a ≤ S8192x1024.size a) ∧
  (∀ k0_t5 : Fin (k0_t5_loop v1).trips, ∀ a, (k0_off28 v1 k0_t5) a + S512x256.size a ≤ S8192x1024.size a) ∧
  (∀ k0_t5 : Fin (k0_t5_loop v1).trips, ∀ a, (k0_off29 v1 k0_t5) a + S512x256.size a ≤ S8192x1024.size a) ∧
  (∀ k0_t5 : Fin (k0_t5_loop v1).trips, ∀ a, (k0_off30 v1 k0_t5) a + S512x256.size a ≤ S8192x1024.size a) ∧
  ((k0_t6_loop v1).OK) ∧
  (∀ k0_t6 : Fin (k0_t6_loop v1).trips, 512 ∣ (k0_mult6 v1 k0_t6).toNat) ∧
  (∀ k0_t6 : Fin (k0_t6_loop v1).trips, ∀ a, (k0_off31 v1 k0_t6) a + S1x1x64x512.size a ≤ S1x1x64x8192.size a) ∧
  (∀ k0_t6 : Fin (k0_t6_loop v1).trips, ∀ a, (k0_off32 v1 k0_t6) a + S512x256.size a ≤ S8192x1024.size a) ∧
  (∀ k0_t6 : Fin (k0_t6_loop v1).trips, ∀ a, (k0_off33 v1 k0_t6) a + S512x256.size a ≤ S8192x1024.size a) ∧
  (∀ k0_t6 : Fin (k0_t6_loop v1).trips, ∀ a, (k0_off34 v1 k0_t6) a + S512x256.size a ≤ S8192x1024.size a) ∧
  (∀ k0_t6 : Fin (k0_t6_loop v1).trips, ∀ a, (k0_off35 v1 k0_t6) a + S512x256.size a ≤ S8192x1024.size a)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 512 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x1x512x128.size a ≤ S1x1x8192x128.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S512x128.size a ≤ S8192x128.size a := fun v1 k0_hw1 k0_t1 => k0_hw1.1.2.2.2.1 k0_t1
theorem k0_off4_inb : ∀ (v1 : BitVec 32) (k0_hw1 : k0_chk1 v1) (k0_t1 : Fin (k0_t1_loop v1).trips), ∀ a, (k0_off4 v1 k0_t1) a + S512x256.size a ≤ S8192x1024.size a := fun v1 k0_hw1 k0_t1 => k0_hw1.1.2.2.2.2.1 k0_t1
theorem k0_off5_inb : ∀ (v1 : BitVec 32) (k0_hw1 : k0_chk1 v1) (k0_t1 : Fin (k0_t1_loop v1).trips), ∀ a, (k0_off5 v1 k0_t1) a + S512x256.size a ≤ S8192x1024.size a := fun v1 k0_hw1 k0_t1 => k0_hw1.1.2.2.2.2.2.1 k0_t1
theorem k0_off6_inb : ∀ (v1 : BitVec 32) (k0_hw1 : k0_chk1 v1) (k0_t1 : Fin (k0_t1_loop v1).trips), ∀ a, (k0_off6 v1 k0_t1) a + S512x256.size a ≤ S8192x1024.size a := fun v1 k0_hw1 k0_t1 => k0_hw1.1.2.2.2.2.2.2.1 k0_t1
theorem k0_off7_inb : ∀ (v1 : BitVec 32) (k0_hw1 : k0_chk1 v1) (k0_t1 : Fin (k0_t1_loop v1).trips), ∀ a, (k0_off7 v1 k0_t1) a + S512x256.size a ≤ S8192x1024.size a := fun v1 k0_hw1 k0_t1 => k0_hw1.1.2.2.2.2.2.2.2.1 k0_t1
theorem k0_t2_ok : ∀ (v1 : BitVec 32) (k0_hw1 : k0_chk1 v1), (k0_t2_loop v1).OK := fun v1 k0_hw1 => k0_hw1.1.2.2.2.2.2.2.2.2.1
theorem k0_mult2_dvd : ∀ (v1 : BitVec 32) (k0_hw1 : k0_chk1 v1) (k0_t2 : Fin (k0_t2_loop v1).trips), 512 ∣ (k0_mult2 v1 k0_t2).toNat := fun v1 k0_hw1 k0_t2 => k0_hw1.1.2.2.2.2.2.2.2.2.2.1 k0_t2
theorem k0_off8_inb : ∀ (v1 : BitVec 32) (k0_hw1 : k0_chk1 v1) (k0_t2 : Fin (k0_t2_loop v1).trips), ∀ a, (k0_off8 v1 k0_t2) a + S1x1x512x128.size a ≤ S1x1x8192x128.size a := fun v1 k0_hw1 k0_t2 => k0_hw1.1.2.2.2.2.2.2.2.2.2.2.1 k0_t2
theorem k0_off9_inb : ∀ (v1 : BitVec 32) (k0_hw1 : k0_chk1 v1) (k0_t2 : Fin (k0_t2_loop v1).trips), ∀ a, (k0_off9 v1 k0_t2) a + S512x128.size a ≤ S8192x128.size a := fun v1 k0_hw1 k0_t2 => k0_hw1.1.2.2.2.2.2.2.2.2.2.2.2.1 k0_t2
theorem k0_off10_inb : ∀ (v1 : BitVec 32) (k0_hw1 : k0_chk1 v1) (k0_t2 : Fin (k0_t2_loop v1).trips), ∀ a, (k0_off10 v1 k0_t2) a + S512x256.size a ≤ S8192x1024.size a := fun v1 k0_hw1 k0_t2 => k0_hw1.1.2.2.2.2.2.2.2.2.2.2.2.2.1 k0_t2
theorem k0_off11_inb : ∀ (v1 : BitVec 32) (k0_hw1 : k0_chk1 v1) (k0_t2 : Fin (k0_t2_loop v1).trips), ∀ a, (k0_off11 v1 k0_t2) a + S512x256.size a ≤ S8192x1024.size a := fun v1 k0_hw1 k0_t2 => k0_hw1.1.2.2.2.2.2.2.2.2.2.2.2.2.2.1 k0_t2
theorem k0_off12_inb : ∀ (v1 : BitVec 32) (k0_hw1 : k0_chk1 v1) (k0_t2 : Fin (k0_t2_loop v1).trips), ∀ a, (k0_off12 v1 k0_t2) a + S512x256.size a ≤ S8192x1024.size a := fun v1 k0_hw1 k0_t2 => k0_hw1.1.2.2.2.2.2.2.2.2.2.2.2.2.2.2.1 k0_t2
theorem k0_off13_inb : ∀ (v1 : BitVec 32) (k0_hw1 : k0_chk1 v1) (k0_t2 : Fin (k0_t2_loop v1).trips), ∀ a, (k0_off13 v1 k0_t2) a + S512x256.size a ≤ S8192x1024.size a := fun v1 k0_hw1 k0_t2 => k0_hw1.1.2.2.2.2.2.2.2.2.2.2.2.2.2.2.2.1 k0_t2
theorem k0_t3_ok : ∀ (v1 : BitVec 32) (k0_hw1 : k0_chk1 v1), (k0_t3_loop v1).OK := fun v1 k0_hw1 => k0_hw1.1.2.2.2.2.2.2.2.2.2.2.2.2.2.2.2.2.1
theorem k0_mult3_dvd : ∀ (v1 : BitVec 32) (k0_hw1 : k0_chk1 v1) (k0_t3 : Fin (k0_t3_loop v1).trips), 512 ∣ (k0_mult3 v1 k0_t3).toNat := fun v1 k0_hw1 k0_t3 => k0_hw1.1.2.2.2.2.2.2.2.2.2.2.2.2.2.2.2.2.2.1 k0_t3
theorem k0_off14_inb : ∀ (v1 : BitVec 32) (k0_hw1 : k0_chk1 v1) (k0_t3 : Fin (k0_t3_loop v1).trips), ∀ a, (k0_off14 v1 k0_t3) a + S1x1x512x128.size a ≤ S1x1x8192x128.size a := fun v1 k0_hw1 k0_t3 => k0_hw1.1.2.2.2.2.2.2.2.2.2.2.2.2.2.2.2.2.2.2.1 k0_t3
theorem k0_off15_inb : ∀ (v1 : BitVec 32) (k0_hw1 : k0_chk1 v1) (k0_t3 : Fin (k0_t3_loop v1).trips), ∀ a, (k0_off15 v1 k0_t3) a + S512x128.size a ≤ S8192x128.size a := fun v1 k0_hw1 k0_t3 => k0_hw1.1.2.2.2.2.2.2.2.2.2.2.2.2.2.2.2.2.2.2.2.1 k0_t3
theorem k0_off16_inb : ∀ (v1 : BitVec 32) (k0_hw1 : k0_chk1 v1) (k0_t3 : Fin (k0_t3_loop v1).trips), ∀ a, (k0_off16 v1 k0_t3) a + S512x256.size a ≤ S8192x1024.size a := fun v1 k0_hw1 k0_t3 => k0_hw1.1.2.2.2.2.2.2.2.2.2.2.2.2.2.2.2.2.2.2.2.2.1 k0_t3
theorem k0_off17_inb : ∀ (v1 : BitVec 32) (k0_hw1 : k0_chk1 v1) (k0_t3 : Fin (k0_t3_loop v1).trips), ∀ a, (k0_off17 v1 k0_t3) a + S512x256.size a ≤ S8192x1024.size a := fun v1 k0_hw1 k0_t3 => k0_hw1.1.2.2.2.2.2.2.2.2.2.2.2.2.2.2.2.2.2.2.2.2.2.1 k0_t3
theorem k0_off18_inb : ∀ (v1 : BitVec 32) (k0_hw1 : k0_chk1 v1) (k0_t3 : Fin (k0_t3_loop v1).trips), ∀ a, (k0_off18 v1 k0_t3) a + S512x256.size a ≤ S8192x1024.size a := fun v1 k0_hw1 k0_t3 => k0_hw1.1.2.2.2.2.2.2.2.2.2.2.2.2.2.2.2.2.2.2.2.2.2.2.1 k0_t3
theorem k0_off19_inb : ∀ (v1 : BitVec 32) (k0_hw1 : k0_chk1 v1) (k0_t3 : Fin (k0_t3_loop v1).trips), ∀ a, (k0_off19 v1 k0_t3) a + S512x256.size a ≤ S8192x1024.size a := fun v1 k0_hw1 k0_t3 => k0_hw1.1.2.2.2.2.2.2.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.1.2.2.2.2.2.2.2.2.2.2.2.2.2.2.2.2.2.2.2.2.2.2.2.2.1
theorem k0_mult4_dvd : ∀ (v1 : BitVec 32) (k0_hw1 : k0_chk1 v1) (k0_t4 : Fin (k0_t4_loop v1).trips), 512 ∣ (k0_mult4 v1 k0_t4).toNat := fun v1 k0_hw1 k0_t4 => k0_hw1.1.2.2.2.2.2.2.2.2.2.2.2.2.2.2.2.2.2.2.2.2.2.2.2.2.2.1 k0_t4
theorem k0_off20_inb : ∀ (v1 : BitVec 32) (k0_hw1 : k0_chk1 v1) (k0_t4 : Fin (k0_t4_loop v1).trips), ∀ a, (k0_off20 v1 k0_t4) a + S1x1x512x128.size a ≤ S1x1x8192x128.size a := fun v1 k0_hw1 k0_t4 => k0_hw1.1.2.2.2.2.2.2.2.2.2.2.2.2.2.2.2.2.2.2.2.2.2.2.2.2.2.2.1 k0_t4
theorem k0_off21_inb : ∀ (v1 : BitVec 32) (k0_hw1 : k0_chk1 v1) (k0_t4 : Fin (k0_t4_loop v1).trips), ∀ a, (k0_off21 v1 k0_t4) a + S512x128.size a ≤ S8192x128.size a := fun v1 k0_hw1 k0_t4 => k0_hw1.1.2.2.2.2.2.2.2.2.2.2.2.2.2.2.2.2.2.2.2.2.2.2.2.2.2.2.2.1 k0_t4
theorem k0_off22_inb : ∀ (v1 : BitVec 32) (k0_hw1 : k0_chk1 v1) (k0_t4 : Fin (k0_t4_loop v1).trips), ∀ a, (k0_off22 v1 k0_t4) a + S512x256.size a ≤ S8192x1024.size a := fun v1 k0_hw1 k0_t4 => k0_hw1.1.2.2.2.2.2.2.2.2.2.2.2.2.2.2.2.2.2.2.2.2.2.2.2.2.2.2.2.2.1 k0_t4
theorem k0_off23_inb : ∀ (v1 : BitVec 32) (k0_hw1 : k0_chk1 v1) (k0_t4 : Fin (k0_t4_loop v1).trips), ∀ a, (k0_off23 v1 k0_t4) a + S512x256.size a ≤ S8192x1024.size a := fun v1 k0_hw1 k0_t4 => k0_hw1.1.2.2.2.2.2.2.2.2.2.2.2.2.2.2.2.2.2.2.2.2.2.2.2.2.2.2.2.2.2.1 k0_t4
theorem k0_off24_inb : ∀ (v1 : BitVec 32) (k0_hw1 : k0_chk1 v1) (k0_t4 : Fin (k0_t4_loop v1).trips), ∀ a, (k0_off24 v1 k0_t4) a + S512x256.size a ≤ S8192x1024.size a := fun v1 k0_hw1 k0_t4 => k0_hw1.1.2.2.2.2.2.2.2.2.2.2.2.2.2.2.2.2.2.2.2.2.2.2.2.2.2.2.2.2.2.2.1 k0_t4
theorem k0_off25_inb : ∀ (v1 : BitVec 32) (k0_hw1 : k0_chk1 v1) (k0_t4 : Fin (k0_t4_loop v1).trips), ∀ a, (k0_off25 v1 k0_t4) a + S512x256.size a ≤ S8192x1024.size a := fun v1 k0_hw1 k0_t4 => k0_hw1.1.2.2.2.2.2.2.2.2.2.2.2.2.2.2.2.2.2.2.2.2.2.2.2.2.2.2.2.2.2.2.2 k0_t4
theorem k0_t5_ok : ∀ (v1 : BitVec 32) (k0_hw1 : k0_chk1 v1), (k0_t5_loop v1).OK := fun v1 k0_hw1 => k0_hw1.2.1
theorem k0_mult5_dvd : ∀ (v1 : BitVec 32) (k0_hw1 : k0_chk1 v1) (k0_t5 : Fin (k0_t5_loop v1).trips), 512 ∣ (k0_mult5 v1 k0_t5).toNat := fun v1 k0_hw1 k0_t5 => k0_hw1.2.2.1 k0_t5
theorem k0_off26_inb : ∀ (v1 : BitVec 32) (k0_hw1 : k0_chk1 v1) (k0_t5 : Fin (k0_t5_loop v1).trips), ∀ a, (k0_off26 v1 k0_t5) a + S1x1x64x512.size a ≤ S1x1x64x8192.size a := fun v1 k0_hw1 k0_t5 => k0_hw1.2.2.2.1 k0_t5
theorem k0_off27_inb : ∀ (v1 : BitVec 32) (k0_hw1 : k0_chk1 v1) (k0_t5 : Fin (k0_t5_loop v1).trips), ∀ a, (k0_off27 v1 k0_t5) a + S512x256.size a ≤ S8192x1024.size a := fun v1 k0_hw1 k0_t5 => k0_hw1.2.2.2.2.1 k0_t5
theorem k0_off28_inb : ∀ (v1 : BitVec 32) (k0_hw1 : k0_chk1 v1) (k0_t5 : Fin (k0_t5_loop v1).trips), ∀ a, (k0_off28 v1 k0_t5) a + S512x256.size a ≤ S8192x1024.size a := fun v1 k0_hw1 k0_t5 => k0_hw1.2.2.2.2.2.1 k0_t5
theorem k0_off29_inb : ∀ (v1 : BitVec 32) (k0_hw1 : k0_chk1 v1) (k0_t5 : Fin (k0_t5_loop v1).trips), ∀ a, (k0_off29 v1 k0_t5) a + S512x256.size a ≤ S8192x1024.size a := fun v1 k0_hw1 k0_t5 => k0_hw1.2.2.2.2.2.2.1 k0_t5
theorem k0_off30_inb : ∀ (v1 : BitVec 32) (k0_hw1 : k0_chk1 v1) (k0_t5 : Fin (k0_t5_loop v1).trips), ∀ a, (k0_off30 v1 k0_t5) a + S512x256.size a ≤ S8192x1024.size a := fun v1 k0_hw1 k0_t5 => k0_hw1.2.2.2.2.2.2.2.1 k0_t5
theorem k0_t6_ok : ∀ (v1 : BitVec 32) (k0_hw1 : k0_chk1 v1), (k0_t6_loop v1).OK := fun v1 k0_hw1 => k0_hw1.2.2.2.2.2.2.2.2.1
theorem k0_mult6_dvd : ∀ (v1 : BitVec 32) (k0_hw1 : k0_chk1 v1) (k0_t6 : Fin (k0_t6_loop v1).trips), 512 ∣ (k0_mult6 v1 k0_t6).toNat := fun v1 k0_hw1 k0_t6 => k0_hw1.2.2.2.2.2.2.2.2.2.1 k0_t6
theorem k0_off31_inb : ∀ (v1 : BitVec 32) (k0_hw1 : k0_chk1 v1) (k0_t6 : Fin (k0_t6_loop v1).trips), ∀ a, (k0_off31 v1 k0_t6) a + S1x1x64x512.size a ≤ S1x1x64x8192.size a := fun v1 k0_hw1 k0_t6 => k0_hw1.2.2.2.2.2.2.2.2.2.2.1 k0_t6
theorem k0_off32_inb : ∀ (v1 : BitVec 32) (k0_hw1 : k0_chk1 v1) (k0_t6 : Fin (k0_t6_loop v1).trips), ∀ a, (k0_off32 v1 k0_t6) a + S512x256.size a ≤ S8192x1024.size a := fun v1 k0_hw1 k0_t6 => k0_hw1.2.2.2.2.2.2.2.2.2.2.2.1 k0_t6
theorem k0_off33_inb : ∀ (v1 : BitVec 32) (k0_hw1 : k0_chk1 v1) (k0_t6 : Fin (k0_t6_loop v1).trips), ∀ a, (k0_off33 v1 k0_t6) a + S512x256.size a ≤ S8192x1024.size a := fun v1 k0_hw1 k0_t6 => k0_hw1.2.2.2.2.2.2.2.2.2.2.2.2.1 k0_t6
theorem k0_off34_inb : ∀ (v1 : BitVec 32) (k0_hw1 : k0_chk1 v1) (k0_t6 : Fin (k0_t6_loop v1).trips), ∀ a, (k0_off34 v1 k0_t6) a + S512x256.size a ≤ S8192x1024.size a := fun v1 k0_hw1 k0_t6 => k0_hw1.2.2.2.2.2.2.2.2.2.2.2.2.2.1 k0_t6
theorem k0_off35_inb : ∀ (v1 : BitVec 32) (k0_hw1 : k0_chk1 v1) (k0_t6 : Fin (k0_t6_loop v1).trips), ∀ a, (k0_off35 v1 k0_t6) a + S512x256.size a ≤ S8192x1024.size a := fun v1 k0_hw1 k0_t6 => k0_hw1.2.2.2.2.2.2.2.2.2.2.2.2.2.2 k0_t6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnIdeal.lean ====
variable {F : FTy → Type} [FloatOps F] [Named F]
def κ : String → Option EReal := fun
  | "log2e_inv_sqrt_d" => some (((Real.log 2)⁻¹ * (1 / 8) : ℝ) : EReal)
  | _ => none
-- ==== ReferenceIdeal.lean ====
abbrev S4 : Shape := ⟨1, ![4]⟩
abbrev S4x2048x8192 : Shape := ⟨3, ![4, 2048, 8192]⟩
abbrev S4x8x4x8192 : Shape := ⟨4, ![4, 8, 4, 8192]⟩
abbrev S4x8x8192x128 : Shape := ⟨4, ![4, 8, 8192, 128]⟩
abbrev S4x8x1x8192 : Shape := ⟨4, ![4, 8, 1, 8192]⟩
abbrev S4x8x64x8192 : Shape := ⟨4, ![4, 8, 64, 8192]⟩
abbrev S4x8x64x128 : Shape := ⟨4, ![4, 8, 64, 128]⟩
abbrev S4x8192x2048 : Shape := ⟨3, ![4, 8192, 2048]⟩
abbrev S4x8x4x64x8192 : Shape := ⟨5, ![4, 8, 4, 64, 8192]⟩
abbrev S4x8x8192x64 : Shape := ⟨4, ![4, 8, 8192, 64]⟩
abbrev S4x8x64x1 : Shape := ⟨4, ![4, 8, 64, 1]⟩
abbrev S4x8x64 : Shape := ⟨3, ![4, 8, 64]⟩
abbrev S4x8x4x8192x8192 : Shape := ⟨5, ![4, 8, 4, 8192, 8192]⟩
abbrev S4x8x4x8192x1 : Shape := ⟨5, ![4, 8, 4, 8192, 1]⟩
abbrev S4x8x1x1x8192 : Shape := ⟨5, ![4, 8, 1, 1, 8192]⟩
abbrev S1 : Shape := ⟨1, ![1]⟩
abbrev S4x8x4x8192x64 : Shape := ⟨5, ![4, 8, 4, 8192, 64]⟩
abbrev S4x8x1x1x64 : Shape := ⟨5, ![4, 8, 1, 1, 64]⟩
abbrev S4x8192x8x4x64 : Shape := ⟨5, ![4, 8192, 8, 4, 64]⟩

abbrev nBuf : Space → Nat
  | .hbm => 8
  | .vmem => 7
  | .smem => 1
  | _ => 0

abbrev bufTy : (tb : Table) → Fin (tcTables nBuf tb) → BufTy
  | .hbm, ⟨0, _⟩ => ⟨S4, .i32⟩
  | .hbm, ⟨1, _⟩ => ⟨S4x2048x8192, .fp8e4m3⟩
  | .hbm, ⟨2, _⟩ => ⟨S4x8x4x8192, .f32⟩
  | .hbm, ⟨3, _⟩ => ⟨S4x8x8192x128, .fp8e4m3⟩
  | .hbm, ⟨4, _⟩ => ⟨S4x8x1x8192, .f32⟩
  | .hbm, ⟨5, _⟩ => ⟨S4x8x64x8192, .fp8e4m3⟩
  | .hbm, ⟨6, _⟩ => ⟨S4x8x64x128, .f32⟩
  | .hbm, ⟨7, _⟩ => ⟨S4x8192x2048, .bf16⟩
  | .local _ .vmem, ⟨0, _⟩ => ⟨S4x2048x8192, .fp8e4m3⟩
  | .local _ .vmem, ⟨1, _⟩ => ⟨S4x8x4x8192, .f32⟩
  | .local _ .vmem, ⟨2, _⟩ => ⟨S4x8x8192x128, .fp8e4m3⟩
  | .local _ .vmem, ⟨3, _⟩ => ⟨S4x8x1x8192, .f32⟩
  | .local _ .vmem, ⟨4, _⟩ => ⟨S4x8x64x8192, .fp8e4m3⟩
  | .local _ .vmem, ⟨5, _⟩ => ⟨S4x8x64x128, .f32⟩
  | .local _ .vmem, ⟨6, _⟩ => ⟨S4x8192x2048, .bf16⟩
  | .local _ .smem, ⟨0, _⟩ => ⟨S4, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x4x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x8192x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8x64x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Attn.Points.lean ====
/- When each window of the attention call is fetched and written back, and the body at a grid point. -/
module

public import proofs.«01_k».proof.Proof.Gen.Attn
public import Idealize.ShloMosaic.Lib.Pipeline.Kit

@[expose] public section

noncomputable section

namespace Cert.Attn.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 2 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 3 (fun _ => rfl) (by decide)) (P := 1) (by decide) t).mpr (Nat.mod_one _) : ∀ t : Fin grid0.N, Pipeline.Window.fetchOf grid0 false cc0_transform_1 t = true)
/-- Window 2 (operand 3 (%arg3)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 1 (by decide) (by decide) (Pipeline.Window.sep_of_coord cc0_transform_2 1 1 (fun _ => rfl) (by decide)) (P := 32) (by decide) t : ∀ t : Fin grid0.N, Pipeline.Window.fetchOf grid0 false cc0_transform_2 t = true ↔ t.val % 32 = 0)
/-- Window 3 (operand 4 (%arg4)) is fetched at the points ≡ 0 (mod 32), at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_reads cc0_transform_3 reads0_3 hreads0_3 1 (by decide) (by decide) (Pipeline.Window.sep_of_coord cc0_transform_3 1 1 (fun _ => rfl) (by decide)) (P := 32) (by decide) t : ∀ t : Fin grid0.N, Pipeline.Window.fetchOf grid0 false cc0_transform_3 t = true ↔ t.val % 32 = 0)
/-- Window 4 (operand 5 (%arg5)) is fetched at the points ≡ 0 (mod 32), at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_reads cc0_transform_4 reads0_4 hreads0_4 1 (by decide) (by decide) (Pipeline.Window.sep_of_coord cc0_transform_4 1 1 (fun _ => rfl) (by decide)) (P := 32) (by decide) t : ∀ t : Fin grid0.N, Pipeline.Window.fetchOf grid0 false cc0_transform_4 t = true ↔ t.val % 32 = 0)
/-- Window 5 (operand 6 (%arg6)) is fetched at the points ≡ 0 (mod 32), at any contents of the tables (its index map reads none). -/
theorem fetch0_5 (a : (pcfg0 (F := F)).Adm) : ∀ t : Fin (cfg0 a).N, ((cfg0 a).win 5).fetch t = true ↔ t.val % 32 = 0 :=
  (fun t => Pipeline.Window.fetchOf_reads cc0_transform_5 reads0_5 hreads0_5 1 (by decide) (by decide) (Pipeline.Window.sep_of_coord cc0_transform_5 1 1 (fun _ => rfl) (by decide)) (P := 32) (by decide) t : ∀ t : Fin grid0.N, Pipeline.Window.fetchOf grid0 false cc0_transform_5 t = true ↔ t.val % 32 = 0)
/-- Window 6 (result 0 (%0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 2 (by decide) (by decide) (Pipeline.Window.sep_of_coord cc0_transform_6 2 1 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

end Cert.Attn.Gen

end
-- ==== Proof.Attn.Runs.lean ====
/- What the runs of the attention call share: the region entered as launched, the prefetched table, the windows' blocks,
   the staging and scratch memrefs, the branch condition and the assumed side condition. -/
module

public import proofs.«01_k».proof.Proof.Gen.Attn.Launch
public import proofs.«01_k».proof.Proof.Gen.Attn.Skeleton
public import proofs.«01_k».proof.Proof.Gen.Attn.Loops
public import proofs.«01_k».proof.Proof.Attn.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 at the start of the call is what the launch gave. -/
theorem V_main_arg0 (c : Dev nD) : V m c main_arg0 = m ((c : Thread nD τ).loc main_arg0) := rfl
/-- Argument 1 at the start of the call is what the launch gave. -/
theorem V_main_arg1 (c : Dev nD) : V m c main_arg1 = m ((c : Thread nD τ).loc main_arg1) := rfl
/-- Argument 2 at the start of the call is what the launch gave. -/
theorem V_main_arg2 (c : Dev nD) : V m c main_arg2 = m ((c : Thread nD τ).loc main_arg2) := rfl
/-- Argument 3 at the start of the call is what the launch gave. -/
theorem V_main_arg3 (c : Dev nD) : V m c main_arg3 = m ((c : Thread nD τ).loc main_arg3) := rfl
/-- Argument 4 at the start of the call is what the launch gave. -/
theorem V_main_arg4 (c : Dev nD) : V m c main_arg4 = m ((c : Thread nD τ).loc main_arg4) := rfl
/-- Argument 5 at the start of the call is what the launch gave. -/
theorem V_main_arg5 (c : Dev nD) : V m c main_arg5 = m ((c : Thread nD τ).loc main_arg5) := rfl
/-- Argument 6 at the start of the call is what the launch gave. -/
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Idealize Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Idealize Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Attn`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 32) — by arithmetic of the point. -/
theorem hcond0_0 : ∀ t : Fin grid0.N, cond0_0 (grid0.coords t) ↔ t.val % 32 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 32 % 8 := Pipeline.Grid.coords_val t 1 (by decide) rfl
    have e2 : (grid0.coords t 2).val = t.val / 1 % 32 := Pipeline.Grid.coords_val t 2 (by decide) rfl
    simp only [cond0_0, e0, e1, e2]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x256 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x8192x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x8192 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x64x8192 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x64x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x256 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))
variable {m} in
/-- The assumption at one point of the grid. -/
theorem Hyps.c0 {hO : Ok m} (hH : Hyps m hO) (c : Dev nD) (t : Fin (cfgM m hO).N) :
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos))) := (hH c t)
variable {m} in
/-- The assumption at all points from the assumption at each. -/
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S8192x128 .f32 := Memref.whole cc0_scratch0
abbrev scM0_1 : Memref sig .tc .vmem S8192x1024 .f32 := Memref.whole cc0_scratch1
abbrev scM0_2 : Memref sig .tc .vmem S64x1024 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Attn.Gen

end
-- ==== Proof.Attn.RunA.lean ====
/- The body of the attention call at the first query tile of a head (the key scales are spread into scratch). -/
module

public import proofs.«01_k».proof.Proof.Attn.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE A (`scf.if` 0 taken: points 0, 32, … 992: 32 of 1024): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (hc0 : cond0_0 i)
    (x0 : Vec F S1x256x256 .fp8e4m3) (x1 : Vec F S1x1x4x256 .f32) (x2 : Vec F S1x1x8192x128 .fp8e4m3) (x3 : Vec F S1x1x1x8192 .f32) (x4 : Vec F S1x1x64x8192 .fp8e4m3) (x5 : Vec F S1x1x64x128 .f32) (xt0 : TbBuf0 (F := F) c tbM0_0) (k0_hw1 : k0_chk1 (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9 arg10 harg10 arg11 harg11 arg12 harg12 arg13 harg13) K := by
    intro E K
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.Attn.Gen

end
-- ==== Proof.Attn.RunB.lean ====
/- The body of the attention call at every later query tile of a head. -/
module

public import proofs.«01_k».proof.Proof.Attn.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken: points 1, 2, … 1023: 992 of 1024): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (hc0 : ¬cond0_0 i)
    (x0 : Vec F S1x256x256 .fp8e4m3) (x1 : Vec F S1x1x4x256 .f32) (x2 : Vec F S1x1x8192x128 .fp8e4m3) (x3 : Vec F S1x1x1x8192 .f32) (x4 : Vec F S1x1x64x8192 .fp8e4m3) (x5 : Vec F S1x1x64x128 .f32) (xt0 : TbBuf0 (F := F) c tbM0_0) (k0_hw1 : k0_chk1 (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9 arg10 harg10 arg11 harg11 arg12 harg12 arg13 harg13) K := by
    intro E K
    simp only [cc0_attn_eq_skeleton]; unfold cc0_attn_skel
    simp only [k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.Attn.Gen

end
-- ==== Proof.Attn.Frame.lean ====
/- The frame of the attention call: it runs, leaves its arguments as they were and its counters at zero. -/
module

public import proofs.«01_k».proof.Proof.Attn.RunA
public import proofs.«01_k».proof.Proof.Attn.RunB
public import Idealize.ShloMosaic.Lib.Claim

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Idealize Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
/-- What window 1 holds after a point of the grid. -/
theorem after0_1 (hO : Ok m) (hH : Hyps m hO) (c : Dev nD) (t : Fin (cfgM m hO).N) : (dats m hO hH 0 c).after 1 t = iblk m hO c 1 t := by dsimp only [dats]; try rfl
/-- What window 2 holds after a point of the grid. -/
theorem after0_2 (hO : Ok m) (hH : Hyps m hO) (c : Dev nD) (t : Fin (cfgM m hO).N) : (dats m hO hH 0 c).after 2 t = iblk m hO c 2 t := by dsimp only [dats]; try rfl
/-- What window 3 holds after a point of the grid. -/
theorem after0_3 (hO : Ok m) (hH : Hyps m hO) (c : Dev nD) (t : Fin (cfgM m hO).N) : (dats m hO hH 0 c).after 3 t = iblk m hO c 3 t := by dsimp only [dats]; try rfl
/-- What window 4 holds after a point of the grid. -/
theorem after0_4 (hO : Ok m) (hH : Hyps m hO) (c : Dev nD) (t : Fin (cfgM m hO).N) : (dats m hO hH 0 c).after 4 t = iblk m hO c 4 t := by dsimp only [dats]; try rfl
/-- What window 5 holds after a point of the grid. -/
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- What window 1 holds before a point of the grid. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- What window 2 holds before a point of the grid. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- What window 3 holds before a point of the grid. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- What window 4 holds before a point of the grid. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
/-- What window 5 holds before a point of the grid. -/
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  have hN : t.val < 1024 := lt_of_lt_of_eq t.isLt (show (cfgM m hO).N = 1024 from N_0)
  by_cases h0 : t.val % 32 = 0
  · iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HT0]; · iexact HT0
    iintro ⟨H0, H1, H2, H3, H4, H5, H6, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HT0]; · iexact HT0
    iintro ⟨H0, H1, H2, H3, H4, H5, H6, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Idealize Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_Attn`'s statement (Defs.lean) at any `F` — Proof.lean cites it at `Bits`:
    `theorem Cert.Proof.claim : Cert.Claim := ⟨Cert.Attn.Gen.facts, fun m ρ _ => Cert.Attn.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Attn.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Attn.Gen

end
-- ==== Proof.Words.lean ====
/- The words the attention call computes from a row's length: the number of whole 512-row chunks of
   keys and the number of chunks in all. -/
module

public import Idealize.ShloMosaic.Lib.Tactic
public import Idealize.ShloMosaic.Lib.LoopRemainder
public import Idealize.ShloMosaic.Lib.Routing.Words

@[expose] public section

namespace Cert.Words

open Idealize.ShloMosaic

/-- The word of a small natural number read signed. -/
theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- The printed floor division by 512: the quotient rounded towards zero, less one where the signs
    differ and the remainder is not zero. -/
def floor512 (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)

/-- On the word of a natural number the printed floor division is the division of naturals. -/
theorem floor512_ofNat {n : ℕ} (h : n < 2 ^ 31) : floor512 (BitVec.ofNat 32 n) = BitVec.ofNat 32 (n / 512) := by
  have hd : Scalar.divsi (BitVec.ofNat 32 n) 512#32 = BitVec.ofNat 32 (n / 512) :=
    Routing.divsi_word .scalar h (by decide) (by decide)
  have hr : Scalar.remsi (BitVec.ofNat 32 n) 512#32 = BitVec.ofNat 32 (n % 512) :=
    Routing.remsi_word .scalar h (by decide) (by decide)
  unfold floor512
  rw [hd, hr]
  rcases Nat.eq_zero_or_pos n with rfl | hn
  · decide
  · have h1 : Scalar.cmpi .sgt (BitVec.ofNat 32 n) 0#32 = 1#1 := by
      unfold Scalar.cmpi IntOp.cmpi
      simp only [BitVec.slt, toInt_ofNat h]
      rw [show (0#32 : BitVec 32).toInt = 0 from rfl, decide_eq_true (by omega)]; rfl
    have h2 : Scalar.cmpi .slt (BitVec.ofNat 32 n) 0#32 = 0#1 := by
      unfold Scalar.cmpi IntOp.cmpi
      simp only [BitVec.slt, toInt_ofNat h]
      rw [show (0#32 : BitVec 32).toInt = 0 from rfl, decide_eq_false (by omega)]; rfl
    rw [h1, h2]
    have h3 : Scalar.cmpi .ne
        (Scalar.subi (Scalar.extui 1#1) (Scalar.extui 0#1))
        (Scalar.subi (Scalar.extui (Scalar.cmpi .sgt 512#32 0#32)) (Scalar.extui (Scalar.cmpi .slt 512#32 0#32))) = 0#1 := by decide
    rw [h3]
    have h4 (y : BitVec 1) : Scalar.andi 0#1 y = 0#1 := BitVec.zero_and
    rw [h4]; rfl

/-- From zero up to a word by steps of one, as the loops print the bound. -/
theorem bound_zero (x : BitVec 32) :
    Scalar.addi 0#32 (Scalar.muli (Scalar.divsi (Scalar.subi x 0#32) 1#32) 1#32) = x := by
  rw [Scalar.muli_divsi_one]; unfold Scalar.addi Scalar.subi IntOp.addi IntOp.subi; simp

/-- From one word up to another by steps of one, as the loops print the bound. -/
theorem bound_from (a x : BitVec 32) :
    Scalar.addi a (Scalar.muli (Scalar.divsi (Scalar.subi x a) 1#32) 1#32) = x := by
  rw [Scalar.muli_divsi_one]; unfold Scalar.addi Scalar.subi IntOp.addi IntOp.subi
  rw [BitVec.add_comm, BitVec.sub_add_cancel]

/-- The word the chunk count divides: the length plus 511. -/
theorem round_up {n : ℕ} : Scalar.subi (Scalar.addi (BitVec.ofNat 32 n) 512#32) 1#32 = BitVec.ofNat 32 (n + 511) := by
  unfold Scalar.addi Scalar.subi IntOp.addi IntOp.subi
  apply BitVec.eq_of_toNat_eq; simp; omega

/-- The trips of a loop by ones between two small natural numbers. -/
theorem trips_ofNat {a b : ℕ} (ha : a < 2 ^ 31) (hb : b < 2 ^ 31) :
    Scf.trips (BitVec.ofNat 32 a) (BitVec.ofNat 32 b) 1#32 = b - a := by
  unfold Scf.trips
  rw [toInt_ofNat ha, toInt_ofNat hb, show (1#32 : BitVec 32).toInt = 1 from rfl]; omega

/-- A loop by ones between two small natural numbers in order means something. -/
theorem ok_ofNat {a b : ℕ} (hab : a ≤ b) (hb : b < 2 ^ 31) :
    Scf.OK (BitVec.ofNat 32 a) (BitVec.ofNat 32 b) 1#32 := by
  refine ⟨by decide, ?_⟩
  rw [trips_ofNat (by omega) hb, toInt_ofNat (by omega), show (1#32 : BitVec 32).toInt = 1 from rfl];
  norm_num; omega

/-- The first row of trip `k`'s chunk. -/
theorem row_ofNat {a k : ℕ} (h : a + k < 2 ^ 20) :
    (Scalar.indexCast (Scalar.muli (Scf.iv (BitVec.ofNat 32 a) 1#32 k) 512#32)).toNat = 512 * (a + k) := by
  unfold Scf.iv Scalar.muli IntOp.muli Scalar.indexCast
  simp
  omega

end Cert.Words
-- ==== Proof.Attn.Len.lean ====
/- The loops of the attention call at a row length between 0 and 8192: how many trips they make, which rows a
   trip reads and writes, and the check the call states about the length word. -/
module

public import proofs.«01_k».proof.Proof.Gen.Attn.Skeleton
public import proofs.«01_k».proof.Proof.Words

@[expose] public section

set_option maxRecDepth 16384

namespace Cert.Attn.Len

open Idealize.ShloMosaic Cert.Words
open Cert.Attn Cert.Attn.Gen

/-- The whole-chunk loop runs over the chunks that the length fills. -/
theorem t1_loop {n : ℕ} (h : n ≤ 8192) : k0_t1_loop (BitVec.ofNat 32 n) = ⟨0#32, BitVec.ofNat 32 (n / 512), 1#32⟩ := by
  show (⟨0#32, Scalar.addi 0#32 (Scalar.muli (Scalar.divsi (Scalar.subi (floor512 (BitVec.ofNat 32 n)) 0#32) 1#32) 1#32), 1#32⟩ : Scf.Loop 32) = _
  rw [bound_zero, floor512_ofNat (by omega)]

/-- The masked loop runs over the chunk that the length fills in part, if there is one. -/
theorem t3_loop {n : ℕ} (h : n ≤ 8192) :
    k0_t3_loop (BitVec.ofNat 32 n) = ⟨BitVec.ofNat 32 (n / 512), BitVec.ofNat 32 ((n + 511) / 512), 1#32⟩ := by
  show (⟨floor512 (BitVec.ofNat 32 n), Scalar.addi (floor512 (BitVec.ofNat 32 n)) (Scalar.muli (Scalar.divsi (Scalar.subi (floor512 (Scalar.subi (Scalar.addi (BitVec.ofNat 32 n) 512#32) 1#32)) (floor512 (BitVec.ofNat 32 n))) 1#32) 1#32), 1#32⟩ : Scf.Loop 32) = _
  rw [bound_from, round_up, floor512_ofNat (by omega), floor512_ofNat (by omega)]

/-- The weighting loop runs over all chunks. -/
theorem t5_loop {n : ℕ} (h : n ≤ 8192) : k0_t5_loop (BitVec.ofNat 32 n) = ⟨0#32, BitVec.ofNat 32 ((n + 511) / 512), 1#32⟩ := by
  show (⟨0#32, Scalar.addi 0#32 (Scalar.muli (Scalar.divsi (Scalar.subi (floor512 (Scalar.subi (Scalar.addi (BitVec.ofNat 32 n) 512#32) 1#32)) 0#32) 1#32) 1#32), 1#32⟩ : Scf.Loop 32) = _
  rw [bound_zero, round_up, floor512_ofNat (by omega)]

/-- Trips of the whole-chunk loop. -/
theorem t1_trips {n : ℕ} (h : n ≤ 8192) : (k0_t1_loop (BitVec.ofNat 32 n)).trips = n / 512 := by
  rw [t1_loop h]; exact (trips_ofNat (a := 0) (by omega) (by omega)).trans (Nat.sub_zero _)

/-- Trips of the masked loop. -/
theorem t3_trips {n : ℕ} (h : n ≤ 8192) : (k0_t3_loop (BitVec.ofNat 32 n)).trips = (n + 511) / 512 - n / 512 := by
  rw [t3_loop h]; exact trips_ofNat (by omega) (by omega)

/-- Trips of the weighting loop. -/
theorem t5_trips {n : ℕ} (h : n ≤ 8192) : (k0_t5_loop (BitVec.ofNat 32 n)).trips = (n + 511) / 512 := by
  rw [t5_loop h]; exact (trips_ofNat (a := 0) (by omega) (by omega)).trans (Nat.sub_zero _)

/-- The loop of the steps left over by a step of one makes no trip. -/
theorem t2_trips (v : BitVec 32) : (k0_t2_loop v).trips = 0 := Scf.rem_trips _ _
/-- The loop of the steps left over by a step of one makes no trip. -/
theorem t4_trips (v : BitVec 32) : (k0_t4_loop v).trips = 0 := Scf.rem_trips _ _
/-- The loop of the steps left over by a step of one makes no trip. -/
theorem t6_trips (v : BitVec 32) : (k0_t6_loop v).trips = 0 := Scf.rem_trips _ _

/-- A trip of the whole-chunk loop lies below the length's whole chunks. -/
theorem t1_lt {n : ℕ} (h : n ≤ 8192) (k : Fin (k0_t1_loop (BitVec.ofNat 32 n)).trips) : k.val < n / 512 :=
  lt_of_lt_of_eq k.isLt (t1_trips h)
/-- A trip of the masked loop: its chunk lies below the number of chunks. -/
theorem t3_lt {n : ℕ} (h : n ≤ 8192) (k : Fin (k0_t3_loop (BitVec.ofNat 32 n)).trips) : n / 512 + k.val < (n + 511) / 512 := by
  have := lt_of_lt_of_eq k.isLt (t3_trips h); omega
/-- A trip of the weighting loop lies below the number of chunks. -/
theorem t5_lt {n : ℕ} (h : n ≤ 8192) (k : Fin (k0_t5_loop (BitVec.ofNat 32 n)).trips) : k.val < (n + 511) / 512 :=
  lt_of_lt_of_eq k.isLt (t5_trips h)

/-- The printed lower bound of the masked loop is the number of whole chunks. -/
theorem t3_lb {n : ℕ} (h : n ≤ 8192) : floor512 (BitVec.ofNat 32 n) = BitVec.ofNat 32 (n / 512) := floor512_ofNat (by omega)

/-- Where a trip's access `k0_off2` starts. -/
theorem off2_eq {n : ℕ} (h : n ≤ 8192) (k : Fin (k0_t1_loop (BitVec.ofNat 32 n)).trips) :
    k0_off2 (BitVec.ofNat 32 n) k = ![0, 0, 512 * (k.val), 0] := by
  have hk := t1_lt h k
  show (![0, 0, (Scalar.indexCast (Scalar.muli (Scf.iv (0#32) 1#32 k.val) 512#32)).toNat, 0] : Fin 4 → ℕ) = _
  rw [row_ofNat (a := 0) (by omega), Nat.zero_add]

/-- Where a trip's access `k0_off3` starts. -/
theorem off3_eq {n : ℕ} (h : n ≤ 8192) (k : Fin (k0_t1_loop (BitVec.ofNat 32 n)).trips) :
    k0_off3 (BitVec.ofNat 32 n) k = ![512 * (k.val), 0] := by
  have hk := t1_lt h k
  show (![(Scalar.indexCast (Scalar.muli (Scf.iv (0#32) 1#32 k.val) 512#32)).toNat, 0] : Fin 2 → ℕ) = _
  rw [row_ofNat (a := 0) (by omega), Nat.zero_add]

/-- Where a trip's access `k0_off4` starts. -/
theorem off4_eq {n : ℕ} (h : n ≤ 8192) (k : Fin (k0_t1_loop (BitVec.ofNat 32 n)).trips) :
    k0_off4 (BitVec.ofNat 32 n) k = ![512 * (k.val), 0] := by
  have hk := t1_lt h k
  show (![(Scalar.indexCast (Scalar.muli (Scf.iv (0#32) 1#32 k.val) 512#32)).toNat, 0] : Fin 2 → ℕ) = _
  rw [row_ofNat (a := 0) (by omega), Nat.zero_add]

/-- Where a trip's access `k0_off5` starts. -/
theorem off5_eq {n : ℕ} (h : n ≤ 8192) (k : Fin (k0_t1_loop (BitVec.ofNat 32 n)).trips) :
    k0_off5 (BitVec.ofNat 32 n) k = ![512 * (k.val), 256] := by
  have hk := t1_lt h k
  show (![(Scalar.indexCast (Scalar.muli (Scf.iv (0#32) 1#32 k.val) 512#32)).toNat, 256] : Fin 2 → ℕ) = _
  rw [row_ofNat (a := 0) (by omega), Nat.zero_add]

/-- Where a trip's access `k0_off6` starts. -/
theorem off6_eq {n : ℕ} (h : n ≤ 8192) (k : Fin (k0_t1_loop (BitVec.ofNat 32 n)).trips) :
    k0_off6 (BitVec.ofNat 32 n) k = ![512 * (k.val), 512] := by
  have hk := t1_lt h k
  show (![(Scalar.indexCast (Scalar.muli (Scf.iv (0#32) 1#32 k.val) 512#32)).toNat, 512] : Fin 2 → ℕ) = _
  rw [row_ofNat (a := 0) (by omega), Nat.zero_add]

/-- Where a trip's access `k0_off7` starts. -/
theorem off7_eq {n : ℕ} (h : n ≤ 8192) (k : Fin (k0_t1_loop (BitVec.ofNat 32 n)).trips) :
    k0_off7 (BitVec.ofNat 32 n) k = ![512 * (k.val), 768] := by
  have hk := t1_lt h k
  show (![(Scalar.indexCast (Scalar.muli (Scf.iv (0#32) 1#32 k.val) 512#32)).toNat, 768] : Fin 2 → ℕ) = _
  rw [row_ofNat (a := 0) (by omega), Nat.zero_add]

/-- Where a trip's access `k0_off14` starts. -/
theorem off14_eq {n : ℕ} (h : n ≤ 8192) (k : Fin (k0_t3_loop (BitVec.ofNat 32 n)).trips) :
    k0_off14 (BitVec.ofNat 32 n) k = ![0, 0, 512 * (n / 512 + k.val), 0] := by
  have hk := t3_lt h k
  show (![0, 0, (Scalar.indexCast (Scalar.muli (Scf.iv (floor512 (BitVec.ofNat 32 n)) 1#32 k.val) 512#32)).toNat, 0] : Fin 4 → ℕ) = _
  rw [t3_lb h, row_ofNat (a := n / 512) (by omega)]

/-- Where a trip's access `k0_off15` starts. -/
theorem off15_eq {n : ℕ} (h : n ≤ 8192) (k : Fin (k0_t3_loop (BitVec.ofNat 32 n)).trips) :
    k0_off15 (BitVec.ofNat 32 n) k = ![512 * (n / 512 + k.val), 0] := by
  have hk := t3_lt h k
  show (![(Scalar.indexCast (Scalar.muli (Scf.iv (floor512 (BitVec.ofNat 32 n)) 1#32 k.val) 512#32)).toNat, 0] : Fin 2 → ℕ) = _
  rw [t3_lb h, row_ofNat (a := n / 512) (by omega)]

/-- Where a trip's access `k0_off16` starts. -/
theorem off16_eq {n : ℕ} (h : n ≤ 8192) (k : Fin (k0_t3_loop (BitVec.ofNat 32 n)).trips) :
    k0_off16 (BitVec.ofNat 32 n) k = ![512 * (n / 512 + k.val), 0] := by
  have hk := t3_lt h k
  show (![(Scalar.indexCast (Scalar.muli (Scf.iv (floor512 (BitVec.ofNat 32 n)) 1#32 k.val) 512#32)).toNat, 0] : Fin 2 → ℕ) = _
  rw [t3_lb h, row_ofNat (a := n / 512) (by omega)]

/-- Where a trip's access `k0_off17` starts. -/
theorem off17_eq {n : ℕ} (h : n ≤ 8192) (k : Fin (k0_t3_loop (BitVec.ofNat 32 n)).trips) :
    k0_off17 (BitVec.ofNat 32 n) k = ![512 * (n / 512 + k.val), 256] := by
  have hk := t3_lt h k
  show (![(Scalar.indexCast (Scalar.muli (Scf.iv (floor512 (BitVec.ofNat 32 n)) 1#32 k.val) 512#32)).toNat, 256] : Fin 2 → ℕ) = _
  rw [t3_lb h, row_ofNat (a := n / 512) (by omega)]

/-- Where a trip's access `k0_off18` starts. -/
theorem off18_eq {n : ℕ} (h : n ≤ 8192) (k : Fin (k0_t3_loop (BitVec.ofNat 32 n)).trips) :
    k0_off18 (BitVec.ofNat 32 n) k = ![512 * (n / 512 + k.val), 512] := by
  have hk := t3_lt h k
  show (![(Scalar.indexCast (Scalar.muli (Scf.iv (floor512 (BitVec.ofNat 32 n)) 1#32 k.val) 512#32)).toNat, 512] : Fin 2 → ℕ) = _
  rw [t3_lb h, row_ofNat (a := n / 512) (by omega)]

/-- Where a trip's access `k0_off19` starts. -/
theorem off19_eq {n : ℕ} (h : n ≤ 8192) (k : Fin (k0_t3_loop (BitVec.ofNat 32 n)).trips) :
    k0_off19 (BitVec.ofNat 32 n) k = ![512 * (n / 512 + k.val), 768] := by
  have hk := t3_lt h k
  show (![(Scalar.indexCast (Scalar.muli (Scf.iv (floor512 (BitVec.ofNat 32 n)) 1#32 k.val) 512#32)).toNat, 768] : Fin 2 → ℕ) = _
  rw [t3_lb h, row_ofNat (a := n / 512) (by omega)]

/-- Where a trip's access `k0_off26` starts. -/
theorem off26_eq {n : ℕ} (h : n ≤ 8192) (k : Fin (k0_t5_loop (BitVec.ofNat 32 n)).trips) :
    k0_off26 (BitVec.ofNat 32 n) k = ![0, 0, 0, 512 * (k.val)] := by
  have hk := t5_lt h k
  show (![0, 0, 0, (Scalar.indexCast (Scalar.muli (Scf.iv (0#32) 1#32 k.val) 512#32)).toNat] : Fin 4 → ℕ) = _
  rw [row_ofNat (a := 0) (by omega), Nat.zero_add]

/-- Where a trip's access `k0_off27` starts. -/
theorem off27_eq {n : ℕ} (h : n ≤ 8192) (k : Fin (k0_t5_loop (BitVec.ofNat 32 n)).trips) :
    k0_off27 (BitVec.ofNat 32 n) k = ![512 * (k.val), 0] := by
  have hk := t5_lt h k
  show (![(Scalar.indexCast (Scalar.muli (Scf.iv (0#32) 1#32 k.val) 512#32)).toNat, 0] : Fin 2 → ℕ) = _
  rw [row_ofNat (a := 0) (by omega), Nat.zero_add]

/-- Where a trip's access `k0_off28` starts. -/
theorem off28_eq {n : ℕ} (h : n ≤ 8192) (k : Fin (k0_t5_loop (BitVec.ofNat 32 n)).trips) :
    k0_off28 (BitVec.ofNat 32 n) k = ![512 * (k.val), 256] := by
  have hk := t5_lt h k
  show (![(Scalar.indexCast (Scalar.muli (Scf.iv (0#32) 1#32 k.val) 512#32)).toNat, 256] : Fin 2 → ℕ) = _
  rw [row_ofNat (a := 0) (by omega), Nat.zero_add]

/-- Where a trip's access `k0_off29` starts. -/
theorem off29_eq {n : ℕ} (h : n ≤ 8192) (k : Fin (k0_t5_loop (BitVec.ofNat 32 n)).trips) :
    k0_off29 (BitVec.ofNat 32 n) k = ![512 * (k.val), 512] := by
  have hk := t5_lt h k
  show (![(Scalar.indexCast (Scalar.muli (Scf.iv (0#32) 1#32 k.val) 512#32)).toNat, 512] : Fin 2 → ℕ) = _
  rw [row_ofNat (a := 0) (by omega), Nat.zero_add]

/-- Where a trip's access `k0_off30` starts. -/
theorem off30_eq {n : ℕ} (h : n ≤ 8192) (k : Fin (k0_t5_loop (BitVec.ofNat 32 n)).trips) :
    k0_off30 (BitVec.ofNat 32 n) k = ![512 * (k.val), 768] := by
  have hk := t5_lt h k
  show (![(Scalar.indexCast (Scalar.muli (Scf.iv (0#32) 1#32 k.val) 512#32)).toNat, 768] : Fin 2 → ℕ) = _
  rw [row_ofNat (a := 0) (by omega), Nat.zero_add]

set_option maxHeartbeats 4000000 in
/-- What the call states about the length word holds of every length between 0 and 8192. -/
theorem chk_of_le {n : ℕ} (h : n ≤ 8192) : k0_chk1 (BitVec.ofNat 32 n) :=
  ⟨⟨(by rw [t1_loop h]; exact ok_ofNat (a := 0) (by omega) (by omega)),
    fun k => by
      have hk := t1_lt h k
      show 512 ∣ (Scalar.indexCast (Scalar.muli (Scf.iv (0#32) 1#32 k.val) 512#32)).toNat
      rw [row_ofNat (a := 0) (by omega)]; exact Dvd.intro _ rfl,
    fun k a => by
      have hk := t1_lt h k
      rw [off2_eq h k]; fin_cases a <;> simp <;> omega,
    fun k a => by
      have hk := t1_lt h k
      rw [off3_eq h k]; fin_cases a <;> simp <;> omega,
    fun k a => by
      have hk := t1_lt h k
      rw [off4_eq h k]; fin_cases a <;> simp <;> omega,
    fun k a => by
      have hk := t1_lt h k
      rw [off5_eq h k]; fin_cases a <;> simp <;> omega,
    fun k a => by
      have hk := t1_lt h k
      rw [off6_eq h k]; fin_cases a <;> simp <;> omega,
    fun k a => by
      have hk := t1_lt h k
      rw [off7_eq h k]; fin_cases a <;> simp <;> omega,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    (by rw [t3_loop h]; exact ok_ofNat (by omega) (by omega)),
    fun k => by
      have hk := t3_lt h k
      show 512 ∣ (Scalar.indexCast (Scalar.muli (Scf.iv (floor512 (BitVec.ofNat 32 n)) 1#32 k.val) 512#32)).toNat
      rw [t3_lb h, row_ofNat (a := (n / 512)) (by omega)]; exact Dvd.intro _ rfl,
    fun k a => by
      have hk := t3_lt h k
      rw [off14_eq h k]; fin_cases a <;> simp <;> omega,
    fun k a => by
      have hk := t3_lt h k
      rw [off15_eq h k]; fin_cases a <;> simp <;> omega,
    fun k a => by
      have hk := t3_lt h k
      rw [off16_eq h k]; fin_cases a <;> simp <;> omega,
    fun k a => by
      have hk := t3_lt h k
      rw [off17_eq h k]; fin_cases a <;> simp <;> omega,
    fun k a => by
      have hk := t3_lt h k
      rw [off18_eq h k]; fin_cases a <;> simp <;> omega,
    fun k a => by
      have hk := t3_lt h k
      rw [off19_eq h k]; fin_cases a <;> simp <;> omega,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩,
  ⟨(by rw [t5_loop h]; exact ok_ofNat (a := 0) (by omega) (by omega)),
    fun k => by
      have hk := t5_lt h k
      show 512 ∣ (Scalar.indexCast (Scalar.muli (Scf.iv (0#32) 1#32 k.val) 512#32)).toNat
      rw [row_ofNat (a := 0) (by omega)]; exact Dvd.intro _ rfl,
    fun k a => by
      have hk := t5_lt h k
      rw [off26_eq h k]; fin_cases a <;> simp <;> omega,
    fun k a => by
      have hk := t5_lt h k
      rw [off27_eq h k]; fin_cases a <;> simp <;> omega,
    fun k a => by
      have hk := t5_lt h k
      rw [off28_eq h k]; fin_cases a <;> simp <;> omega,
    fun k a => by
      have hk := t5_lt h k
      rw [off29_eq h k]; fin_cases a <;> simp <;> omega,
    fun k a => by
      have hk := t5_lt h k
      rw [off30_eq h k]; fin_cases a <;> simp <;> omega,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩⟩

end Cert.Attn.Len

end
-- ==== Proof.Range.lean ====
/- What the two preconditions say of the arguments: every length lies between 0 and 8192; every query scale is
   positive; every lane of a row of value scales holds the same number. -/
module

public import proofs.«01_k».proof.Defs
public import Idealize.ShloMosaic.Lib.Pointwise
public import Idealize.ShloMosaic.Lib.ReduceAll

@[expose] public section

set_option maxRecDepth 16384

namespace Cert.Range

open Idealize.ShloMosaic

/-- A word that is at least 0 and at most 8192 read signed is the word of a natural number up to 8192. -/
theorem word_of_bounds (w : BitVec 32) (h1 : IntOp.cmpi .sge w 0#32 = 1#1) (h2 : IntOp.cmpi .sle w 8192#32 = 1#1) :
    ∃ n, n ≤ 8192 ∧ w = BitVec.ofNat 32 n := by
  have e1 : (0#32).sle w = true := by
    unfold IntOp.cmpi at h1; dsimp only at h1
    cases h : (0#32).sle w
    · rw [h] at h1; exact absurd h1 (by decide)
    · rfl
  have e2 : w.sle 8192#32 = true := by
    unfold IntOp.cmpi at h2; dsimp only at h2
    cases h : w.sle 8192#32
    · rw [h] at h2; exact absurd h2 (by decide)
    · rfl
  rw [BitVec.sle, decide_eq_true_eq] at e1 e2
  rw [show (0#32 : BitVec 32).toInt = 0 from rfl] at e1
  rw [show (8192#32 : BitVec 32).toInt = 8192 from rfl] at e2
  refine ⟨w.toNat, ?_, by rw [BitVec.ofNat_toNat, BitVec.setWidth_eq]⟩
  have := w.isLt
  rw [BitVec.toInt_eq_toNat_cond] at e1 e2
  split at e1 <;> omega

/-- Two bits whose conjunction is set are both set. -/
theorem and_one {a b : BitVec 1} (h : IntOp.andi a b = 1#1) : a = 1#1 ∧ b = 1#1 := by
  revert a b; decide

instance : Subsingleton (Shape.Idx ⟨0, ![]⟩) := ⟨fun a b => funext fun i => i.elim0⟩

/-- The first precondition: every length is the word of a natural number up to 8192. -/
theorem in_range [Cert.Pre_in_range.Facts] {F : FTy → Type} [FloatOps F]
    (x0 : IVec Cert.Pre_in_range.S4 32) (x1 x2 x3 x4 x5 x6)
    (h : Cert.Pre_in_range.fn (F := F) x0 x1 x2 x3 x4 x5 x6 = fun _ => 1#1) (i : Cert.Pre_in_range.S4.Idx) :
    ∃ n, n ≤ 8192 ∧ x0 i = BitVec.ofNat 32 n := by
  have h0 := congrFun h ix0
  unfold Cert.Pre_in_range.fn at h0
  have h1 := Host.reduce_andi_all _ _ _ _ _ h0 i
  obtain ⟨ha, hb⟩ := and_one h1
  exact word_of_bounds _ ha hb

end Cert.Range

end
-- ==== Proof.Attn.Hyps.lean ====
/- The side conditions of the attention call's frame, from the bound on the lengths. -/
module

public import proofs.«01_k».proof.Proof.Attn.Runs
public import proofs.«01_k».proof.Proof.Attn.Len
public import proofs.«01_k».proof.Proof.Range

@[expose] public section

noncomputable section

namespace Cert.Attn.Gen

open Idealize.ShloMosaic Idealize.ShloMosaic.TcCoe

variable {F : FTy → Type} [FloatOps F]

/-- No index map reads the table of lengths, so the pipeline asks nothing of it. -/
theorem ok_any (m : (ℓ : Loc nD τ sig) → Buf (Elt F) ℓ) : Ok m := by
  unfold Ok ok0; trivial

/-- A word read from the table is an entry of it. -/
theorem chk_read {r : LoadRect S4} (d : tbM0_0.view.ty.Contents (Elt F)) (x)
    (h : ∀ i, k0_chk1 (d i)) : k0_chk1 (tbM0_0.view.readAt (Elt F) r d x) := by
  rw [View.readAt_apply]
  exact h _

/-- When each entry of the table is the word of a natural number up to 8192, the body's assumption holds at every
    point. -/
theorem hyps_of_range (m : (ℓ : Loc nD τ sig) → Buf (Elt F) ℓ) (hO : Ok m)
    (h : ∀ i : S4.Idx, ∃ n, n ≤ 8192 ∧ m (((0 : Dev nD) : Thread nD τ).loc main_arg0) i = BitVec.ofNat 32 n) : Hyps m hO := by
  intro c t
  refine chk_read (tbl m 0) _ fun i => ?_
  obtain ⟨n, hn, e⟩ := h i
  have := Cert.Attn.Len.chk_of_le hn
  rw [← e] at this
  exact this

end Cert.Attn.Gen

end
-- ==== Proof.AttnIdeal.Points.lean ====
/- When each window of the attention call is fetched and written back, and the body at a grid point. -/
module

public import proofs.«01_k».proof.Proof.Gen.AttnIdeal
public import Idealize.ShloMosaic.Lib.Pipeline.Kit

@[expose] public section

noncomputable section

namespace Cert.AttnIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 2 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 3 (fun _ => rfl) (by decide)) (P := 1) (by decide) t).mpr (Nat.mod_one _) : ∀ t : Fin grid0.N, Pipeline.Window.fetchOf grid0 false cc0_transform_1 t = true)
/-- Window 2 (operand 3 (%arg3)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 1 (by decide) (by decide) (Pipeline.Window.sep_of_coord cc0_transform_2 1 1 (fun _ => rfl) (by decide)) (P := 32) (by decide) t : ∀ t : Fin grid0.N, Pipeline.Window.fetchOf grid0 false cc0_transform_2 t = true ↔ t.val % 32 = 0)
/-- Window 3 (operand 4 (%arg4)) is fetched at the points ≡ 0 (mod 32), at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_reads cc0_transform_3 reads0_3 hreads0_3 1 (by decide) (by decide) (Pipeline.Window.sep_of_coord cc0_transform_3 1 1 (fun _ => rfl) (by decide)) (P := 32) (by decide) t : ∀ t : Fin grid0.N, Pipeline.Window.fetchOf grid0 false cc0_transform_3 t = true ↔ t.val % 32 = 0)
/-- Window 4 (operand 5 (%arg5)) is fetched at the points ≡ 0 (mod 32), at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_reads cc0_transform_4 reads0_4 hreads0_4 1 (by decide) (by decide) (Pipeline.Window.sep_of_coord cc0_transform_4 1 1 (fun _ => rfl) (by decide)) (P := 32) (by decide) t : ∀ t : Fin grid0.N, Pipeline.Window.fetchOf grid0 false cc0_transform_4 t = true ↔ t.val % 32 = 0)
/-- Window 5 (operand 6 (%arg6)) is fetched at the points ≡ 0 (mod 32), at any contents of the tables (its index map reads none). -/
theorem fetch0_5 (a : (pcfg0 (F := F)).Adm) : ∀ t : Fin (cfg0 a).N, ((cfg0 a).win 5).fetch t = true ↔ t.val % 32 = 0 :=
  (fun t => Pipeline.Window.fetchOf_reads cc0_transform_5 reads0_5 hreads0_5 1 (by decide) (by decide) (Pipeline.Window.sep_of_coord cc0_transform_5 1 1 (fun _ => rfl) (by decide)) (P := 32) (by decide) t : ∀ t : Fin grid0.N, Pipeline.Window.fetchOf grid0 false cc0_transform_5 t = true ↔ t.val % 32 = 0)
/-- Window 6 (result 0 (%0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 2 (by decide) (by decide) (Pipeline.Window.sep_of_coord cc0_transform_6 2 1 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

end Cert.AttnIdeal.Gen

end
-- ==== Proof.AttnIdeal.Runs.lean ====
/- What the runs of the attention call share: the region entered as launched, the prefetched table, the windows' blocks,
   the staging and scratch memrefs, the branch condition and the assumed side condition. -/
module

public import proofs.«01_k».proof.Proof.Gen.AttnIdeal.Launch
public import proofs.«01_k».proof.Proof.Gen.AttnIdeal.Skeleton
public import proofs.«01_k».proof.Proof.Gen.AttnIdeal.Loops
public import proofs.«01_k».proof.Proof.AttnIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 at the start of the call is what the launch gave. -/
theorem V_main_arg0 (c : Dev nD) : V m c main_arg0 = m ((c : Thread nD τ).loc main_arg0) := rfl
/-- Argument 1 at the start of the call is what the launch gave. -/
theorem V_main_arg1 (c : Dev nD) : V m c main_arg1 = m ((c : Thread nD τ).loc main_arg1) := rfl
/-- Argument 2 at the start of the call is what the launch gave. -/
theorem V_main_arg2 (c : Dev nD) : V m c main_arg2 = m ((c : Thread nD τ).loc main_arg2) := rfl
/-- Argument 3 at the start of the call is what the launch gave. -/
theorem V_main_arg3 (c : Dev nD) : V m c main_arg3 = m ((c : Thread nD τ).loc main_arg3) := rfl
/-- Argument 4 at the start of the call is what the launch gave. -/
theorem V_main_arg4 (c : Dev nD) : V m c main_arg4 = m ((c : Thread nD τ).loc main_arg4) := rfl
/-- Argument 5 at the start of the call is what the launch gave. -/
theorem V_main_arg5 (c : Dev nD) : V m c main_arg5 = m ((c : Thread nD τ).loc main_arg5) := rfl
/-- Argument 6 at the start of the call is what the launch gave. -/
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Idealize Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Idealize Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_AttnIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 32) — by arithmetic of the point. -/
theorem hcond0_0 : ∀ t : Fin grid0.N, cond0_0 (grid0.coords t) ↔ t.val % 32 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 32 % 8 := Pipeline.Grid.coords_val t 1 (by decide) rfl
    have e2 : (grid0.coords t 2).val = t.val / 1 % 32 := Pipeline.Grid.coords_val t 2 (by decide) rfl
    simp only [cond0_0, e0, e1, e2]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x256 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x8192x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x8192 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x64x8192 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x64x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x256 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))
variable {m} in
/-- The assumption at one point of the grid. -/
theorem Hyps.c0 {hO : Ok m} (hH : Hyps m hO) (c : Dev nD) (t : Fin (cfgM m hO).N) :
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos))) := (hH c t)
variable {m} in
/-- The assumption at all points from the assumption at each. -/
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S8192x128 .f32 := Memref.whole cc0_scratch0
abbrev scM0_1 : Memref sig .tc .vmem S8192x1024 .f32 := Memref.whole cc0_scratch1
abbrev scM0_2 : Memref sig .tc .vmem S64x1024 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.AttnIdeal.Gen

end
-- ==== Proof.AttnIdeal.RunA.lean ====
/- The body of the attention call at the first query tile of a head (the key scales are spread into scratch). -/
module

public import proofs.«01_k».proof.Proof.AttnIdeal.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE A (`scf.if` 0 taken: points 0, 32, … 992: 32 of 1024): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (hc0 : cond0_0 i)
    (x0 : Vec F S1x256x256 .fp8e4m3) (x1 : Vec F S1x1x4x256 .f32) (x2 : Vec F S1x1x8192x128 .fp8e4m3) (x3 : Vec F S1x1x1x8192 .f32) (x4 : Vec F S1x1x64x8192 .fp8e4m3) (x5 : Vec F S1x1x64x128 .f32) (xt0 : TbBuf0 (F := F) c tbM0_0) (k0_hw1 : k0_chk1 (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9 arg10 harg10 arg11 harg11 arg12 harg12 arg13 harg13) K := by
    intro E K
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.AttnIdeal.Gen

end
-- ==== Proof.AttnIdeal.RunB.lean ====
/- The body of the attention call at every later query tile of a head. -/
module

public import proofs.«01_k».proof.Proof.AttnIdeal.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken: points 1, 2, … 1023: 992 of 1024): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (hc0 : ¬cond0_0 i)
    (x0 : Vec F S1x256x256 .fp8e4m3) (x1 : Vec F S1x1x4x256 .f32) (x2 : Vec F S1x1x8192x128 .fp8e4m3) (x3 : Vec F S1x1x1x8192 .f32) (x4 : Vec F S1x1x64x8192 .fp8e4m3) (x5 : Vec F S1x1x64x128 .f32) (xt0 : TbBuf0 (F := F) c tbM0_0) (k0_hw1 : k0_chk1 (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9 arg10 harg10 arg11 harg11 arg12 harg12 arg13 harg13) K := by
    intro E K
    simp only [cc0_attn_eq_skeleton]; unfold cc0_attn_skel
    simp only [k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.AttnIdeal.Gen

end
-- ==== Proof.AttnIdeal.Frame.lean ====
/- The frame of the attention call: it runs, leaves its arguments as they were and its counters at zero. -/
module

public import proofs.«01_k».proof.Proof.AttnIdeal.RunA
public import proofs.«01_k».proof.Proof.AttnIdeal.RunB
public import Idealize.ShloMosaic.Lib.Claim

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Idealize Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
/-- What window 1 holds after a point of the grid. -/
theorem after0_1 (hO : Ok m) (hH : Hyps m hO) (c : Dev nD) (t : Fin (cfgM m hO).N) : (dats m hO hH 0 c).after 1 t = iblk m hO c 1 t := by dsimp only [dats]; try rfl
/-- What window 2 holds after a point of the grid. -/
theorem after0_2 (hO : Ok m) (hH : Hyps m hO) (c : Dev nD) (t : Fin (cfgM m hO).N) : (dats m hO hH 0 c).after 2 t = iblk m hO c 2 t := by dsimp only [dats]; try rfl
/-- What window 3 holds after a point of the grid. -/
theorem after0_3 (hO : Ok m) (hH : Hyps m hO) (c : Dev nD) (t : Fin (cfgM m hO).N) : (dats m hO hH 0 c).after 3 t = iblk m hO c 3 t := by dsimp only [dats]; try rfl
/-- What window 4 holds after a point of the grid. -/
theorem after0_4 (hO : Ok m) (hH : Hyps m hO) (c : Dev nD) (t : Fin (cfgM m hO).N) : (dats m hO hH 0 c).after 4 t = iblk m hO c 4 t := by dsimp only [dats]; try rfl
/-- What window 5 holds after a point of the grid. -/
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- What window 1 holds before a point of the grid. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- What window 2 holds before a point of the grid. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- What window 3 holds before a point of the grid. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- What window 4 holds before a point of the grid. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
/-- What window 5 holds before a point of the grid. -/
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  have hN : t.val < 1024 := lt_of_lt_of_eq t.isLt (show (cfgM m hO).N = 1024 from N_0)
  by_cases h0 : t.val % 32 = 0
  · iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HT0]; · iexact HT0
    iintro ⟨H0, H1, H2, H3, H4, H5, H6, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HT0]; · iexact HT0
    iintro ⟨H0, H1, H2, H3, H4, H5, H6, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Idealize Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.AttnIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.AttnIdeal.Gen

end
-- ==== Proof.AttnIdeal.Len.lean ====
/- The loops of the attention call at a row length between 0 and 8192: how many trips they make, which rows a
   trip reads and writes, and the check the call states about the length word. -/
module

public import proofs.«01_k».proof.Proof.Gen.AttnIdeal.Skeleton
public import proofs.«01_k».proof.Proof.Words

@[expose] public section

set_option maxRecDepth 16384

namespace Cert.AttnIdeal.Len

open Idealize.ShloMosaic Cert.Words
open Cert.AttnIdeal Cert.AttnIdeal.Gen

/-- The whole-chunk loop runs over the chunks that the length fills. -/
theorem t1_loop {n : ℕ} (h : n ≤ 8192) : k0_t1_loop (BitVec.ofNat 32 n) = ⟨0#32, BitVec.ofNat 32 (n / 512), 1#32⟩ := by
  show (⟨0#32, Scalar.addi 0#32 (Scalar.muli (Scalar.divsi (Scalar.subi (floor512 (BitVec.ofNat 32 n)) 0#32) 1#32) 1#32), 1#32⟩ : Scf.Loop 32) = _
  rw [bound_zero, floor512_ofNat (by omega)]

/-- The masked loop runs over the chunk that the length fills in part, if there is one. -/
theorem t3_loop {n : ℕ} (h : n ≤ 8192) :
    k0_t3_loop (BitVec.ofNat 32 n) = ⟨BitVec.ofNat 32 (n / 512), BitVec.ofNat 32 ((n + 511) / 512), 1#32⟩ := by
  show (⟨floor512 (BitVec.ofNat 32 n), Scalar.addi (floor512 (BitVec.ofNat 32 n)) (Scalar.muli (Scalar.divsi (Scalar.subi (floor512 (Scalar.subi (Scalar.addi (BitVec.ofNat 32 n) 512#32) 1#32)) (floor512 (BitVec.ofNat 32 n))) 1#32) 1#32), 1#32⟩ : Scf.Loop 32) = _
  rw [bound_from, round_up, floor512_ofNat (by omega), floor512_ofNat (by omega)]

/-- The weighting loop runs over all chunks. -/
theorem t5_loop {n : ℕ} (h : n ≤ 8192) : k0_t5_loop (BitVec.ofNat 32 n) = ⟨0#32, BitVec.ofNat 32 ((n + 511) / 512), 1#32⟩ := by
  show (⟨0#32, Scalar.addi 0#32 (Scalar.muli (Scalar.divsi (Scalar.subi (floor512 (Scalar.subi (Scalar.addi (BitVec.ofNat 32 n) 512#32) 1#32)) 0#32) 1#32) 1#32), 1#32⟩ : Scf.Loop 32) = _
  rw [bound_zero, round_up, floor512_ofNat (by omega)]

/-- Trips of the whole-chunk loop. -/
theorem t1_trips {n : ℕ} (h : n ≤ 8192) : (k0_t1_loop (BitVec.ofNat 32 n)).trips = n / 512 := by
  rw [t1_loop h]; exact (trips_ofNat (a := 0) (by omega) (by omega)).trans (Nat.sub_zero _)

/-- Trips of the masked loop. -/
theorem t3_trips {n : ℕ} (h : n ≤ 8192) : (k0_t3_loop (BitVec.ofNat 32 n)).trips = (n + 511) / 512 - n / 512 := by
  rw [t3_loop h]; exact trips_ofNat (by omega) (by omega)

/-- Trips of the weighting loop. -/
theorem t5_trips {n : ℕ} (h : n ≤ 8192) : (k0_t5_loop (BitVec.ofNat 32 n)).trips = (n + 511) / 512 := by
  rw [t5_loop h]; exact (trips_ofNat (a := 0) (by omega) (by omega)).trans (Nat.sub_zero _)

/-- The loop of the steps left over by a step of one makes no trip. -/
theorem t2_trips (v : BitVec 32) : (k0_t2_loop v).trips = 0 := Scf.rem_trips _ _
/-- The loop of the steps left over by a step of one makes no trip. -/
theorem t4_trips (v : BitVec 32) : (k0_t4_loop v).trips = 0 := Scf.rem_trips _ _
/-- The loop of the steps left over by a step of one makes no trip. -/
theorem t6_trips (v : BitVec 32) : (k0_t6_loop v).trips = 0 := Scf.rem_trips _ _

/-- A trip of the whole-chunk loop lies below the length's whole chunks. -/
theorem t1_lt {n : ℕ} (h : n ≤ 8192) (k : Fin (k0_t1_loop (BitVec.ofNat 32 n)).trips) : k.val < n / 512 :=
  lt_of_lt_of_eq k.isLt (t1_trips h)
/-- A trip of the masked loop: its chunk lies below the number of chunks. -/
theorem t3_lt {n : ℕ} (h : n ≤ 8192) (k : Fin (k0_t3_loop (BitVec.ofNat 32 n)).trips) : n / 512 + k.val < (n + 511) / 512 := by
  have := lt_of_lt_of_eq k.isLt (t3_trips h); omega
/-- A trip of the weighting loop lies below the number of chunks. -/
theorem t5_lt {n : ℕ} (h : n ≤ 8192) (k : Fin (k0_t5_loop (BitVec.ofNat 32 n)).trips) : k.val < (n + 511) / 512 :=
  lt_of_lt_of_eq k.isLt (t5_trips h)

/-- The printed lower bound of the masked loop is the number of whole chunks. -/
theorem t3_lb {n : ℕ} (h : n ≤ 8192) : floor512 (BitVec.ofNat 32 n) = BitVec.ofNat 32 (n / 512) := floor512_ofNat (by omega)

/-- Where a trip's access `k0_off2` starts. -/
theorem off2_eq {n : ℕ} (h : n ≤ 8192) (k : Fin (k0_t1_loop (BitVec.ofNat 32 n)).trips) :
    k0_off2 (BitVec.ofNat 32 n) k = ![0, 0, 512 * (k.val), 0] := by
  have hk := t1_lt h k
  show (![0, 0, (Scalar.indexCast (Scalar.muli (Scf.iv (0#32) 1#32 k.val) 512#32)).toNat, 0] : Fin 4 → ℕ) = _
  rw [row_ofNat (a := 0) (by omega), Nat.zero_add]

/-- Where a trip's access `k0_off3` starts. -/
theorem off3_eq {n : ℕ} (h : n ≤ 8192) (k : Fin (k0_t1_loop (BitVec.ofNat 32 n)).trips) :
    k0_off3 (BitVec.ofNat 32 n) k = ![512 * (k.val), 0] := by
  have hk := t1_lt h k
  show (![(Scalar.indexCast (Scalar.muli (Scf.iv (0#32) 1#32 k.val) 512#32)).toNat, 0] : Fin 2 → ℕ) = _
  rw [row_ofNat (a := 0) (by omega), Nat.zero_add]

/-- Where a trip's access `k0_off4` starts. -/
theorem off4_eq {n : ℕ} (h : n ≤ 8192) (k : Fin (k0_t1_loop (BitVec.ofNat 32 n)).trips) :
    k0_off4 (BitVec.ofNat 32 n) k = ![512 * (k.val), 0] := by
  have hk := t1_lt h k
  show (![(Scalar.indexCast (Scalar.muli (Scf.iv (0#32) 1#32 k.val) 512#32)).toNat, 0] : Fin 2 → ℕ) = _
  rw [row_ofNat (a := 0) (by omega), Nat.zero_add]

/-- Where a trip's access `k0_off5` starts. -/
theorem off5_eq {n : ℕ} (h : n ≤ 8192) (k : Fin (k0_t1_loop (BitVec.ofNat 32 n)).trips) :
    k0_off5 (BitVec.ofNat 32 n) k = ![512 * (k.val), 256] := by
  have hk := t1_lt h k
  show (![(Scalar.indexCast (Scalar.muli (Scf.iv (0#32) 1#32 k.val) 512#32)).toNat, 256] : Fin 2 → ℕ) = _
  rw [row_ofNat (a := 0) (by omega), Nat.zero_add]

/-- Where a trip's access `k0_off6` starts. -/
theorem off6_eq {n : ℕ} (h : n ≤ 8192) (k : Fin (k0_t1_loop (BitVec.ofNat 32 n)).trips) :
    k0_off6 (BitVec.ofNat 32 n) k = ![512 * (k.val), 512] := by
  have hk := t1_lt h k
  show (![(Scalar.indexCast (Scalar.muli (Scf.iv (0#32) 1#32 k.val) 512#32)).toNat, 512] : Fin 2 → ℕ) = _
  rw [row_ofNat (a := 0) (by omega), Nat.zero_add]

/-- Where a trip's access `k0_off7` starts. -/
theorem off7_eq {n : ℕ} (h : n ≤ 8192) (k : Fin (k0_t1_loop (BitVec.ofNat 32 n)).trips) :
    k0_off7 (BitVec.ofNat 32 n) k = ![512 * (k.val), 768] := by
  have hk := t1_lt h k
  show (![(Scalar.indexCast (Scalar.muli (Scf.iv (0#32) 1#32 k.val) 512#32)).toNat, 768] : Fin 2 → ℕ) = _
  rw [row_ofNat (a := 0) (by omega), Nat.zero_add]

/-- Where a trip's access `k0_off14` starts. -/
theorem off14_eq {n : ℕ} (h : n ≤ 8192) (k : Fin (k0_t3_loop (BitVec.ofNat 32 n)).trips) :
    k0_off14 (BitVec.ofNat 32 n) k = ![0, 0, 512 * (n / 512 + k.val), 0] := by
  have hk := t3_lt h k
  show (![0, 0, (Scalar.indexCast (Scalar.muli (Scf.iv (floor512 (BitVec.ofNat 32 n)) 1#32 k.val) 512#32)).toNat, 0] : Fin 4 → ℕ) = _
  rw [t3_lb h, row_ofNat (a := n / 512) (by omega)]

/-- Where a trip's access `k0_off15` starts. -/
theorem off15_eq {n : ℕ} (h : n ≤ 8192) (k : Fin (k0_t3_loop (BitVec.ofNat 32 n)).trips) :
    k0_off15 (BitVec.ofNat 32 n) k = ![512 * (n / 512 + k.val), 0] := by
  have hk := t3_lt h k
  show (![(Scalar.indexCast (Scalar.muli (Scf.iv (floor512 (BitVec.ofNat 32 n)) 1#32 k.val) 512#32)).toNat, 0] : Fin 2 → ℕ) = _
  rw [t3_lb h, row_ofNat (a := n / 512) (by omega)]

/-- Where a trip's access `k0_off16` starts. -/
theorem off16_eq {n : ℕ} (h : n ≤ 8192) (k : Fin (k0_t3_loop (BitVec.ofNat 32 n)).trips) :
    k0_off16 (BitVec.ofNat 32 n) k = ![512 * (n / 512 + k.val), 0] := by
  have hk := t3_lt h k
  show (![(Scalar.indexCast (Scalar.muli (Scf.iv (floor512 (BitVec.ofNat 32 n)) 1#32 k.val) 512#32)).toNat, 0] : Fin 2 → ℕ) = _
  rw [t3_lb h, row_ofNat (a := n / 512) (by omega)]

/-- Where a trip's access `k0_off17` starts. -/
theorem off17_eq {n : ℕ} (h : n ≤ 8192) (k : Fin (k0_t3_loop (BitVec.ofNat 32 n)).trips) :
    k0_off17 (BitVec.ofNat 32 n) k = ![512 * (n / 512 + k.val), 256] := by
  have hk := t3_lt h k
  show (![(Scalar.indexCast (Scalar.muli (Scf.iv (floor512 (BitVec.ofNat 32 n)) 1#32 k.val) 512#32)).toNat, 256] : Fin 2 → ℕ) = _
  rw [t3_lb h, row_ofNat (a := n / 512) (by omega)]

/-- Where a trip's access `k0_off18` starts. -/
theorem off18_eq {n : ℕ} (h : n ≤ 8192) (k : Fin (k0_t3_loop (BitVec.ofNat 32 n)).trips) :
    k0_off18 (BitVec.ofNat 32 n) k = ![512 * (n / 512 + k.val), 512] := by
  have hk := t3_lt h k
  show (![(Scalar.indexCast (Scalar.muli (Scf.iv (floor512 (BitVec.ofNat 32 n)) 1#32 k.val) 512#32)).toNat, 512] : Fin 2 → ℕ) = _
  rw [t3_lb h, row_ofNat (a := n / 512) (by omega)]

/-- Where a trip's access `k0_off19` starts. -/
theorem off19_eq {n : ℕ} (h : n ≤ 8192) (k : Fin (k0_t3_loop (BitVec.ofNat 32 n)).trips) :
    k0_off19 (BitVec.ofNat 32 n) k = ![512 * (n / 512 + k.val), 768] := by
  have hk := t3_lt h k
  show (![(Scalar.indexCast (Scalar.muli (Scf.iv (floor512 (BitVec.ofNat 32 n)) 1#32 k.val) 512#32)).toNat, 768] : Fin 2 → ℕ) = _
  rw [t3_lb h, row_ofNat (a := n / 512) (by omega)]

/-- Where a trip's access `k0_off26` starts. -/
theorem off26_eq {n : ℕ} (h : n ≤ 8192) (k : Fin (k0_t5_loop (BitVec.ofNat 32 n)).trips) :
    k0_off26 (BitVec.ofNat 32 n) k = ![0, 0, 0, 512 * (k.val)] := by
  have hk := t5_lt h k
  show (![0, 0, 0, (Scalar.indexCast (Scalar.muli (Scf.iv (0#32) 1#32 k.val) 512#32)).toNat] : Fin 4 → ℕ) = _
  rw [row_ofNat (a := 0) (by omega), Nat.zero_add]

/-- Where a trip's access `k0_off27` starts. -/
theorem off27_eq {n : ℕ} (h : n ≤ 8192) (k : Fin (k0_t5_loop (BitVec.ofNat 32 n)).trips) :
    k0_off27 (BitVec.ofNat 32 n) k = ![512 * (k.val), 0] := by
  have hk := t5_lt h k
  show (![(Scalar.indexCast (Scalar.muli (Scf.iv (0#32) 1#32 k.val) 512#32)).toNat, 0] : Fin 2 → ℕ) = _
  rw [row_ofNat (a := 0) (by omega), Nat.zero_add]

/-- Where a trip's access `k0_off28` starts. -/
theorem off28_eq {n : ℕ} (h : n ≤ 8192) (k : Fin (k0_t5_loop (BitVec.ofNat 32 n)).trips) :
    k0_off28 (BitVec.ofNat 32 n) k = ![512 * (k.val), 256] := by
  have hk := t5_lt h k
  show (![(Scalar.indexCast (Scalar.muli (Scf.iv (0#32) 1#32 k.val) 512#32)).toNat, 256] : Fin 2 → ℕ) = _
  rw [row_ofNat (a := 0) (by omega), Nat.zero_add]

/-- Where a trip's access `k0_off29` starts. -/
theorem off29_eq {n : ℕ} (h : n ≤ 8192) (k : Fin (k0_t5_loop (BitVec.ofNat 32 n)).trips) :
    k0_off29 (BitVec.ofNat 32 n) k = ![512 * (k.val), 512] := by
  have hk := t5_lt h k
  show (![(Scalar.indexCast (Scalar.muli (Scf.iv (0#32) 1#32 k.val) 512#32)).toNat, 512] : Fin 2 → ℕ) = _
  rw [row_ofNat (a := 0) (by omega), Nat.zero_add]

/-- Where a trip's access `k0_off30` starts. -/
theorem off30_eq {n : ℕ} (h : n ≤ 8192) (k : Fin (k0_t5_loop (BitVec.ofNat 32 n)).trips) :
    k0_off30 (BitVec.ofNat 32 n) k = ![512 * (k.val), 768] := by
  have hk := t5_lt h k
  show (![(Scalar.indexCast (Scalar.muli (Scf.iv (0#32) 1#32 k.val) 512#32)).toNat, 768] : Fin 2 → ℕ) = _
  rw [row_ofNat (a := 0) (by omega), Nat.zero_add]

set_option maxHeartbeats 4000000 in
/-- What the call states about the length word holds of every length between 0 and 8192. -/
theorem chk_of_le {n : ℕ} (h : n ≤ 8192) : k0_chk1 (BitVec.ofNat 32 n) :=
  ⟨⟨(by rw [t1_loop h]; exact ok_ofNat (a := 0) (by omega) (by omega)),
    fun k => by
      have hk := t1_lt h k
      show 512 ∣ (Scalar.indexCast (Scalar.muli (Scf.iv (0#32) 1#32 k.val) 512#32)).toNat
      rw [row_ofNat (a := 0) (by omega)]; exact Dvd.intro _ rfl,
    fun k a => by
      have hk := t1_lt h k
      rw [off2_eq h k]; fin_cases a <;> simp <;> omega,
    fun k a => by
      have hk := t1_lt h k
      rw [off3_eq h k]; fin_cases a <;> simp <;> omega,
    fun k a => by
      have hk := t1_lt h k
      rw [off4_eq h k]; fin_cases a <;> simp <;> omega,
    fun k a => by
      have hk := t1_lt h k
      rw [off5_eq h k]; fin_cases a <;> simp <;> omega,
    fun k a => by
      have hk := t1_lt h k
      rw [off6_eq h k]; fin_cases a <;> simp <;> omega,
    fun k a => by
      have hk := t1_lt h k
      rw [off7_eq h k]; fin_cases a <;> simp <;> omega,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    (by rw [t3_loop h]; exact ok_ofNat (by omega) (by omega)),
    fun k => by
      have hk := t3_lt h k
      show 512 ∣ (Scalar.indexCast (Scalar.muli (Scf.iv (floor512 (BitVec.ofNat 32 n)) 1#32 k.val) 512#32)).toNat
      rw [t3_lb h, row_ofNat (a := (n / 512)) (by omega)]; exact Dvd.intro _ rfl,
    fun k a => by
      have hk := t3_lt h k
      rw [off14_eq h k]; fin_cases a <;> simp <;> omega,
    fun k a => by
      have hk := t3_lt h k
      rw [off15_eq h k]; fin_cases a <;> simp <;> omega,
    fun k a => by
      have hk := t3_lt h k
      rw [off16_eq h k]; fin_cases a <;> simp <;> omega,
    fun k a => by
      have hk := t3_lt h k
      rw [off17_eq h k]; fin_cases a <;> simp <;> omega,
    fun k a => by
      have hk := t3_lt h k
      rw [off18_eq h k]; fin_cases a <;> simp <;> omega,
    fun k a => by
      have hk := t3_lt h k
      rw [off19_eq h k]; fin_cases a <;> simp <;> omega,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩,
  ⟨(by rw [t5_loop h]; exact ok_ofNat (a := 0) (by omega) (by omega)),
    fun k => by
      have hk := t5_lt h k
      show 512 ∣ (Scalar.indexCast (Scalar.muli (Scf.iv (0#32) 1#32 k.val) 512#32)).toNat
      rw [row_ofNat (a := 0) (by omega)]; exact Dvd.intro _ rfl,
    fun k a => by
      have hk := t5_lt h k
      rw [off26_eq h k]; fin_cases a <;> simp <;> omega,
    fun k a => by
      have hk := t5_lt h k
      rw [off27_eq h k]; fin_cases a <;> simp <;> omega,
    fun k a => by
      have hk := t5_lt h k
      rw [off28_eq h k]; fin_cases a <;> simp <;> omega,
    fun k a => by
      have hk := t5_lt h k
      rw [off29_eq h k]; fin_cases a <;> simp <;> omega,
    fun k a => by
      have hk := t5_lt h k
      rw [off30_eq h k]; fin_cases a <;> simp <;> omega,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩⟩

end Cert.AttnIdeal.Len

end
-- ==== Proof.AttnIdeal.Hyps.lean ====
/- The side conditions of the attention call's frame, from the bound on the lengths. -/
module

public import proofs.«01_k».proof.Proof.AttnIdeal.Runs
public import proofs.«01_k».proof.Proof.AttnIdeal.Len
public import proofs.«01_k».proof.Proof.Range

@[expose] public section

noncomputable section

namespace Cert.AttnIdeal.Gen

open Idealize.ShloMosaic Idealize.ShloMosaic.TcCoe

variable {F : FTy → Type} [FloatOps F] [Named F]

/-- No index map reads the table of lengths, so the pipeline asks nothing of it. -/
theorem ok_any (m : (ℓ : Loc nD τ sig) → Buf (Elt F) ℓ) : Ok m := by
  unfold Ok ok0; trivial

/-- A word read from the table is an entry of it. -/
theorem chk_read {r : LoadRect S4} (d : tbM0_0.view.ty.Contents (Elt F)) (x)
    (h : ∀ i, k0_chk1 (d i)) : k0_chk1 (tbM0_0.view.readAt (Elt F) r d x) := by
  rw [View.readAt_apply]
  exact h _

/-- When each entry of the table is the word of a natural number up to 8192, the body's assumption holds at every
    point. -/
theorem hyps_of_range (m : (ℓ : Loc nD τ sig) → Buf (Elt F) ℓ) (hO : Ok m)
    (h : ∀ i : S4.Idx, ∃ n, n ≤ 8192 ∧ m (((0 : Dev nD) : Thread nD τ).loc main_arg0) i = BitVec.ofNat 32 n) : Hyps m hO := by
  intro c t
  refine chk_read (tbl m 0) _ fun i => ?_
  obtain ⟨n, hn, e⟩ := h i
  have := Cert.AttnIdeal.Len.chk_of_le hn
  rw [← e] at this
  exact this

end Cert.AttnIdeal.Gen

end
-- ==== Proof.Frames.lean ====
/- The frames of the three programs and the entry of the ledger. -/
module

public import proofs.«01_k».proof.Defs
public import proofs.«01_k».proof.Proof.Attn.Frame
public import proofs.«01_k».proof.Proof.Attn.Hyps
public import proofs.«01_k».proof.Proof.AttnIdeal.Frame
public import proofs.«01_k».proof.Proof.AttnIdeal.Hyps
public import proofs.«01_k».proof.Proof.Gen.ReferenceIdeal.Frame
public import proofs.«01_k».proof.Proof.Gen.Pre_in_range

@[expose] public section

noncomputable section

namespace Cert.Proof

open Idealize.ShloMosaic Idealize.ShloMosaic.TcCoe Idealize.SL.Sem

/-- The kernel on bit patterns runs, leaves its arguments as they were and its counters at zero. -/
theorem frame_p : Cert.quiescent_Attn (hAttn := Cert.Attn.Gen.facts) (hPre_in_range := Cert.Pre_in_range.Gen.facts) := by
  intro m ρ h
  exact Cert.Attn.Gen.frame m ρ (Cert.Attn.Gen.ok_any m)
    (Cert.Attn.Gen.hyps_of_range m _ fun i => Cert.Range.in_range _ _ _ _ _ _ _ (h 0) i)

/-- The same of the idealized kernel. -/
theorem frame_pi : Cert.quiescent_AttnIdeal (hAttnIdeal := Cert.AttnIdeal.Gen.facts) (hPre_in_range := Cert.Pre_in_range.Gen.facts) := by
  intro m ρ h
  exact Cert.AttnIdeal.Gen.frame m ρ (Cert.AttnIdeal.Gen.ok_any m)
    (Cert.AttnIdeal.Gen.hyps_of_range m _ fun i => Cert.Range.in_range _ _ _ _ _ _ _ (h 0) i)

/-- The same of the reference. -/
theorem frame_ri : Cert.quiescent_ReferenceIdeal (hReferenceIdeal := Cert.ReferenceIdeal.Gen.facts) := by
  intro m ρ _
  exact Cert.ReferenceIdeal.Gen.frame m ρ

/-- The named constant has the value the certificate's table gives it. -/
theorem preserves : Cert.preserves_Attn_AttnIdeal :=
  IdealRules.named_const.statement Cert.AttnIdeal.κ "log2e_inv_sqrt_d" .f32 0x3E38AA3B#32 (((Real.log 2)⁻¹ * (1 / 8) : ℝ) : EReal) rfl

end Cert.Proof

end
-- ==== Proof.Pre.lean ====
/- What the precondition of the value claim says of the arguments. -/
module

public import proofs.«01_k».proof.Proof.Range

@[expose] public section

set_option maxRecDepth 16384

namespace Cert.Range

open Idealize.ShloMosaic

/-- The second precondition: every length is the word of a natural number up to 8192, every query scale is positive,
    and every lane of a row of value scales holds what lane 0 holds. -/
theorem pre [Cert.Pre_pre.Facts]
    (x0 : IVec Cert.Pre_pre.S4 32) (x1) (x2 : FVec Ideal Cert.Pre_pre.S4x8x4x8192 .f32) (x3 x4 x5) (x6 : FVec Ideal Cert.Pre_pre.S4x8x64x128 .f32)
    (h : Cert.Pre_pre.fn (F := Ideal) x0 x1 x2 x3 x4 x5 x6 = fun _ => 1#1) :
    (∀ i : Cert.Pre_pre.S4.Idx, ∃ n, n ≤ 8192 ∧ x0 i = BitVec.ofNat 32 n) ∧ (∀ i, (0 : EReal) < x2 i)
      ∧ ∀ (a : Fin 4) (b : Fin 8) (c : Fin 64) (d : Fin 128), x6 (ix4 a b c d) = x6 (ix4 a b c 0) := by
  have h0 := congrFun h ix0
  unfold Cert.Pre_pre.fn at h0
  obtain ⟨h12, h3⟩ := and_one h0
  obtain ⟨h1, h2⟩ := and_one h12
  refine ⟨fun i => ?_, fun i => ?_, fun a b c d => ?_⟩
  · obtain ⟨ha, hb⟩ := and_one (Host.reduce_andi_all _ _ _ _ _ h1 i)
    exact word_of_bounds _ ha hb
  · have := Host.reduce_andi_all _ _ _ _ _ h2 i
    pointwise at this
    by_contra hn
    simp [hn] at this
  · have := Host.reduce_andi_all _ _ _ _ _ h3 (ix4 a b c d)
    pointwise at this
    by_contra hn
    simp [hn] at this

end Cert.Range
-- ==== Proof.PreFacts.lean ====
/- The side conditions the second precondition states. -/
module

public import proofs.«01_k».proof.Pre_pre
public import Idealize.ShloMosaic.Lib.Decide

@[expose] public section

namespace Cert.Pre_pre.Gen

open Idealize.ShloMosaic

/-- The second precondition's side conditions, each decided. -/
theorem facts : Cert.Pre_pre.Facts where
  bcast_S_S4 := by decide
  reducesTo_S4_S_d0 := by decide
  h_S_ := by decide
  bcast_S_S4x8x4x8192 := by decide
  reducesTo_S4x8x4x8192_S_d0_1_2_3 := by decide
  slices_S4x8x64x128_S4x8x64x1_0_0_0_0 := by decide
  bcast_S4x8x64x1_S4x8x64x128_0_1_2_3 := by decide
  reducesTo_S4x8x64x128_S_d0_1_2_3 := by decide

end Cert.Pre_pre.Gen
-- ==== Proof.AttnIdeal.Score.lean ====
/- The scores a program of the attention call computes, as a function of its blocks, and what its vectors of a chunk of
   512 keys hold in terms of them. -/
module

public import proofs.«01_k».proof.Proof.Gen.AttnIdeal.Skeleton
public import proofs.«01_k».proof.Proof.Words
public import Idealize.ShloMosaic.Lib.Pointwise

@[expose] public section

set_option maxRecDepth 16384

noncomputable section

namespace Cert.AttnIdeal.Val

open Idealize.ShloMosaic Cert.AttnIdeal Cert.AttnIdeal.Gen

/-- What a unit-stride load of a buffer reads at an index, given what the buffer holds. -/
theorem rd_unit {sig : RefSig} {κ : Kind} {sp : Space} {s : Shape} {e : EltTy} {Val : EltTy → Type} (v : View sig κ sp s e)
    {off size : Fin s.rank → ℕ} (inb : ∀ a, off a + size a ≤ s.size a) (X : v.ty.Contents Val) {x : s.Idx → Val e}
    (h : v.read Val X = x) (i : (Rect.unit off size inb).shape.Idx) (j : s.Idx) (hj : ∀ a, (j a).val = off a + (i a).val) :
    v.readAt Val (Rect.unit off size inb).toLoadRect X i = x j := by
  subst h
  have : (Rect.unit off size inb).emb i = j := funext fun a => Fin.ext (by
    show off a + 1 * (i a).val = (j a).val
    rw [hj a, Nat.one_mul])
  rw [← this]
  rfl

/-- The product of key `s` with query `q` of the group's head `g`: both halves of the key's 128 lanes meet the same 64
    codes of the query. -/
def dot (x0 : FVec Ideal S1x256x256 .fp8e4m3) (x2 : FVec Ideal S1x1x8192x128 .fp8e4m3) (s : Fin 8192) (g : Fin 4) (q : Fin 256) : EReal :=
  (∑ x : Fin 64, x2 (ix4 0 0 s ⟨x.val, by omega⟩) * x0 (ix3 0 ⟨64 * g.val + x.val, by omega⟩ q))
    + ∑ x : Fin 64, x2 (ix4 0 0 s ⟨64 + x.val, by omega⟩) * x0 (ix3 0 ⟨64 * g.val + x.val, by omega⟩ q)

/-- The scaled and masked score: minus infinity at and past the length `n`. -/
def T (n : ℕ) (x0 : FVec Ideal S1x256x256 .fp8e4m3) (x2 : FVec Ideal S1x1x8192x128 .fp8e4m3) (ks : Fin 8192 → EReal)
    (g : Fin 4) (q : Fin 256) (s : ℕ) : EReal :=
  if h : s < 8192 ∧ s < n then dot x0 x2 ⟨s, h.1⟩ g q * ks ⟨s, h.1⟩ else ⊥

variable (n : ℕ) (x0 : FVec Ideal S1x256x256 .fp8e4m3) (x2 : FVec Ideal S1x1x8192x128 .fp8e4m3) (ks : Fin 8192 → EReal)

/-- The scores of 512 keys from row `o`, as the block the body stores. -/
def blk (g : Fin 4) (o : ℕ) : FVec Ideal S512x256 .f32 := fun i => T n x0 x2 ks g (i 1) (o + (i 0).val)

/-- The same before the masking. -/
def scr (g : Fin 4) (o : ℕ) : FVec Ideal S512x256 .f32 :=
  fun i => if h : o + (i 0).val < 8192 then dot x0 x2 ⟨o + (i 0).val, h⟩ g (i 1) * ks ⟨o + (i 0).val, h⟩ else ⊥

/-- The running maxima after 512 more keys from row `o`: row `r` of eight takes every eighth key. -/
def stepMax (g : Fin 4) (o : ℕ) (a : FVec Ideal S8x256 .f32) : FVec Ideal S8x256 .f32 :=
  fun i => max (a i) (Finset.univ.fold max ⊥ fun j : Fin 64 => T n x0 x2 ks g (i 1) (o + (j.val * 8 + (i 0).val)))

/-- The pattern of minus infinity. -/
theorem ofBits_neg_inf : Ideal.ofBits FTy.f32 4286578688#32 = (⊥ : EReal) := by
  simp [Ideal.ofBits, Ideal.ieee]

variable {n x0 x2 ks}

/-- The product of a chunk of keys with the queries of head `g`, times the key scales. -/
theorem score {V6 : FVec Ideal S1x1x512x128 .fp8e4m3} {V11 : FVec Ideal S512x128 .f32} {Q : FVec Ideal S1x64x256 .fp8e4m3} {g : Fin 4}
    {o : ℕ} (ho : o + 512 ≤ 8192) {h1 h2}
    (e6 : ∀ (r : Fin 512) (l : Fin 128), V6 (ix4 0 0 r l) = x2 (ix4 0 0 ⟨o + r.val, by omega⟩ l))
    (e11 : ∀ (r : Fin 512) (l : Fin 128), V11 (ix2 r l) = ks ⟨o + r.val, by omega⟩)
    (e4 : ∀ (x : Fin 64) (q : Fin 256), Q (ix3 0 x q) = x0 (ix3 0 ⟨64 * g.val + x.val, by omega⟩ q)) :
    k0_pay146 (F := Ideal) (shapeCast S512x128 V6 h1) (concatenate S512x256 1 [⟨S512x128, V11⟩, ⟨S512x128, V11⟩] h2) Q = scr x0 x2 ks g o := by
  funext j
  idx_vars j
  refine Eq.trans ?_ (dif_pos (show o + j0.val < 8192 by omega)).symm
  unfold dot
  pointwise [k0_pay146]
  simp only [e6, e11, e4]
  first
    | rfl
    | (split
       · rfl
       · rfl)

/-- Before the length no score is masked. -/
theorem scr_eq_blk {g : Fin 4} {o : ℕ} (ho : o + 512 ≤ 8192) (hn : o + 512 ≤ n) : scr x0 x2 ks g o = blk n x0 x2 ks g o := by
  funext j
  have h0 : (j 0).val < 512 := (j 0).isLt
  refine (dif_pos (show o + (j 0).val < 8192 by omega)).trans (Eq.symm (dif_pos ⟨?_, ?_⟩)) <;> omega

/-- The reshaped block is the block. -/
theorem cast_blk {g : Fin 4} {o : ℕ} {h} : shapeCast S512x256 (blk n x0 x2 ks g o) h = blk n x0 x2 ks g o := by
  funext j
  idx_vars j
  pointwise

/-- The maxima of a block, joined to the running ones. -/
theorem max_blk {g : Fin 4} {o : ℕ} (a : FVec Ideal S8x256 .f32) {h1 h2 h3 h4} :
    maximumf a (multiReduction .maximumf [0] S8x256 (shapeCast S64x8x256 (blk n x0 x2 ks g o) h1) 0xFF800000#32 h2 h3 h4) = stepMax n x0 x2 ks g o a := by
  funext j
  idx_vars j
  pointwise
  rw [ofBits_neg_inf]
  rfl

/-- The same for whatever vector equals the block. -/
theorem max_of {g : Fin 4} {o : ℕ} {z : FVec Ideal S512x256 .f32} (hz : z = blk n x0 x2 ks g o) (a : FVec Ideal S8x256 .f32) {h1 h2 h3 h4} :
    maximumf a (multiReduction .maximumf [0] S8x256 (shapeCast S64x8x256 z h1) 0xFF800000#32 h2 h3 h4) = stepMax n x0 x2 ks g o a := by
  subst hz; exact max_blk a

/-- The reshaped vector of one that equals the block. -/
theorem cast_of {g : Fin 4} {o : ℕ} {z : FVec Ideal S512x256 .f32} (hz : z = blk n x0 x2 ks g o) {h} : shapeCast S512x256 z h = blk n x0 x2 ks g o := by
  subst hz; exact cast_blk

/-- Masking by the length: the select keeps the scores below it. -/
theorem mask_of (hn : n ≤ 8192) {g : Fin 4} {a k : ℕ} (ho : 512 * (a + k) + 512 ≤ 8192) {z : FVec Ideal S512x256 .f32} {h}
    (hz : z = scr x0 x2 ks g (512 * (a + k))) :
    select (cmpi .slt (addi (broadcast S512x256 (Scalar.muli (Scf.iv (BitVec.ofNat 32 a) 1#32 k) 512#32)) (iota .tc S512x256 32 [0] h))
        (broadcast S512x256 (BitVec.ofNat 32 n : BitVec 32)))
      z (broadcast S512x256 (Scalar.ofBits (F := Ideal) .f32 0xFF800000#32)) = blk n x0 x2 ks g (512 * (a + k)) := by
  subst hz
  funext j
  idx_vars j
  pointwise
  have h0 := j0.isLt
  have hw : IntOp.addi (Scalar.muli (Scf.iv (BitVec.ofNat 32 a) (1#32) k) 512#32) (BitVec.ofNat 32 j0.val) = BitVec.ofNat 32 (512 * (a + k) + j0.val) := by
    unfold Scf.iv Scalar.muli IntOp.muli IntOp.addi
    apply BitVec.eq_of_toNat_eq
    simp
    omega
  have hc : IntOp.cmpi .slt (BitVec.ofNat 32 (512 * (a + k) + j0.val)) (BitVec.ofNat 32 n) = BitVec.ofBool (decide (512 * (a + k) + j0.val < n)) := by
    refine Eq.trans (b := BitVec.ofBool (decide (_ < _))) rfl ?_
    rw [Words.toInt_ofNat (by omega), Words.toInt_ofNat (by omega)]
    exact congrArg BitVec.ofBool (decide_eq_decide.mpr Nat.cast_lt)
  rw [hw, hc, ofBits_neg_inf]
  by_cases hlt : 512 * (a + k) + j0.val < n
  · rw [decide_eq_true hlt]
    have hl : 512 * (a + k) + j0.val < 8192 := by omega
    have hb : blk n x0 x2 ks g (512 * (a + k)) (ix2 j0 j1) = dot x0 x2 ⟨_, hl⟩ g j1 * ks ⟨_, hl⟩ := dif_pos ⟨hl, hlt⟩
    have hs : scr x0 x2 ks g (512 * (a + k)) (ix2 j0 j1) = dot x0 x2 ⟨_, hl⟩ g j1 * ks ⟨_, hl⟩ := dif_pos hl
    rw [hb, hs]
    rfl
  · rw [decide_eq_false hlt]
    have hb : blk n x0 x2 ks g (512 * (a + k)) (ix2 j0 j1) = ⊥ := dif_neg fun hh => hlt hh.2
    rw [hb]
    rfl

end Cert.AttnIdeal.Val

end
-- ==== Proof.AttnIdeal.Weight.lean ====
/- The weights of a chunk of 512 keys, their sums and their products with the values, as functions of the stored scores. -/
module

public import proofs.«01_k».proof.Proof.AttnIdeal.Score

@[expose] public section

set_option maxRecDepth 16384

noncomputable section

namespace Cert.AttnIdeal.Val

open Idealize.ShloMosaic Cert.AttnIdeal Cert.AttnIdeal.Gen

/-- The weight of key `s` for query `q` of head `g`: two to the stored score times the scale less the maximum. -/
def pw (x12 : FVec Ideal S8192x1024 .f32) (a m : FVec Ideal S1x256 .f32) (g : Fin 4) (q : Fin 256) (s : ℕ) : EReal :=
  if h : s < 8192 then Ideal.exp2 (x12 (ix2 ⟨s, h⟩ ⟨256 * g.val + q.val, by omega⟩) * a (ix2 0 q) - m (ix2 0 q)) else 0

/-- The largest finite 8-bit code. -/
def cap : EReal := Ideal.ofBits FTy.f32 1138753536#32

/-- The running sums after 512 more keys from row `o`: row `r` of eight takes every eighth key. -/
def stepSum (x12 : FVec Ideal S8192x1024 .f32) (a m : FVec Ideal S1x256 .f32) (g : Fin 4) (o : ℕ) (s8 : FVec Ideal S8x256 .f32) : FVec Ideal S8x256 .f32 :=
  fun i => s8 i + ∑ j : Fin 64, pw x12 a m g (i 1) (o + (j.val * 8 + (i 0).val))

/-- The accumulated products after 512 more keys from row `o`. -/
def stepAcc (x8 : FVec Ideal S1x1x64x8192 .fp8e4m3) (x12 : FVec Ideal S8192x1024 .f32) (a m : FVec Ideal S1x256 .f32) (g : Fin 4) (o : ℕ)
    (b : FVec Ideal S64x256 .f32) : FVec Ideal S64x256 .f32 :=
  fun i => b i + ∑ s : Fin 512, (if h : o + s.val < 8192 then x8 (ix4 0 0 (i 0) ⟨o + s.val, h⟩) else 0) * min (pw x12 a m g (i 1) (o + s.val)) cap

variable {x8 : FVec Ideal S1x1x64x8192 .fp8e4m3} {x12 : FVec Ideal S8192x1024 .f32} {a m : FVec Ideal S1x256 .f32} {g : Fin 4} {o : ℕ}

/-- The weights of a chunk, element by element. -/
theorem weight {V12 : FVec Ideal S512x256 .f32} (ho : o + 512 ≤ 8192)
    (e12 : ∀ (r : Fin 512) (q : Fin 256), V12 (ix2 r q) = x12 (ix2 ⟨o + r.val, by omega⟩ ⟨256 * g.val + q.val, by omega⟩)) {h1 h2} :
    exp2 (subf (mulf V12 (broadcastTo S512x256 a h1)) (broadcastTo S512x256 m h2)) = fun i => pw x12 a m g (i 1) (o + (i 0).val) := by
  funext j
  idx_vars j
  refine Eq.trans ?_ (dif_pos (show o + j0.val < 8192 by omega)).symm
  pointwise
  rw [e12]
  rfl

/-- The sums of the weights of a chunk, joined to the running ones. -/
theorem sum_of {V12 : FVec Ideal S512x256 .f32} (ho : o + 512 ≤ 8192)
    (e12 : ∀ (r : Fin 512) (q : Fin 256), V12 (ix2 r q) = x12 (ix2 ⟨o + r.val, by omega⟩ ⟨256 * g.val + q.val, by omega⟩))
    (s8 : FVec Ideal S8x256 .f32) {h1 h2 h3 h4 h5 h6} :
    addf s8 (multiReduction .add [0] S8x256 (shapeCast S64x8x256 (exp2 (subf (mulf V12 (broadcastTo S512x256 a h1)) (broadcastTo S512x256 m h2))) h3) 0#32 h4 h5 h6)
      = stepSum x12 a m g o s8 := by
  rw [weight ho e12]
  funext j
  idx_vars j
  pointwise
  rfl

/-- The products of a chunk's values with its weights, joined to the accumulated ones. -/
theorem acc_of {V12 : FVec Ideal S512x256 .f32} {V8 : FVec Ideal S1x1x64x512 .fp8e4m3} (ho : o + 512 ≤ 8192)
    (e12 : ∀ (r : Fin 512) (q : Fin 256), V12 (ix2 r q) = x12 (ix2 ⟨o + r.val, by omega⟩ ⟨256 * g.val + q.val, by omega⟩))
    (e8 : ∀ (d : Fin 64) (r : Fin 512), V8 (ix4 0 0 d r) = x8 (ix4 0 0 d ⟨o + r.val, by omega⟩))
    (b : FVec Ideal S64x256 .f32) {h1 h2 h3 h4 h5} :
    shapeCast S64x256 (addf b (matmul (F := Ideal) dot_S64x512_S512x256_S64x256_1_0_0_1_n_n none (shapeCast S64x512 V8 h3)
      (truncf .fp8e4m3 (minimumf (exp2 (subf (mulf V12 (broadcastTo S512x256 a h1)) (broadcastTo S512x256 m h2))) (broadcast S512x256 (Scalar.ofBits (F := Ideal) .f32 1138753536#32))) h4)
      (constant S64x256 .f32 0#32))) h5 = stepAcc x8 x12 a m g o b := by
  rw [weight ho e12]
  funext j
  idx_vars j
  pointwise
  refine congrArg (b (ix2 j0 j1) + ·) (Finset.sum_congr rfl fun x _ => ?_)
  have hx := x.isLt
  have e : (if h : o + x.val < 8192 then x8 (ix4 0 0 j0 ⟨o + x.val, h⟩) else 0) = V8 (ix4 0 0 j0 x) := (dif_pos (by omega)).trans (e8 j0 x).symm
  exact congrArg (· * min (pw x12 a m g j1 (o + x.val)) cap) e.symm

end Cert.AttnIdeal.Val

end
-- ==== Proof.AttnIdeal.Sums.lean ====
/- The running maxima, sums and products after a number of chunks of 512 keys. -/
module

public import proofs.«01_k».proof.Proof.AttnIdeal.Weight

@[expose] public section

set_option maxRecDepth 16384

noncomputable section

namespace Cert.AttnIdeal.Val

open Idealize.ShloMosaic Cert.AttnIdeal Cert.AttnIdeal.Gen

/-- The running maxima after `K` chunks. -/
def mx (n : ℕ) (x0 : FVec Ideal S1x256x256 .fp8e4m3) (x2 : FVec Ideal S1x1x8192x128 .fp8e4m3) (ks : Fin 8192 → EReal) (g : Fin 4) (K : ℕ) :
    FVec Ideal S8x256 .f32 :=
  fun i => (Finset.range (64 * K)).sup fun j => T n x0 x2 ks g (i 1) (8 * j + (i 0).val)

/-- The running sums after `K` chunks. -/
def sm (x12 : FVec Ideal S8192x1024 .f32) (a m : FVec Ideal S1x256 .f32) (g : Fin 4) (K : ℕ) : FVec Ideal S8x256 .f32 :=
  fun i => ∑ j ∈ Finset.range (64 * K), pw x12 a m g (i 1) (8 * j + (i 0).val)

/-- The accumulated products after `K` chunks. -/
def ac (x8 : FVec Ideal S1x1x64x8192 .fp8e4m3) (x12 : FVec Ideal S8192x1024 .f32) (a m : FVec Ideal S1x256 .f32) (g : Fin 4) (K : ℕ) :
    FVec Ideal S64x256 .f32 :=
  fun i => ∑ s ∈ Finset.range (512 * K), (if h : s < 8192 then x8 (ix4 0 0 (i 0) ⟨s, h⟩) else 0) * min (pw x12 a m g (i 1) s) cap

/-- A supremum over 64 more terms. -/
theorem sup_add (f : ℕ → EReal) (N : ℕ) :
    (Finset.range (N + 64)).sup f = max ((Finset.range N).sup f) (Finset.univ.fold max ⊥ fun j : Fin 64 => f (N + j.val)) := by
  have hf : (Finset.univ.fold max ⊥ fun j : Fin 64 => f (N + j.val)) = Finset.univ.sup fun j : Fin 64 => f (N + j.val) := rfl
  rw [hf]
  apply le_antisymm
  · refine Finset.sup_le fun j hj => ?_
    rw [Finset.mem_range] at hj
    by_cases h : j < N
    · exact le_max_of_le_left (Finset.le_sup (f := f) (Finset.mem_range.mpr h))
    · refine le_max_of_le_right ?_
      have := Finset.le_sup (f := fun j : Fin 64 => f (N + j.val)) (Finset.mem_univ (⟨j - N, by omega⟩ : Fin 64))
      refine le_trans (le_of_eq ?_) this
      show f j = f (N + (j - N))
      congr 1; omega
  · refine max_le (Finset.sup_mono (Finset.range_subset_range.mpr (by omega))) (Finset.sup_le fun j _ => ?_)
    exact Finset.le_sup (f := f) (Finset.mem_range.mpr (by have := j.isLt; omega))

variable {n : ℕ} {x0 : FVec Ideal S1x256x256 .fp8e4m3} {x2 : FVec Ideal S1x1x8192x128 .fp8e4m3} {ks : Fin 8192 → EReal}
  {x8 : FVec Ideal S1x1x64x8192 .fp8e4m3} {x12 : FVec Ideal S8192x1024 .f32} {a m : FVec Ideal S1x256 .f32} {g : Fin 4}

/-- One more chunk of maxima. -/
theorem mx_succ (K : ℕ) : stepMax n x0 x2 ks g (512 * K) (mx n x0 x2 ks g K) = mx n x0 x2 ks g (K + 1) := by
  funext i
  unfold stepMax mx
  rw [show 64 * (K + 1) = 64 * K + 64 by ring, sup_add]
  refine congrArg (max _) (congrArg (Finset.fold max ⊥ · _) (funext fun j => congrArg _ ?_))
  ring

/-- One more chunk of sums. -/
theorem sm_succ (K : ℕ) : stepSum x12 a m g (512 * K) (sm x12 a m g K) = sm x12 a m g (K + 1) := by
  funext i
  unfold stepSum sm
  rw [show 64 * (K + 1) = 64 * K + 64 by ring, Finset.sum_range_add]
  refine congrArg (_ + ·) (Eq.trans (Finset.sum_congr rfl fun j _ => congrArg (pw x12 a m g (i 1)) ?_)
    (Finset.sum_range (fun x => pw x12 a m g (i 1) (8 * (64 * K + x) + (i 0).val))).symm)
  ring

/-- One more chunk of products. -/
theorem ac_succ (K : ℕ) {b : FVec Ideal S64x256 .f32} (hb : b = ac x8 x12 a m g K) : stepAcc x8 x12 a m g (512 * K) b = ac x8 x12 a m g (K + 1) := by
  subst hb
  funext i
  unfold stepAcc ac
  rw [show 512 * (K + 1) = 512 * K + 512 by ring, Finset.sum_range_add]
  refine congrArg (_ + ·) (Finset.sum_range (fun s => (if h : 512 * K + s < 8192 then x8 (ix4 0 0 (i 0) ⟨512 * K + s, h⟩) else 0) * min (pw x12 a m g (i 1) (512 * K + s)) cap)).symm

/-- Before the first chunk the maxima are minus infinity. -/
theorem mx_zero : mx n x0 x2 ks g 0 = fun _ => ⊥ := by
  funext i; unfold mx; simp

/-- Before the first chunk the sums are zero. -/
theorem sm_zero : sm x12 a m g 0 = fun _ => 0 := by
  funext i; unfold sm; simp

/-- Before the first chunk the products are zero. -/
theorem ac_zero : ac x8 x12 a m g 0 = fun _ => 0 := by
  funext i; unfold ac; simp

end Cert.AttnIdeal.Val

end
-- ==== Proof.AttnIdeal.Out.lean ====
/- What a program of the attention call leaves in its block of the output, as a function of its blocks. -/
module

public import proofs.«01_k».proof.Proof.AttnIdeal.Sums

@[expose] public section

set_option maxRecDepth 16384

noncomputable section

namespace Cert.AttnIdeal.Val

open Idealize.ShloMosaic Cert.AttnIdeal Cert.AttnIdeal.Gen

/-- The named constant log2(e)/8. -/
def kap : EReal := Named.named (F := Ideal) (φ := .f32) κ "log2e_inv_sqrt_d" 0x3E38AA3B#32

/-- The eight the maximum is lowered by. -/
def eight : EReal := Ideal.ofBits FTy.f32 0x41000000#32

variable (n : ℕ) (x0 : FVec Ideal S1x256x256 .fp8e4m3) (x1 : FVec Ideal S1x1x4x256 .f32) (x2 : FVec Ideal S1x1x8192x128 .fp8e4m3) (ks : Fin 8192 → EReal)
  (x4 : FVec Ideal S1x1x64x8192 .fp8e4m3) (x5 : FVec Ideal S1x1x64x128 .f32)

/-- The scale of query `q` of head `g`. -/
def av (g : Fin 4) (q : Fin 256) : EReal := x1 (ix4 0 0 g q) * kap

/-- The lowered maximum of query `q` of head `g` over `K` chunks. -/
def mv (K : ℕ) (g : Fin 4) (q : Fin 256) : EReal :=
  (Finset.univ.fold max ⊥ fun r : Fin 8 => mx n x0 x2 ks g K (ix2 r q)) * av x1 g q - eight

/-- The weight of key `s`. -/
def PW (K : ℕ) (g : Fin 4) (q : Fin 256) (s : ℕ) : EReal := Ideal.exp2 (T n x0 x2 ks g q s * av x1 g q - mv n x0 x1 x2 ks K g q)

/-- One element of the output: the products with the capped weights, scaled, over the sum of the weights. -/
def outE (K : ℕ) (g : Fin 4) (q : Fin 256) (d : Fin 64) : EReal :=
  Ideal.div ((∑ s ∈ Finset.range (512 * K), (if h : s < 8192 then x4 (ix4 0 0 d ⟨s, h⟩) else 0) * min (PW n x0 x1 x2 ks K g q s) cap)
      * x5 (ix4 0 0 d ⟨q.val % 128, by omega⟩))
    (∑ r : Fin 8, ∑ j ∈ Finset.range (64 * K), PW n x0 x1 x2 ks K g q (8 * j + r.val))

/-- The block of the output. -/
def outV : FVec Ideal S1x256x256 .bf16 :=
  fun i => outE n x0 x1 x2 ks x4 x5 ((n + 511) / 512) ⟨(i 2).val / 64, by have : (i 2).val < 256 := (i 2).isLt; omega⟩ (i 1) ⟨(i 2).val % 64, by omega⟩

variable {n x0 x1 x2 ks x4 x5}

/-- The scales of head 0's queries times the constant. -/
theorem pay157 {V : FVec Ideal S1x1x1x256 .f32} {g : Fin 4} (h : ∀ q, V (ix4 0 0 0 q) = x1 (ix4 0 0 g q)) :
    k0_pay157 (F := Ideal) V = fun i => av x1 g (i 1) := by
  funext j
  idx_vars j
  pointwise [k0_pay157]
  rw [h]
  rfl

/-- The scales of head 1's queries times the constant. -/
theorem pay158 {V : FVec Ideal S1x1x1x256 .f32} {g : Fin 4} (h : ∀ q, V (ix4 0 0 0 q) = x1 (ix4 0 0 g q)) :
    k0_pay158 (F := Ideal) V = fun i => av x1 g (i 1) := by
  funext j
  idx_vars j
  pointwise [k0_pay158]
  rw [h]
  rfl

/-- The scales of head 2's queries times the constant. -/
theorem pay159 {V : FVec Ideal S1x1x1x256 .f32} {g : Fin 4} (h : ∀ q, V (ix4 0 0 0 q) = x1 (ix4 0 0 g q)) :
    k0_pay159 (F := Ideal) V = fun i => av x1 g (i 1) := by
  funext j
  idx_vars j
  pointwise [k0_pay159]
  rw [h]
  rfl

/-- The scales of head 3's queries times the constant. -/
theorem pay160 {V : FVec Ideal S1x1x1x256 .f32} {g : Fin 4} (h : ∀ q, V (ix4 0 0 0 q) = x1 (ix4 0 0 g q)) :
    k0_pay160 (F := Ideal) V = fun i => av x1 g (i 1) := by
  funext j
  idx_vars j
  pointwise [k0_pay160]
  rw [h]
  rfl

/-- The lowered maxima of head 0's queries. -/
theorem pay161 {K : ℕ} {g : Fin 4} {a : FVec Ideal S1x256 .f32} (ha : a = fun i => av x1 g (i 1)) :
    k0_pay161 (F := Ideal) (mx n x0 x2 ks g K) a = fun i => mv n x0 x1 x2 ks K g (i 1) := by
  subst ha
  funext j
  idx_vars j
  pointwise [k0_pay161]
  rw [ofBits_neg_inf]
  rfl

/-- The lowered maxima of head 1's queries. -/
theorem pay162 {K : ℕ} {g : Fin 4} {a : FVec Ideal S1x256 .f32} (ha : a = fun i => av x1 g (i 1)) :
    k0_pay162 (F := Ideal) (mx n x0 x2 ks g K) a = fun i => mv n x0 x1 x2 ks K g (i 1) := by
  subst ha
  funext j
  idx_vars j
  pointwise [k0_pay162]
  rw [ofBits_neg_inf]
  rfl

/-- The lowered maxima of head 2's queries. -/
theorem pay163 {K : ℕ} {g : Fin 4} {a : FVec Ideal S1x256 .f32} (ha : a = fun i => av x1 g (i 1)) :
    k0_pay163 (F := Ideal) (mx n x0 x2 ks g K) a = fun i => mv n x0 x1 x2 ks K g (i 1) := by
  subst ha
  funext j
  idx_vars j
  pointwise [k0_pay163]
  rw [ofBits_neg_inf]
  rfl

/-- The lowered maxima of head 3's queries. -/
theorem pay164 {K : ℕ} {g : Fin 4} {V : FVec Ideal S1x1x1x256 .f32} (h : ∀ q, V (ix4 0 0 0 q) = x1 (ix4 0 0 g q)) :
    k0_pay164 (F := Ideal) (mx n x0 x2 ks g K) V = fun i => mv n x0 x1 x2 ks K g (i 1) := by
  unfold k0_pay164
  rw [pay160 h]
  funext j
  idx_vars j
  pointwise
  rw [ofBits_neg_inf]
  rfl

/-- The value scale of a query's lane: the two halves of the spread block are the same. -/
theorem lane (V : FVec Ideal S1x1x64x128 .f32) (d : Fin 64) (q : Fin 256) :
    (if h : q.val < 128 then V (ix4 0 0 d ⟨q.val, h⟩) else V (ix4 0 0 d ⟨q.val - 128, by omega⟩)) = V (ix4 0 0 d ⟨q.val % 128, by omega⟩) := by
  split
  · exact congrArg (fun l => V (ix4 0 0 d l)) (Fin.ext (by show q.val = q.val % 128; omega))
  · exact congrArg (fun l => V (ix4 0 0 d l)) (Fin.ext (by show q.val - 128 = q.val % 128; omega))

/-- The stored block, element by element, before its cases are joined. -/
theorem pay172_raw (s0 s1 s2 s3 : FVec Ideal S8x256 .f32) (V110 : FVec Ideal S1x1x64x128 .f32) (b0 b1 b2 b3 : FVec Ideal S64x256 .f32) (j1 j2 : Fin 256)
    (z : EReal) (hz : z = if h : j2.val < 64 then Ideal.div (b0 (ix2 ⟨j2.val, by omega⟩ j1) * (if h : j1.val < 128 then V110 (ix4 0 0 ⟨j2.val, by omega⟩ ⟨j1.val, h⟩) else V110 (ix4 0 0 ⟨j2.val, by omega⟩ ⟨j1.val - 128, by omega⟩))) (∑ r, s0 (ix2 r j1))
      else if h1 : j2.val - 64 < 64 then Ideal.div (b1 (ix2 ⟨j2.val - 64, by omega⟩ j1) * (if h : j1.val < 128 then V110 (ix4 0 0 ⟨j2.val - 64, by omega⟩ ⟨j1.val, h⟩) else V110 (ix4 0 0 ⟨j2.val - 64, by omega⟩ ⟨j1.val - 128, by omega⟩))) (∑ r, s1 (ix2 r j1))
      else if h2 : j2.val - 64 - 64 < 64 then Ideal.div (b2 (ix2 ⟨j2.val - 64 - 64, by omega⟩ j1) * (if h : j1.val < 128 then V110 (ix4 0 0 ⟨j2.val - 64 - 64, by omega⟩ ⟨j1.val, h⟩) else V110 (ix4 0 0 ⟨j2.val - 64 - 64, by omega⟩ ⟨j1.val - 128, by omega⟩))) (∑ r, s2 (ix2 r j1))
      else Ideal.div (b3 (ix2 ⟨j2.val - 64 - 64 - 64, by omega⟩ j1) * (if h : j1.val < 128 then V110 (ix4 0 0 ⟨j2.val - 64 - 64 - 64, by omega⟩ ⟨j1.val, h⟩) else V110 (ix4 0 0 ⟨j2.val - 64 - 64 - 64, by omega⟩ ⟨j1.val - 128, by omega⟩))) (∑ r, s3 (ix2 r j1))) :
    k0_pay172 (F := Ideal) s0 s1 s2 s3 V110 b0 b1 b2 b3 (ix3 0 j1 j2) = z := by
  rw [hz]
  clear hz
  pointwise [k0_pay172]

/-- The stored block, element by element. -/
theorem pay172 (S : Fin 4 → FVec Ideal S8x256 .f32) (V110 : FVec Ideal S1x1x64x128 .f32) (A : Fin 4 → FVec Ideal S64x256 .f32) (j1 j2 : Fin 256) :
    k0_pay172 (F := Ideal) (S 0) (S 1) (S 2) (S 3) V110 (A 0) (A 1) (A 2) (A 3) (ix3 0 j1 j2) =
      Ideal.div (A ⟨j2.val / 64, by omega⟩ (ix2 ⟨j2.val % 64, by omega⟩ j1) * V110 (ix4 0 0 ⟨j2.val % 64, by omega⟩ ⟨j1.val % 128, by omega⟩))
        (∑ r : Fin 8, S ⟨j2.val / 64, by omega⟩ (ix2 r j1)) := by
  have key : ∀ (g : Fin 4) (d : Fin 64), g.val = j2.val / 64 → d.val = j2.val % 64 →
      Ideal.div (A g (ix2 d j1) * V110 (ix4 0 0 d ⟨j1.val % 128, by omega⟩)) (∑ r : Fin 8, S g (ix2 r j1)) =
      Ideal.div (A ⟨j2.val / 64, by omega⟩ (ix2 ⟨j2.val % 64, by omega⟩ j1) * V110 (ix4 0 0 ⟨j2.val % 64, by omega⟩ ⟨j1.val % 128, by omega⟩))
        (∑ r : Fin 8, S ⟨j2.val / 64, by omega⟩ (ix2 r j1)) := by
    rintro ⟨g, hg⟩ ⟨d, hd⟩ h1 h2
    dsimp only at h1 h2
    subst h1 h2
    rfl
  refine (pay172_raw (S 0) (S 1) (S 2) (S 3) V110 (A 0) (A 1) (A 2) (A 3) j1 j2 _ rfl).trans ?_
  simp only [lane]
  have hj := j2.isLt
  split_ifs with h1 h2 h3
  · exact key 0 ⟨_, h1⟩ (by show 0 = _; omega) (by show j2.val = _; omega)
  · exact key 1 ⟨_, h2⟩ (by show 1 = _; omega) (by show j2.val - 64 = _; omega)
  · exact key 2 ⟨_, h3⟩ (by show 2 = _; omega) (by show j2.val - 64 - 64 = _; omega)
  · exact key 3 ⟨j2.val - 64 - 64 - 64, by omega⟩ (by show 3 = _; omega) (by show j2.val - 64 - 64 - 64 = _; omega)

/-- The weight computed from the stored scores is the weight of the score. -/
theorem pw_eq {x12 : FVec Ideal S8192x1024 .f32} {K : ℕ} (g : Fin 4) (q : Fin 256) {s : ℕ} (hs : s < 8192)
    (hx : x12 (ix2 ⟨s, hs⟩ ⟨256 * g.val + q.val, by omega⟩) = T n x0 x2 ks g q s) :
    pw x12 (fun i => av x1 g (i 1)) (fun i => mv n x0 x1 x2 ks K g (i 1)) g q s = PW n x0 x1 x2 ks K g q s := by
  refine (dif_pos hs).trans ?_
  rw [hx]
  rfl

/-- The stored block from the buffers the loops leave. -/
theorem out_eq {x12 : FVec Ideal S8192x1024 .f32} {K : ℕ} (hK : K = (n + 511) / 512) (hn : n ≤ 8192)
    (hx : ∀ (g : Fin 4) (q : Fin 256) (s : Fin 8192), s.val < 512 * K → x12 (ix2 s ⟨256 * g.val + q.val, by omega⟩) = T n x0 x2 ks g q s.val)
    {V110 : FVec Ideal S1x1x64x128 .f32} (h110 : V110 = x5)
    {S0 S1 S2 S3 : FVec Ideal S8x256 .f32} {A0 A1 A2 A3 : FVec Ideal S64x256 .f32}
    (hS0 : S0 = sm x12 (fun i => av x1 0 (i 1)) (fun i => mv n x0 x1 x2 ks K 0 (i 1)) 0 K)
    (hS1 : S1 = sm x12 (fun i => av x1 1 (i 1)) (fun i => mv n x0 x1 x2 ks K 1 (i 1)) 1 K)
    (hS2 : S2 = sm x12 (fun i => av x1 2 (i 1)) (fun i => mv n x0 x1 x2 ks K 2 (i 1)) 2 K)
    (hS3 : S3 = sm x12 (fun i => av x1 3 (i 1)) (fun i => mv n x0 x1 x2 ks K 3 (i 1)) 3 K)
    (hA0 : A0 = ac x4 x12 (fun i => av x1 0 (i 1)) (fun i => mv n x0 x1 x2 ks K 0 (i 1)) 0 K)
    (hA1 : A1 = ac x4 x12 (fun i => av x1 1 (i 1)) (fun i => mv n x0 x1 x2 ks K 1 (i 1)) 1 K)
    (hA2 : A2 = ac x4 x12 (fun i => av x1 2 (i 1)) (fun i => mv n x0 x1 x2 ks K 2 (i 1)) 2 K)
    (hA3 : A3 = ac x4 x12 (fun i => av x1 3 (i 1)) (fun i => mv n x0 x1 x2 ks K 3 (i 1)) 3 K) :
    k0_pay172 (F := Ideal) S0 S1 S2 S3 V110 A0 A1 A2 A3 = outV n x0 x1 x2 ks x4 x5 := by
  subst hS0 hS1 hS2 hS3 hA0 hA1 hA2 hA3 h110
  funext j
  obtain ⟨j1, j2, rfl⟩ : ∃ (j1 j2 : Fin 256), j = ix3 0 j1 j2 :=
    ⟨j 1, j 2, by funext a; fin_cases a <;> first | rfl | exact Subsingleton.elim (α := Fin 1) _ _⟩
  refine (pay172 (fun g => sm x12 (fun i => av x1 g (i 1)) (fun i => mv n x0 x1 x2 ks K g (i 1)) g K) V110
    (fun g => ac x4 x12 (fun i => av x1 g (i 1)) (fun i => mv n x0 x1 x2 ks K g (i 1)) g K) j1 j2).trans ?_
  refine Eq.trans ?_ (show outE n x0 x1 x2 ks x4 V110 ((n + 511) / 512) ⟨j2.val / 64, by omega⟩ j1 ⟨j2.val % 64, by omega⟩ = _ from rfl)
  rw [← hK]
  generalize (⟨j2.val / 64, _⟩ : Fin 4) = g
  generalize (⟨j2.val % 64, _⟩ : Fin 64) = d
  have hp : ∀ s, s < 512 * K → pw x12 (fun i => av x1 g (i 1)) (fun i => mv n x0 x1 x2 ks K g (i 1)) g j1 s = PW n x0 x1 x2 ks K g j1 s :=
    fun s hs => pw_eq g j1 (by omega) (hx g j1 ⟨s, by omega⟩ hs)
  unfold outE
  refine congrArg₂ Ideal.div (congrArg (· * _) (Finset.sum_congr rfl fun s hs => ?_))
    (Finset.sum_congr rfl fun r _ => Finset.sum_congr rfl fun j hj => hp _ ?_)
  · exact congrArg (fun z => (if h : s < 8192 then x4 (ix4 0 0 d ⟨s, h⟩) else 0) * min z cap) (hp s (Finset.mem_range.mp hs))
  · have := Finset.mem_range.mp hj
    have := r.isLt
    show 8 * j + r.val < 512 * K
    omega

end Cert.AttnIdeal.Val

end
-- ==== Proof.ReferenceIdeal.Pay.lean ====
/- What the reference computes, element by element, as a function of its arguments. -/
module

public import proofs.«01_k».proof.Proof.Gen.ReferenceIdeal.Skeleton
public import proofs.«01_k».proof.Proof.Words
public import Idealize.ShloMosaic.Lib.Pointwise

@[expose] public section

set_option maxRecDepth 16384

noncomputable section

namespace Cert.ReferenceIdeal.Val

open Idealize.ShloMosaic Cert.ReferenceIdeal Cert.ReferenceIdeal.Gen

/-- The scaled scores. -/
theorem scores (v0 : FVec Ideal S4x2048x8192 .fp8e4m3) (v2 v3 : FVec Ideal S4x8x8192x64 .fp8e4m3) (v4 : FVec Ideal S4x8x1x8192 .f32)
    (v11 : FVec Ideal S4x8x4x8192 .f32) (b : Fin 4) (h : Fin 8) (g : Fin 4) (q s : Fin 8192) :
    k0_pay2 (F := Ideal) v0 v2 v3 v4 v11 (ix5 b h g q s)
      = ((∑ x : Fin 64, v0 (ix3 b ⟨h.val * 256 + g.val * 64 + x.val, by omega⟩ q) * v2 (ix4 b h s x))
          + ∑ x : Fin 64, v0 (ix3 b ⟨h.val * 256 + g.val * 64 + x.val, by omega⟩ q) * v3 (ix4 b h s x))
        * (v11 (ix4 b h g q) * Ideal.ofBits FTy.f32 0x3E000000#32) * v4 (ix4 b h 0 s) := by
  pointwise [k0_pay2]

/-- The value scales. -/
theorem vscale (v6 : FVec Ideal S4x8x64x1 .f32) (b : Fin 4) (h : Fin 8) (d : Fin 64) :
    k0_pay1 (F := Ideal) v6 (ix3 b h d) = v6 (ix4 b h d 0) := by
  pointwise [k0_pay1]

/-- The length of batch `b`, of the four read one by one. -/
def pick (w0 w1 w2 w3 : BitVec 32) (b : Fin 4) : BitVec 32 := ![w0, w1, w2, w3] b

/-- The chain of selections takes the length of its batch. -/
theorem pick_eq (w0 w1 w2 w3 : BitVec 32) (z : BitVec 32) (b : Fin 4) :
    Scalar.select (IntOp.cmpi .eq (BitVec.ofNat 32 b.val) 3#32) w3
      (Scalar.select (IntOp.cmpi .eq (BitVec.ofNat 32 b.val) 2#32) w2
        (Scalar.select (IntOp.cmpi .eq (BitVec.ofNat 32 b.val) 1#32) w1
          (Scalar.select (IntOp.cmpi .eq (BitVec.ofNat 32 b.val) 0#32) w0 z))) = pick w0 w1 w2 w3 b := by
  fin_cases b <;> rfl

/-- The masked score of key `s`: minus infinity at and past the length. -/
def mask (w : BitVec 32) (sc : Fin 8192 → EReal) (s : Fin 8192) : EReal :=
  Scalar.select (IntOp.cmpi .slt (BitVec.ofNat 32 s.val) w) (sc s) (Ideal.ofBits FTy.f32 0xFF800000#32)

/-- The weight of key `s`: the exponential of its score below the largest. -/
def wt (w : BitVec 32) (sc : Fin 8192 → EReal) (s : Fin 8192) : EReal :=
  Ideal.exp (mask w sc s - Finset.fold max (Ideal.ofBits FTy.f32 0xFF800000#32) (mask w sc) Finset.univ)

/-- One element of the result from its row's scores, its column of the values and that column's scale. -/
def refE (w : BitVec 32) (sc v : Fin 8192 → EReal) (vs : EReal) : EReal :=
  Ideal.div ((∑ s, min (wt w sc s * Ideal.ofBits FTy.f32 0x43800000#32) (Ideal.ofBits FTy.f32 0x43E00000#32) * v s)
      * (vs * Ideal.ofBits FTy.f32 0x3B800000#32)) (∑ s, wt w sc s)

/-- The result from the scores. -/
theorem result (v5 : FVec Ideal S4x8x64x8192 .fp8e4m3) (v7 : FVec Ideal S4x8x64 .f32) (v19 : FVec Ideal S4x8x4x8192x8192 .f32)
    (w0 w1 w2 w3 : BitVec 32) (b : Fin 4) (q : Fin 8192) (cc : Fin 2048) {h} :
    k0_pay4 (F := Ideal) v5 v7 v19 (iota .tc S4x8x4x8192x8192 32 [0] h) (k0_pay3 (F := Ideal) w0) w1 w2 w3 (ix3 b q cc)
      = refE (pick w0 w1 w2 w3 b) (fun s => v19 (ix5 b ⟨cc.val / 256, by omega⟩ ⟨cc.val / 64 % 4, by omega⟩ q s))
          (fun s => v5 (ix4 b ⟨cc.val / 256, by omega⟩ ⟨cc.val % 64, by omega⟩ s))
          (v7 (ix3 b ⟨cc.val / 256, by omega⟩ ⟨cc.val % 64, by omega⟩)) := by
  generalize hz : refE (pick w0 w1 w2 w3 b) (fun s => v19 (ix5 b ⟨cc.val / 256, by omega⟩ ⟨cc.val / 64 % 4, by omega⟩ q s))
          (fun s => v5 (ix4 b ⟨cc.val / 256, by omega⟩ ⟨cc.val % 64, by omega⟩ s))
          (v7 (ix3 b ⟨cc.val / 256, by omega⟩ ⟨cc.val % 64, by omega⟩)) = z
  pointwise [k0_pay4, k0_pay3]
  simp only [pick_eq]
  exact hz

end Cert.ReferenceIdeal.Val

end
-- ==== Proof.Weights.lean ====
/- The arithmetic that joins the two forms of one element of the attention output: the kernel's base-two weights, with the
   constant log2(e)/8 in the query's scale and the maximum lowered by eight, are 256 times the reference's weights. -/
module

public import Idealize.ShloMosaic.PureOps.Ideal
public import Mathlib.Analysis.SpecialFunctions.Log.Basic
public import Mathlib.Analysis.SpecialFunctions.Pow.Real

@[expose] public section

noncomputable section

namespace Cert.Weights

open Idealize.ShloMosaic

/-- log2(e). -/
def lg : EReal := (((Real.log 2)⁻¹ : ℝ) : EReal)

/-- log2(e) is positive. -/
theorem lg_pos : (0 : EReal) < lg := by
  unfold lg
  exact_mod_cast inv_pos.mpr (Real.log_pos (by norm_num))

/-- log2(e) is finite. -/
theorem lg_ne_top : lg ≠ ⊤ := EReal.coe_ne_top _

/-- A base-two weight under a maximum lowered by eight is 256 times the natural weight. -/
theorem exp2_shift (x M : EReal) :
    Ideal.exp2 (x * lg - (M * lg - ((8 : ℝ) : EReal))) = ((256 : ℝ) : EReal) * Ideal.exp (x - M) := by
  have hp : (0 : ℝ) < (Real.log 2)⁻¹ := inv_pos.mpr (Real.log_pos (by norm_num))
  have ht : (⊤ : EReal) * lg = ⊤ := EReal.top_mul_of_pos lg_pos
  have hb : (⊥ : EReal) * lg = ⊥ := EReal.bot_mul_of_pos lg_pos
  have h256t : ((256 : ℝ) : EReal) * ⊤ = ⊤ := EReal.coe_mul_top_of_pos (by norm_num)
  have hr : ∀ r : ℝ, (r : EReal) * lg = ((r * (Real.log 2)⁻¹ : ℝ) : EReal) := fun r => (EReal.coe_mul _ _).symm
  induction M with
  | top =>
    rw [ht, EReal.top_sub_coe, EReal.sub_top, EReal.sub_top]
    simp
  | bot =>
    rw [hb, EReal.bot_sub]
    induction x with
    | top => rw [ht]; simp [h256t]
    | bot => rw [hb]; simp
    | coe r => rw [hr, EReal.coe_sub_bot, EReal.coe_sub_bot]; simp [h256t]
  | coe M =>
    induction x with
    | top => rw [ht, hr, ← EReal.coe_sub, EReal.top_sub_coe, EReal.top_sub_coe]; simp [h256t]
    | bot => rw [hb, EReal.bot_sub, EReal.bot_sub]; simp
    | coe r =>
      rw [hr, hr, ← EReal.coe_sub, ← EReal.coe_sub, ← EReal.coe_sub, Ideal.exp2_coe, Ideal.exp_coe, ← EReal.coe_mul]
      refine congrArg _ ?_
      rw [Real.rpow_eq_pow, Real.rpow_def_of_pos (by norm_num)]
      have h2 : Real.log 2 ≠ 0 := (Real.log_pos (by norm_num)).ne'
      have h8 : (256 : ℝ) = Real.exp (8 * Real.log 2) := by
        rw [mul_comm, Real.exp_mul, Real.exp_log (by norm_num)]; norm_num
      rw [h8, ← Real.exp_add]
      refine congrArg _ ?_
      field_simp
      ring

/-- A weight is not negative. -/
theorem exp_nonneg (x : EReal) : 0 ≤ Ideal.exp x := by
  induction x with
  | top => simp
  | bot => simp
  | coe r => rw [Ideal.exp_coe]; exact_mod_cast (Real.exp_pos r).le

/-- Multiplication by a nonnegative real goes into a sum of weights. -/
theorem mul_sum_nonneg {ι : Type} (s : Finset ι) (f : ι → EReal) (hf : ∀ i, 0 ≤ f i) (c : EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg (hf a) (Finset.sum_nonneg fun i _ => hf i)]

/-- The largest of some scores times a positive number is the largest of the products. -/
theorem sup_mul {ι : Type} (s : Finset ι) (f : ι → EReal) {c : EReal} (hc : 0 < c) :
    (s.sup f) * c = s.sup fun i => f i * c :=
  Finset.comp_sup_eq_sup_comp_of_is_total (fun x : EReal => x * c) (fun _ _ h => mul_le_mul_of_nonneg_right h hc.le)
    (EReal.bot_mul_of_pos hc)

/-- The scale 256 of the sum of the weights goes into the value's scale. -/
theorem div_256 (N vs S : EReal) (hS : 0 ≤ S) :
    Ideal.div (N * vs) (((256 : ℝ) : EReal) * S) = Ideal.div (N * (vs * ((1 / 256 : ℝ) : EReal))) S := by
  rw [← mul_assoc]
  generalize N * vs = X
  induction S with
  | bot => exact absurd hS (by simp)
  | top =>
    rw [EReal.coe_mul_top_of_pos (by norm_num)]
    simp [Ideal.div]
  | coe r =>
    by_cases h : r = 0
    · subst h
      simp only [EReal.coe_zero, mul_zero, Ideal.div, if_true]
      have : (0 < X * ((1 / 256 : ℝ) : EReal)) ↔ 0 < X := by
        have hc : (0 : EReal) < ((1 / 256 : ℝ) : EReal) := by exact_mod_cast (by norm_num : (0 : ℝ) < 1 / 256)
        induction X with
        | top => rw [EReal.top_mul_of_pos hc]
        | bot => rw [EReal.bot_mul_of_pos hc]
        | coe y =>
          rw [← EReal.coe_mul]
          norm_cast
          constructor
          · intro hh; nlinarith
          · intro hh; positivity
      simp only [this]
    · rw [← EReal.coe_mul, Ideal.div_coe (by positivity), Ideal.div_coe h, mul_assoc, ← EReal.coe_mul]
      congr 2
      field_simp

end Cert.Weights

end
-- ==== Proof.Join.lean ====
/- One element of the kernel's output is the reference's. -/
module

public import proofs.«01_k».proof.Proof.AttnIdeal.Out
public import proofs.«01_k».proof.Proof.ReferenceIdeal.Pay
public import proofs.«01_k».proof.Proof.Weights
public import Idealize.ShloMosaic.Lib.Pipeline.ValueKit

@[expose] public section

set_option maxRecDepth 16384

noncomputable section

namespace Cert.Join

open Idealize.ShloMosaic Cert.Weights
open Cert.AttnIdeal.Val (T mx kap eight av mv PW outE cap dot)
open Cert.ReferenceIdeal.Val (mask wt refE)

/-- The kernel's offset of the exponent is eight. -/
theorem eight_eq : eight = ((8 : ℝ) : EReal) := by
  unfold eight
  simp [Ideal.ofBits, Ideal.ieee, -EReal.coe_mul]
  try norm_num

/-- The word of one eighth reads as one eighth. -/
theorem eighth_eq : Ideal.ofBits FTy.f32 0x3E000000#32 = ((1 / 8 : ℝ) : EReal) := by
  simp [Ideal.ofBits, Ideal.ieee, -EReal.coe_mul]
  try norm_num

/-- The word of 256 reads as 256. -/
theorem up_eq : Ideal.ofBits FTy.f32 0x43800000#32 = ((256 : ℝ) : EReal) := by
  simp [Ideal.ofBits, Ideal.ieee, -EReal.coe_mul]
  try norm_num

/-- The word of 1/256 reads as 1/256. -/
theorem down_eq : Ideal.ofBits FTy.f32 0x3B800000#32 = ((1 / 256 : ℝ) : EReal) := by
  simp [Ideal.ofBits, Ideal.ieee, -EReal.coe_mul]
  try norm_num

/-- The named constant is log2(e) times one eighth. -/
theorem kap_eq : kap = lg * ((1 / 8 : ℝ) : EReal) :=
  (IdealRules.named_const.ideal_named_scalar _ _ _ _ rfl).trans (EReal.coe_mul _ _)

/-- The masked scores, over all natural numbers. -/
def Xn (n : ℕ) (sc : Fin 8192 → EReal) (s : ℕ) : EReal := if h : s < 8192 ∧ s < n then sc ⟨s, h.1⟩ else ⊥

/-- The reference's masked score. -/
theorem mask_eq {n : ℕ} (hn : n ≤ 8192) (sc : Fin 8192 → EReal) (s : Fin 8192) : mask (BitVec.ofNat 32 n) sc s = Xn n sc s.val := by
  have hs := s.isLt
  have hc : IntOp.cmpi .slt (BitVec.ofNat 32 s.val) (BitVec.ofNat 32 n) = BitVec.ofBool (decide (s.val < n)) := by
    refine Eq.trans (b := BitVec.ofBool (decide (_ < _))) rfl ?_
    rw [Words.toInt_ofNat (by omega), Words.toInt_ofNat (by omega)]
    exact congrArg BitVec.ofBool (decide_eq_decide.mpr Nat.cast_lt)
  unfold mask
  rw [hc, Cert.AttnIdeal.Val.ofBits_neg_inf]
  by_cases h : s.val < n
  · rw [decide_eq_true h]
    exact Eq.trans (b := sc s) rfl (show Xn n sc s.val = sc s from dif_pos ⟨hs, h⟩).symm
  · rw [decide_eq_false h]
    exact Eq.trans (b := ⊥) rfl (show Xn n sc s.val = ⊥ from dif_neg fun hh => h hh.2).symm

/-- A sum over eight interleaved rows is the sum over the keys. -/
theorem sum_rows (K : ℕ) (f : ℕ → EReal) : ∑ r : Fin 8, ∑ j ∈ Finset.range (64 * K), f (8 * j + r.val) = ∑ s ∈ Finset.range (512 * K), f s := by
  rw [Finset.sum_comm]
  have h : ∀ j ∈ Finset.range (64 * K), ∑ r : Fin 8, f (8 * j + r.val) = ∑ k ∈ Finset.range 8, f (j * 8 + k) := by
    intro j _
    rw [Finset.sum_range, Nat.mul_comm]
  rw [Finset.sum_congr rfl h, Finset.sum_range_range_mul_add, show 64 * K * 8 = 512 * K by omega]

/-- A sum over the chunks up to the length is the sum over all keys, if the keys past the length add nothing. -/
theorem sum_keys {n : ℕ} (hn : n ≤ 8192) (f : ℕ → EReal) (hf : ∀ s, n ≤ s → f s = 0) :
    ∑ s ∈ Finset.range (512 * ((n + 511) / 512)), f s = ∑ s : Fin 8192, f s.val := by
  rw [← Finset.sum_range (n := 8192)]
  refine Finset.sum_subset (fun s hs => ?_) fun s _ hs => hf s ?_
  · rw [Finset.mem_range] at hs ⊢; omega
  · rw [Finset.mem_range] at hs; omega

/-- The order of the factors. -/
theorem last_step (a p c : EReal) : a * min (((256 : ℝ) : EReal) * p) c = min (p * Ideal.ofBits FTy.f32 0x43800000#32) c * a := by
  rw [up_eq, mul_comm a, mul_comm p]

/-- A key of no weight adds nothing. -/
theorem zero_step {a p c : EReal} (hp : p = 0) (hc : 0 ≤ c) : a * min (((256 : ℝ) : EReal) * p) c = 0 := by
  rw [hp, mul_zero, min_eq_left hc, mul_zero]

/-- The quotients of the two forms, from the weights. -/
theorem finish {n : ℕ} (hn : n ≤ 8192) (p : ℕ → EReal) (hp : ∀ s, 0 ≤ p s) (hz : ∀ s, n ≤ s → p s = 0) (x : ℕ → EReal)
    (v : Fin 8192 → EReal) (hv : ∀ s : Fin 8192, x s.val = v s) (vs c : EReal) (hc : 0 ≤ c) :
    Ideal.div ((∑ s ∈ Finset.range (512 * ((n + 511) / 512)), x s * min (((256 : ℝ) : EReal) * p s) c) * vs)
        (∑ r : Fin 8, ∑ j ∈ Finset.range (64 * ((n + 511) / 512)), ((256 : ℝ) : EReal) * p (8 * j + r.val))
      = Ideal.div ((∑ s : Fin 8192, min (p s.val * Ideal.ofBits FTy.f32 0x43800000#32) c * v s) * (vs * Ideal.ofBits FTy.f32 0x3B800000#32))
          (∑ s : Fin 8192, p s.val) := by
  have hN : ∑ s ∈ Finset.range (512 * ((n + 511) / 512)), x s * min (((256 : ℝ) : EReal) * p s) c
      = ∑ s : Fin 8192, min (p s.val * Ideal.ofBits FTy.f32 0x43800000#32) c * v s :=
    (sum_keys hn (fun s => x s * min (((256 : ℝ) : EReal) * p s) c) fun s h => zero_step (hz s h) hc).trans
      (Finset.sum_congr rfl fun s _ => (last_step _ _ _).trans (congrArg (_ * ·) (hv s)))
  have hS : ∑ r : Fin 8, ∑ j ∈ Finset.range (64 * ((n + 511) / 512)), ((256 : ℝ) : EReal) * p (8 * j + r.val)
      = ((256 : ℝ) : EReal) * ∑ s : Fin 8192, p s.val :=
    (sum_rows _ fun s => ((256 : ℝ) : EReal) * p s).trans
      ((sum_keys hn (fun s => ((256 : ℝ) : EReal) * p s) fun s h => by rw [hz s h, mul_zero]).trans
        (mul_sum_nonneg _ _ (fun s => hp _) _))
  rw [hN, hS, div_256 _ _ _ (Finset.sum_nonneg fun s _ => hp _), down_eq]

variable {n : ℕ} {x0 : FVec Ideal Cert.AttnIdeal.S1x256x256 .fp8e4m3} {x1 : FVec Ideal Cert.AttnIdeal.S1x1x4x256 .f32} {x2 : FVec Ideal Cert.AttnIdeal.S1x1x8192x128 .fp8e4m3}
  {ks : Fin 8192 → EReal} {x4 : FVec Ideal Cert.AttnIdeal.S1x1x64x8192 .fp8e4m3} {x5 : FVec Ideal Cert.AttnIdeal.S1x1x64x128 .f32}

/-- The largest of the running maxima is the largest score. -/
theorem max_rows (hn : n ≤ 8192) (g : Fin 4) (q : Fin 256) :
    (Finset.univ.fold max ⊥ fun r : Fin 8 => mx n x0 x2 ks g ((n + 511) / 512) (ix2 r q))
      = Finset.univ.sup fun s : Fin 8192 => T n x0 x2 ks g q s.val := by
  show (Finset.univ.sup fun r : Fin 8 => (Finset.range (64 * ((n + 511) / 512))).sup fun j => T n x0 x2 ks g q (8 * j + r.val)) = _
  apply le_antisymm
  · refine Finset.sup_le fun r _ => Finset.sup_le fun j hj => ?_
    rw [Finset.mem_range] at hj
    have hr := r.isLt
    exact Finset.le_sup (f := fun s : Fin 8192 => T n x0 x2 ks g q s.val) (Finset.mem_univ (⟨8 * j + r.val, by omega⟩ : Fin 8192))
  · refine Finset.sup_le fun s _ => ?_
    by_cases h : s.val < n
    · have e : s.val = 8 * (s.val / 8) + s.val % 8 := by omega
      have hj : s.val / 8 ∈ Finset.range (64 * ((n + 511) / 512)) := by rw [Finset.mem_range]; omega
      rw [e]
      exact (Finset.le_sup (f := fun j => T n x0 x2 ks g q (8 * j + s.val % 8)) hj).trans
        (Finset.le_sup (f := fun r : Fin 8 => (Finset.range (64 * ((n + 511) / 512))).sup fun j => T n x0 x2 ks g q (8 * j + r.val))
          (Finset.mem_univ (⟨s.val % 8, by omega⟩ : Fin 8)))
    · rw [show T n x0 x2 ks g q s.val = ⊥ from dif_neg fun hh => h hh.2]
      exact bot_le

/-- The kernel's element is the reference's, when the scores, the values and the value's scale agree. -/
theorem join (hn : n ≤ 8192) (g : Fin 4) (q : Fin 256) (d : Fin 64) (sc v : Fin 8192 → EReal) (vs : EReal)
    (hq : 0 < x1 (ix4 0 0 g q))
    (hsc : ∀ s, sc s = dot x0 x2 s g q * (x1 (ix4 0 0 g q) * Ideal.ofBits FTy.f32 0x3E000000#32) * ks s)
    (hv : ∀ s, v s = x4 (ix4 0 0 d s)) (hvs : vs = x5 (ix4 0 0 d ⟨q.val % 128, by omega⟩)) :
    outE n x0 x1 x2 ks x4 x5 ((n + 511) / 512) g q d = refE (BitVec.ofNat 32 n) sc v vs := by
  have h8 : (0 : EReal) < ((1 / 8 : ℝ) : EReal) := by exact_mod_cast (by norm_num : (0 : ℝ) < 1 / 8)
  have ha : 0 < av x1 g q := by
    unfold av
    rw [kap_eq]
    exact EReal.mul_pos hq (EReal.mul_pos lg_pos h8)
  have hT : ∀ s : ℕ, T n x0 x2 ks g q s * av x1 g q = Xn n sc s * lg := by
    intro s
    by_cases h : s < 8192 ∧ s < n
    · rw [show T n x0 x2 ks g q s = dot x0 x2 ⟨s, h.1⟩ g q * ks ⟨s, h.1⟩ from dif_pos h, show Xn n sc s = sc ⟨s, h.1⟩ from dif_pos h, hsc, eighth_eq]
      unfold av
      rw [kap_eq]
      ac_rfl
    · rw [show T n x0 x2 ks g q s = ⊥ from dif_neg h, show Xn n sc s = ⊥ from dif_neg h, EReal.bot_mul_of_pos ha, EReal.bot_mul_of_pos lg_pos]
  have hM : Finset.fold max (Ideal.ofBits FTy.f32 0xFF800000#32) (mask (BitVec.ofNat 32 n) sc) Finset.univ
      = Finset.univ.sup fun s : Fin 8192 => Xn n sc s.val := by
    rw [Cert.AttnIdeal.Val.ofBits_neg_inf, show mask (BitVec.ofNat 32 n) sc = fun s : Fin 8192 => Xn n sc s.val from funext fun s => mask_eq hn sc s]
    rfl
  obtain ⟨M, eM⟩ : ∃ M, M = Finset.univ.sup fun s : Fin 8192 => Xn n sc s.val := ⟨_, rfl⟩
  rw [← eM] at hM
  have hmv : mv n x0 x1 x2 ks ((n + 511) / 512) g q = M * lg - ((8 : ℝ) : EReal) := by
    unfold mv
    rw [max_rows hn, sup_mul _ _ ha, eight_eq, eM, sup_mul _ _ lg_pos]
    refine congrArg (· - _) (congrArg _ (funext fun s => hT s.val))
  have hP : ∀ s, PW n x0 x1 x2 ks ((n + 511) / 512) g q s = ((256 : ℝ) : EReal) * Ideal.exp (Xn n sc s - M) := by
    intro s
    unfold PW
    rw [hmv, hT, exp2_shift]
  have hz : ∀ s, n ≤ s → Ideal.exp (Xn n sc s - M) = 0 := by
    intro s h
    rw [show Xn n sc s = ⊥ from dif_neg fun hh => by omega, EReal.bot_sub]
    rfl
  have hw : ∀ s : Fin 8192, wt (BitVec.ofNat 32 n) sc s = Ideal.exp (Xn n sc s.val - M) := by
    intro s
    unfold wt
    rw [hM, mask_eq hn]
  have hcap : (0 : EReal) ≤ cap := by
    unfold cap
    simp [Ideal.ofBits, Ideal.ieee, -EReal.coe_mul]
    try norm_num
  unfold outE refE
  simp only [hP, hw]
  rw [hvs]
  exact finish hn (fun s => Ideal.exp (Xn n sc s - M)) (fun s => exp_nonneg _) hz
    (fun s => if h : s < 8192 then x4 (ix4 0 0 d ⟨s, h⟩) else 0) v (fun s => (dif_pos s.isLt).trans (hv s).symm) _ cap hcap

end Cert.Join

end
-- ==== Proof.AttnIdeal.Blocks.lean ====
/- The block of each input that a program reads, as entries of that input's array. -/
module

public import proofs.«01_k».proof.Proof.AttnIdeal.Runs
public import Idealize.ShloMosaic.Lib.Pipeline.ValueKit

@[expose] public section

set_option maxRecDepth 16384

noncomputable section

namespace Cert.AttnIdeal.Gen

open Idealize.ShloMosaic Idealize.ShloMosaic.TcCoe

variable (m : (ℓ : Loc nD τ sig) → Buf (Elt Ideal) ℓ) (hO : Ok m) (c : Dev nD)

/-- The batch of a program, -/
def gb (t : Fin 1024) : Fin 4 := ⟨t.val / 256, by omega⟩
/-- its key head, -/
def gh (t : Fin 1024) : Fin 8 := ⟨t.val / 32 % 8, by omega⟩
/-- and its tile of queries. -/
def gt (t : Fin 1024) : Fin 32 := ⟨t.val % 32, by omega⟩

/-- The index of the block of the query codes. -/
theorem index_0 (t : Fin grid0.N) : cc0_transform_0 (grid0.coords t) = ![(gb t).val, (gh t).val, (gt t).val] :=
  (by decide +kernel : ∀ t : Fin grid0.N, cc0_transform_0 (grid0.coords t) = ![(gb t).val, (gh t).val, (gt t).val]) t

/-- The block of the query codes. -/
theorem iblk_0 (t : Fin (cfgM m hO).N) (d : Fin 256) (q : Fin 256) : iblk m hO c 0 t (ix3 0 d q) = V m c main_arg1 (ix3 (gb t) ⟨256 * (gh t).val + d.val, by omega⟩ ⟨256 * (gt t).val + q.val, by omega⟩) := by
  show V m c main_arg1 ((((cfgM m hO).win 0).blk t).view.emb (ix3 0 d q)) = _
  refine congrArg (V m c main_arg1) (funext fun a => Fin.ext ?_)
  have e : ((((cfgM m hO).win 0).blk t).view.emb (ix3 0 d q) a).val = cc0_transform_0 (grid0.coords t) a * S1x256x256.size a + 1 * ((ix3 0 d q : S1x256x256.Idx) a).val := rfl
  rw [e, index_0]
  fin_cases a <;> simp [ix3, S1x256x256, Nat.mul_comm]

/-- The index of the block of the query scales. -/
theorem index_1 (t : Fin grid0.N) : cc0_transform_1 (grid0.coords t) = ![(gb t).val, (gh t).val, 0, (gt t).val] :=
  (by decide +kernel : ∀ t : Fin grid0.N, cc0_transform_1 (grid0.coords t) = ![(gb t).val, (gh t).val, 0, (gt t).val]) t

/-- The block of the query scales. -/
theorem iblk_1 (t : Fin (cfgM m hO).N) (g : Fin 4) (q : Fin 256) : iblk m hO c 1 t (ix4 0 0 g q) = V m c main_arg2 (ix4 (gb t) (gh t) g ⟨256 * (gt t).val + q.val, by omega⟩) := by
  show V m c main_arg2 ((((cfgM m hO).win 1).blk t).view.emb (ix4 0 0 g q)) = _
  refine congrArg (V m c main_arg2) (funext fun a => Fin.ext ?_)
  have e : ((((cfgM m hO).win 1).blk t).view.emb (ix4 0 0 g q) a).val = cc0_transform_1 (grid0.coords t) a * S1x1x4x256.size a + 1 * ((ix4 0 0 g q : S1x1x4x256.Idx) a).val := rfl
  rw [e, index_1]
  fin_cases a <;> simp [ix4, S1x1x4x256, Nat.mul_comm]

/-- The index of the block of the key codes. -/
theorem index_2 (t : Fin grid0.N) : cc0_transform_2 (grid0.coords t) = ![(gb t).val, (gh t).val, 0, 0] :=
  (by decide +kernel : ∀ t : Fin grid0.N, cc0_transform_2 (grid0.coords t) = ![(gb t).val, (gh t).val, 0, 0]) t

/-- The block of the key codes. -/
theorem iblk_2 (t : Fin (cfgM m hO).N) (s : Fin 8192) (l : Fin 128) : iblk m hO c 2 t (ix4 0 0 s l) = V m c main_arg3 (ix4 (gb t) (gh t) s l) := by
  show V m c main_arg3 ((((cfgM m hO).win 2).blk t).view.emb (ix4 0 0 s l)) = _
  refine congrArg (V m c main_arg3) (funext fun a => Fin.ext ?_)
  have e : ((((cfgM m hO).win 2).blk t).view.emb (ix4 0 0 s l) a).val = cc0_transform_2 (grid0.coords t) a * S1x1x8192x128.size a + 1 * ((ix4 0 0 s l : S1x1x8192x128.Idx) a).val := rfl
  rw [e, index_2]
  fin_cases a <;> simp [ix4, S1x1x8192x128, Nat.mul_comm]

/-- The index of the block of the key scales. -/
theorem index_3 (t : Fin grid0.N) : cc0_transform_3 (grid0.coords t) = ![(gb t).val, (gh t).val, 0, 0] :=
  (by decide +kernel : ∀ t : Fin grid0.N, cc0_transform_3 (grid0.coords t) = ![(gb t).val, (gh t).val, 0, 0]) t

/-- The block of the key scales. -/
theorem iblk_3 (t : Fin (cfgM m hO).N) (s : Fin 8192) : iblk m hO c 3 t (ix4 0 0 0 s) = V m c main_arg4 (ix4 (gb t) (gh t) 0 s) := by
  show V m c main_arg4 ((((cfgM m hO).win 3).blk t).view.emb (ix4 0 0 0 s)) = _
  refine congrArg (V m c main_arg4) (funext fun a => Fin.ext ?_)
  have e : ((((cfgM m hO).win 3).blk t).view.emb (ix4 0 0 0 s) a).val = cc0_transform_3 (grid0.coords t) a * S1x1x1x8192.size a + 1 * ((ix4 0 0 0 s : S1x1x1x8192.Idx) a).val := rfl
  rw [e, index_3]
  fin_cases a <;> simp [ix4, S1x1x1x8192, Nat.mul_comm]

/-- The index of the block of the value codes. -/
theorem index_4 (t : Fin grid0.N) : cc0_transform_4 (grid0.coords t) = ![(gb t).val, (gh t).val, 0, 0] :=
  (by decide +kernel : ∀ t : Fin grid0.N, cc0_transform_4 (grid0.coords t) = ![(gb t).val, (gh t).val, 0, 0]) t

/-- The block of the value codes. -/
theorem iblk_4 (t : Fin (cfgM m hO).N) (d : Fin 64) (s : Fin 8192) : iblk m hO c 4 t (ix4 0 0 d s) = V m c main_arg5 (ix4 (gb t) (gh t) d s) := by
  show V m c main_arg5 ((((cfgM m hO).win 4).blk t).view.emb (ix4 0 0 d s)) = _
  refine congrArg (V m c main_arg5) (funext fun a => Fin.ext ?_)
  have e : ((((cfgM m hO).win 4).blk t).view.emb (ix4 0 0 d s) a).val = cc0_transform_4 (grid0.coords t) a * S1x1x64x8192.size a + 1 * ((ix4 0 0 d s : S1x1x64x8192.Idx) a).val := rfl
  rw [e, index_4]
  fin_cases a <;> simp [ix4, S1x1x64x8192, Nat.mul_comm]

/-- The index of the block of the value scales. -/
theorem index_5 (t : Fin grid0.N) : cc0_transform_5 (grid0.coords t) = ![(gb t).val, (gh t).val, 0, 0] :=
  (by decide +kernel : ∀ t : Fin grid0.N, cc0_transform_5 (grid0.coords t) = ![(gb t).val, (gh t).val, 0, 0]) t

/-- The block of the value scales. -/
theorem iblk_5 (t : Fin (cfgM m hO).N) (d : Fin 64) (l : Fin 128) : iblk m hO c 5 t (ix4 0 0 d l) = V m c main_arg6 (ix4 (gb t) (gh t) d l) := by
  show V m c main_arg6 ((((cfgM m hO).win 5).blk t).view.emb (ix4 0 0 d l)) = _
  refine congrArg (V m c main_arg6) (funext fun a => Fin.ext ?_)
  have e : ((((cfgM m hO).win 5).blk t).view.emb (ix4 0 0 d l) a).val = cc0_transform_5 (grid0.coords t) a * S1x1x64x128.size a + 1 * ((ix4 0 0 d l : S1x1x64x128.Idx) a).val := rfl
  rw [e, index_5]
  fin_cases a <;> simp [ix4, S1x1x64x128, Nat.mul_comm]

/-- The index of the block of results. -/
theorem index_6 (t : Fin grid0.N) : cc0_transform_6 (grid0.coords t) = ![(gb t).val, (gt t).val, (gh t).val] :=
  (by decide +kernel : ∀ t : Fin grid0.N, cc0_transform_6 (grid0.coords t) = ![(gb t).val, (gt t).val, (gh t).val]) t

/-- Where a program's block of results lies. -/
theorem emb_6 (t : Fin (cfgM m hO).N) (q d : Fin 256) :
    (((cfgM m hO).win 6).blk t).view.emb (ix3 0 q d) = ix3 (gb t) ⟨256 * (gt t).val + q.val, by omega⟩ ⟨256 * (gh t).val + d.val, by omega⟩ := by
  refine funext fun a => Fin.ext ?_
  have e : ((((cfgM m hO).win 6).blk t).view.emb (ix3 0 q d) a).val = cc0_transform_6 (grid0.coords t) a * S1x256x256.size a + 1 * ((ix3 0 q d : S1x256x256.Idx) a).val := rfl
  rw [e, index_6]
  fin_cases a <;> simp [ix3, S1x256x256, Nat.mul_comm]

end Cert.AttnIdeal.Gen

end
-- ==== Proof.AttnIdeal.Trip1.lean ====
/- What one trip of the loop over the full chunks of keys stores and yields. -/
module

public import proofs.«01_k».proof.Proof.AttnIdeal.Score
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1000000 in
/-- The four stores of a trip: the scores of its 512 keys, one block per head of the group. -/
theorem tripL1 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v18 : BitVec 32) (v37 : BitVec 32) (v38 : BitVec 1) (X_arg4 : BufTy.Contents (Elt Ideal) arg4.view.ty) (X_arg6 : BufTy.Contents (Elt Ideal) arg6.view.ty) (X_arg11 : BufTy.Contents (Elt Ideal) arg11.view.ty) (k : Fin (k0_t1_loop (BitVec.ofNat 32 n)).trips) (acc : FVec Ideal S8x256 .f32 × FVec Ideal S8x256 .f32 × FVec Ideal S8x256 .f32 × FVec Ideal S8x256 .f32)
    (x0 : FVec Ideal S1x256x256 .fp8e4m3) (x2 : FVec Ideal S1x1x8192x128 .fp8e4m3) (ks : Fin 8192 → EReal)
    (h4 : arg4.view.read (Elt Ideal) X_arg4 = x0) (h6 : arg6.view.read (Elt Ideal) X_arg6 = x2)
    (h11 : arg11.view.read (Elt Ideal) X_arg11 = fun i => ks (i 0)) :
    tripL_k0_t1 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 k acc =
     [⟨Rect.unit (k0_off7 (BitVec.ofNat 32 n) k) S512x256.size (k0_off7_inb _ k0_hw1 k), blk n x0 x2 ks 3 (512 * k.val)⟩,
      ⟨Rect.unit (k0_off6 (BitVec.ofNat 32 n) k) S512x256.size (k0_off6_inb _ k0_hw1 k), blk n x0 x2 ks 2 (512 * k.val)⟩,
      ⟨Rect.unit (k0_off5 (BitVec.ofNat 32 n) k) S512x256.size (k0_off5_inb _ k0_hw1 k), blk n x0 x2 ks 1 (512 * k.val)⟩,
      ⟨Rect.unit (k0_off4 (BitVec.ofNat 32 n) k) S512x256.size (k0_off4_inb _ k0_hw1 k), blk n x0 x2 ks 0 (512 * k.val)⟩] := by
  have hk : k.val < n / 512 := lt_of_lt_of_eq k.isLt (by rw [Len.t1_trips hn])
  obtain ⟨V6, hV6, e6⟩ : ∃ V : FVec Ideal S1x1x512x128 .fp8e4m3, View.readAt (Elt Ideal) arg6.view (Rect.unit (s := S1x1x8192x128) (k0_off2 (BitVec.ofNat 32 n) k) S1x1x512x128.size (k0_off2_inb _ k0_hw1 k)).toLoadRect X_arg6 = V ∧
      ∀ (r : Fin 512) (l : Fin 128), V (ix4 0 0 r l) = x2 (ix4 0 0 ⟨512 * k.val + r.val, by omega⟩ l) :=
    ⟨_, rfl, fun r l => rd_unit _ _ _ h6 _ (ix4 0 0 ⟨512 * k.val + r.val, by omega⟩ l) (by intro a; rw [show k0_off2 (BitVec.ofNat 32 n) k a = _ from congrFun (Len.off2_eq hn k) a]; fin_cases a <;> simp [ix4])⟩
  obtain ⟨V11, hV11, e11⟩ : ∃ V : FVec Ideal S512x128 .f32, View.readAt (Elt Ideal) arg11.view (Rect.unit (s := S8192x128) (k0_off3 (BitVec.ofNat 32 n) k) S512x128.size (k0_off3_inb _ k0_hw1 k)).toLoadRect X_arg11 = V ∧
      ∀ (r : Fin 512) (l : Fin 128), V (ix2 r l) = ks ⟨512 * k.val + r.val, by omega⟩ :=
    ⟨_, rfl, fun r l => (rd_unit _ _ _ h11 _ (ix2 ⟨512 * k.val + r.val, by omega⟩ l) (by intro a; rw [show k0_off3 (BitVec.ofNat 32 n) k a = _ from congrFun (Len.off3_eq hn k) a]; fin_cases a <;> simp [ix2])).trans rfl⟩
  obtain ⟨Q0, hQ0, e4_0⟩ : ∃ V : FVec Ideal S1x64x256 .fp8e4m3, View.readAt (Elt Ideal) arg4.view (Rect.unit (s := S1x256x256) ![0, 0, 0] S1x64x256.size inb_S1x256x256_S1x64x256_0_0_0).toLoadRect X_arg4 = V ∧
      ∀ (x : Fin 64) (q : Fin 256), V (ix3 0 x q) = x0 (ix3 0 ⟨64 * (0 : Fin 4).val + x.val, by have := (0 : Fin 4).isLt; omega⟩ q) :=
    ⟨_, rfl, fun x q => rd_unit _ _ _ h4 _ (ix3 0 ⟨64 * (0 : Fin 4).val + x.val, by have := (0 : Fin 4).isLt; omega⟩ q) (by intro a; fin_cases a <;> simp [ix3])⟩
  obtain ⟨Q1, hQ1, e4_1⟩ : ∃ V : FVec Ideal S1x64x256 .fp8e4m3, View.readAt (Elt Ideal) arg4.view (Rect.unit (s := S1x256x256) ![0, 64, 0] S1x64x256.size inb_S1x256x256_S1x64x256_0_64_0).toLoadRect X_arg4 = V ∧
      ∀ (x : Fin 64) (q : Fin 256), V (ix3 0 x q) = x0 (ix3 0 ⟨64 * (1 : Fin 4).val + x.val, by have := (1 : Fin 4).isLt; omega⟩ q) :=
    ⟨_, rfl, fun x q => rd_unit _ _ _ h4 _ (ix3 0 ⟨64 * (1 : Fin 4).val + x.val, by have := (1 : Fin 4).isLt; omega⟩ q) (by intro a; fin_cases a <;> simp [ix3])⟩
  obtain ⟨Q2, hQ2, e4_2⟩ : ∃ V : FVec Ideal S1x64x256 .fp8e4m3, View.readAt (Elt Ideal) arg4.view (Rect.unit (s := S1x256x256) ![0, 128, 0] S1x64x256.size inb_S1x256x256_S1x64x256_0_128_0).toLoadRect X_arg4 = V ∧
      ∀ (x : Fin 64) (q : Fin 256), V (ix3 0 x q) = x0 (ix3 0 ⟨64 * (2 : Fin 4).val + x.val, by have := (2 : Fin 4).isLt; omega⟩ q) :=
    ⟨_, rfl, fun x q => rd_unit _ _ _ h4 _ (ix3 0 ⟨64 * (2 : Fin 4).val + x.val, by have := (2 : Fin 4).isLt; omega⟩ q) (by intro a; fin_cases a <;> simp [ix3])⟩
  obtain ⟨Q3, hQ3, e4_3⟩ : ∃ V : FVec Ideal S1x64x256 .fp8e4m3, View.readAt (Elt Ideal) arg4.view (Rect.unit (s := S1x256x256) ![0, 192, 0] S1x64x256.size inb_S1x256x256_S1x64x256_0_192_0).toLoadRect X_arg4 = V ∧
      ∀ (x : Fin 64) (q : Fin 256), V (ix3 0 x q) = x0 (ix3 0 ⟨64 * (3 : Fin 4).val + x.val, by have := (3 : Fin 4).isLt; omega⟩ q) :=
    ⟨_, rfl, fun x q => rd_unit _ _ _ h4 _ (ix3 0 ⟨64 * (3 : Fin 4).val + x.val, by have := (3 : Fin 4).isLt; omega⟩ q) (by intro a; fin_cases a <;> simp [ix3])⟩
  have s0 := score (x0 := x0) (x2 := x2) (ks := ks) (g := 0) (o := 512 * k.val) (by omega) (h1 := shapeCasts_S1x1x512x128_S512x128) (h2 := concatenates_S512x128_S512x128_S512x256_d1) e6 e11 e4_0
  have s1 := score (x0 := x0) (x2 := x2) (ks := ks) (g := 1) (o := 512 * k.val) (by omega) (h1 := shapeCasts_S1x1x512x128_S512x128) (h2 := concatenates_S512x128_S512x128_S512x256_d1) e6 e11 e4_1
  have s2 := score (x0 := x0) (x2 := x2) (ks := ks) (g := 2) (o := 512 * k.val) (by omega) (h1 := shapeCasts_S1x1x512x128_S512x128) (h2 := concatenates_S512x128_S512x128_S512x256_d1) e6 e11 e4_2
  have s3 := score (x0 := x0) (x2 := x2) (ks := ks) (g := 3) (o := 512 * k.val) (by omega) (h1 := shapeCasts_S1x1x512x128_S512x128) (h2 := concatenates_S512x128_S512x128_S512x256_d1) e6 e11 e4_3
  rw [scr_eq_blk (n := n) (by omega) (by omega)] at s0 s1 s2 s3
  unfold k0_pay146 at s0 s1 s2 s3
  unfold tripL_k0_t1 trip_k0_t1
  dsimp only
  simp only [trip_k0_t1.sl.v160, trip_k0_t1.sl.v178, trip_k0_t1.sl.v171, trip_k0_t1.sl.v145, trip_k0_t1.sl.v161, trip_k0_t1.sl.v159, trip_k0_t1.sl.v167, trip_k0_t1.sl.cst_86, trip_k0_t1.sl.v147, trip_k0_t1.sl.v162, trip_k0_t1.sl.cst_84, trip_k0_t1.sl.HW_arg12_1, trip_k0_t1.sl.v174, trip_k0_t1.sl.v166, trip_k0_t1.sl.v165, trip_k0_t1.sl.v158, trip_k0_t1.sl.v155, trip_k0_t1.sl.v143, trip_k0_t1.sl.v170, trip_k0_t1.sl.v176, trip_k0_t1.sl.v153, trip_k0_t1.sl.v177, trip_k0_t1.sl.v152, trip_k0_t1.sl.v150, trip_k0_t1.sl.v173, trip_k0_t1.sl.v154, trip_k0_t1.sl.v164, trip_k0_t1.sl.arg14, trip_k0_t1.sl.v172, k0_pay148, k0_pay145, k0_pay143, k0_pay146, k0_pay147, k0_pay144]
  rw [hV6, hV11, hQ0, hQ1, hQ2, hQ3]
  exact congrArg₂ List.cons (congrArg (Sigma.mk _) (cast_of s3)) (congrArg₂ List.cons (congrArg (Sigma.mk _) (cast_of s2))
    (congrArg₂ List.cons (congrArg (Sigma.mk _) (cast_of s1)) (congrArg₂ List.cons (congrArg (Sigma.mk _) (cast_of s0)) rfl)))

set_option maxHeartbeats 1000000 in
/-- What a trip yields: the running maxima after its 512 keys. -/
theorem tripR1 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v18 : BitVec 32) (v37 : BitVec 32) (v38 : BitVec 1) (X_arg4 : BufTy.Contents (Elt Ideal) arg4.view.ty) (X_arg6 : BufTy.Contents (Elt Ideal) arg6.view.ty) (X_arg11 : BufTy.Contents (Elt Ideal) arg11.view.ty) (k : Fin (k0_t1_loop (BitVec.ofNat 32 n)).trips) (acc : FVec Ideal S8x256 .f32 × FVec Ideal S8x256 .f32 × FVec Ideal S8x256 .f32 × FVec Ideal S8x256 .f32)
    (x0 : FVec Ideal S1x256x256 .fp8e4m3) (x2 : FVec Ideal S1x1x8192x128 .fp8e4m3) (ks : Fin 8192 → EReal)
    (h4 : arg4.view.read (Elt Ideal) X_arg4 = x0) (h6 : arg6.view.read (Elt Ideal) X_arg6 = x2)
    (h11 : arg11.view.read (Elt Ideal) X_arg11 = fun i => ks (i 0)) :
    tripR_k0_t1 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 k acc =
     (stepMax n x0 x2 ks 0 (512 * k.val) acc.1, stepMax n x0 x2 ks 1 (512 * k.val) acc.2.1, stepMax n x0 x2 ks 2 (512 * k.val) acc.2.2.1, stepMax n x0 x2 ks 3 (512 * k.val) acc.2.2.2) := by
  have hk : k.val < n / 512 := lt_of_lt_of_eq k.isLt (by rw [Len.t1_trips hn])
  obtain ⟨V6, hV6, e6⟩ : ∃ V : FVec Ideal S1x1x512x128 .fp8e4m3, View.readAt (Elt Ideal) arg6.view (Rect.unit (s := S1x1x8192x128) (k0_off2 (BitVec.ofNat 32 n) k) S1x1x512x128.size (k0_off2_inb _ k0_hw1 k)).toLoadRect X_arg6 = V ∧
      ∀ (r : Fin 512) (l : Fin 128), V (ix4 0 0 r l) = x2 (ix4 0 0 ⟨512 * k.val + r.val, by omega⟩ l) :=
    ⟨_, rfl, fun r l => rd_unit _ _ _ h6 _ (ix4 0 0 ⟨512 * k.val + r.val, by omega⟩ l) (by intro a; rw [show k0_off2 (BitVec.ofNat 32 n) k a = _ from congrFun (Len.off2_eq hn k) a]; fin_cases a <;> simp [ix4])⟩
  obtain ⟨V11, hV11, e11⟩ : ∃ V : FVec Ideal S512x128 .f32, View.readAt (Elt Ideal) arg11.view (Rect.unit (s := S8192x128) (k0_off3 (BitVec.ofNat 32 n) k) S512x128.size (k0_off3_inb _ k0_hw1 k)).toLoadRect X_arg11 = V ∧
      ∀ (r : Fin 512) (l : Fin 128), V (ix2 r l) = ks ⟨512 * k.val + r.val, by omega⟩ :=
    ⟨_, rfl, fun r l => (rd_unit _ _ _ h11 _ (ix2 ⟨512 * k.val + r.val, by omega⟩ l) (by intro a; rw [show k0_off3 (BitVec.ofNat 32 n) k a = _ from congrFun (Len.off3_eq hn k) a]; fin_cases a <;> simp [ix2])).trans rfl⟩
  obtain ⟨Q0, hQ0, e4_0⟩ : ∃ V : FVec Ideal S1x64x256 .fp8e4m3, View.readAt (Elt Ideal) arg4.view (Rect.unit (s := S1x256x256) ![0, 0, 0] S1x64x256.size inb_S1x256x256_S1x64x256_0_0_0).toLoadRect X_arg4 = V ∧
      ∀ (x : Fin 64) (q : Fin 256), V (ix3 0 x q) = x0 (ix3 0 ⟨64 * (0 : Fin 4).val + x.val, by have := (0 : Fin 4).isLt; omega⟩ q) :=
    ⟨_, rfl, fun x q => rd_unit _ _ _ h4 _ (ix3 0 ⟨64 * (0 : Fin 4).val + x.val, by have := (0 : Fin 4).isLt; omega⟩ q) (by intro a; fin_cases a <;> simp [ix3])⟩
  obtain ⟨Q1, hQ1, e4_1⟩ : ∃ V : FVec Ideal S1x64x256 .fp8e4m3, View.readAt (Elt Ideal) arg4.view (Rect.unit (s := S1x256x256) ![0, 64, 0] S1x64x256.size inb_S1x256x256_S1x64x256_0_64_0).toLoadRect X_arg4 = V ∧
      ∀ (x : Fin 64) (q : Fin 256), V (ix3 0 x q) = x0 (ix3 0 ⟨64 * (1 : Fin 4).val + x.val, by have := (1 : Fin 4).isLt; omega⟩ q) :=
    ⟨_, rfl, fun x q => rd_unit _ _ _ h4 _ (ix3 0 ⟨64 * (1 : Fin 4).val + x.val, by have := (1 : Fin 4).isLt; omega⟩ q) (by intro a; fin_cases a <;> simp [ix3])⟩
  obtain ⟨Q2, hQ2, e4_2⟩ : ∃ V : FVec Ideal S1x64x256 .fp8e4m3, View.readAt (Elt Ideal) arg4.view (Rect.unit (s := S1x256x256) ![0, 128, 0] S1x64x256.size inb_S1x256x256_S1x64x256_0_128_0).toLoadRect X_arg4 = V ∧
      ∀ (x : Fin 64) (q : Fin 256), V (ix3 0 x q) = x0 (ix3 0 ⟨64 * (2 : Fin 4).val + x.val, by have := (2 : Fin 4).isLt; omega⟩ q) :=
    ⟨_, rfl, fun x q => rd_unit _ _ _ h4 _ (ix3 0 ⟨64 * (2 : Fin 4).val + x.val, by have := (2 : Fin 4).isLt; omega⟩ q) (by intro a; fin_cases a <;> simp [ix3])⟩
  obtain ⟨Q3, hQ3, e4_3⟩ : ∃ V : FVec Ideal S1x64x256 .fp8e4m3, View.readAt (Elt Ideal) arg4.view (Rect.unit (s := S1x256x256) ![0, 192, 0] S1x64x256.size inb_S1x256x256_S1x64x256_0_192_0).toLoadRect X_arg4 = V ∧
      ∀ (x : Fin 64) (q : Fin 256), V (ix3 0 x q) = x0 (ix3 0 ⟨64 * (3 : Fin 4).val + x.val, by have := (3 : Fin 4).isLt; omega⟩ q) :=
    ⟨_, rfl, fun x q => rd_unit _ _ _ h4 _ (ix3 0 ⟨64 * (3 : Fin 4).val + x.val, by have := (3 : Fin 4).isLt; omega⟩ q) (by intro a; fin_cases a <;> simp [ix3])⟩
  have s0 := score (x0 := x0) (x2 := x2) (ks := ks) (g := 0) (o := 512 * k.val) (by omega) (h1 := shapeCasts_S1x1x512x128_S512x128) (h2 := concatenates_S512x128_S512x128_S512x256_d1) e6 e11 e4_0
  have s1 := score (x0 := x0) (x2 := x2) (ks := ks) (g := 1) (o := 512 * k.val) (by omega) (h1 := shapeCasts_S1x1x512x128_S512x128) (h2 := concatenates_S512x128_S512x128_S512x256_d1) e6 e11 e4_1
  have s2 := score (x0 := x0) (x2 := x2) (ks := ks) (g := 2) (o := 512 * k.val) (by omega) (h1 := shapeCasts_S1x1x512x128_S512x128) (h2 := concatenates_S512x128_S512x128_S512x256_d1) e6 e11 e4_2
  have s3 := score (x0 := x0) (x2 := x2) (ks := ks) (g := 3) (o := 512 * k.val) (by omega) (h1 := shapeCasts_S1x1x512x128_S512x128) (h2 := concatenates_S512x128_S512x128_S512x256_d1) e6 e11 e4_3
  rw [scr_eq_blk (n := n) (by omega) (by omega)] at s0 s1 s2 s3
  unfold k0_pay146 at s0 s1 s2 s3
  unfold tripR_k0_t1 trip_k0_t1
  dsimp only
  simp only [trip_k0_t1.sl.v160, trip_k0_t1.sl.v178, trip_k0_t1.sl.v171, trip_k0_t1.sl.v145, trip_k0_t1.sl.v161, trip_k0_t1.sl.v159, trip_k0_t1.sl.v167, trip_k0_t1.sl.cst_86, trip_k0_t1.sl.v147, trip_k0_t1.sl.v162, trip_k0_t1.sl.cst_84, trip_k0_t1.sl.HW_arg12_1, trip_k0_t1.sl.v174, trip_k0_t1.sl.v166, trip_k0_t1.sl.v165, trip_k0_t1.sl.v158, trip_k0_t1.sl.v155, trip_k0_t1.sl.v143, trip_k0_t1.sl.v170, trip_k0_t1.sl.v176, trip_k0_t1.sl.v153, trip_k0_t1.sl.v177, trip_k0_t1.sl.v152, trip_k0_t1.sl.v150, trip_k0_t1.sl.v173, trip_k0_t1.sl.v154, trip_k0_t1.sl.v164, trip_k0_t1.sl.arg14, trip_k0_t1.sl.v172, k0_pay148, k0_pay145, k0_pay143, k0_pay146, k0_pay147, k0_pay144]
  rw [hV6, hV11, hQ0, hQ1, hQ2, hQ3]
  exact congrArg₂ Prod.mk (max_of s0 _) (congrArg₂ Prod.mk (max_of s1 _) (congrArg₂ Prod.mk (max_of s2 _) (max_of s3 _)))

end Cert.AttnIdeal.Val

end
-- ==== Proof.AttnIdeal.Four.lean ====
/- What a buffer of scores or of products reads after the four stores of a trip. -/
module

public import proofs.«01_k».proof.Proof.AttnIdeal.Weight
public import Idealize.ShloMosaic.Lib.WritesUnit

@[expose] public section

set_option maxRecDepth 16384

noncomputable section

namespace Cert.AttnIdeal.Val

open Idealize.ShloMosaic Cert.AttnIdeal Cert.AttnIdeal.Gen

/-- Within the rows of the trip, head 0's columns read head 0's block. -/
theorem score_in0 {sig : RefSig} {κ : Kind} {sp : Space} (v : View sig κ sp S8192x1024 .f32) (f : v.ty.Contents (Elt Ideal))
    {off0 off1 off2 off3 : Fin 2 → ℕ} (inb0 inb1 inb2 inb3) (w0 w1 w2 w3 : FVec Ideal S512x256 .f32) (L : List (View.Piece (Elt Ideal) S8192x1024 .f32))
    (o : ℕ) (h0 : off0 = ![o, 0]) (h1 : off1 = ![o, 256]) (h2 : off2 = ![o, 512]) (h3 : off3 = ![o, 768])
    (s : Fin 8192) (r : Fin 512) (hs : s.val = o + r.val) (q : Fin 256) :
    v.read (Elt Ideal) (v.writes (Elt Ideal) f ((⟨Rect.unit (s := S8192x1024) off3 S512x256.size inb3, w3⟩ : View.Piece (Elt Ideal) S8192x1024 .f32) :: (⟨Rect.unit (s := S8192x1024) off2 S512x256.size inb2, w2⟩ : View.Piece (Elt Ideal) S8192x1024 .f32) :: (⟨Rect.unit (s := S8192x1024) off1 S512x256.size inb1, w1⟩ : View.Piece (Elt Ideal) S8192x1024 .f32) :: (⟨Rect.unit (s := S8192x1024) off0 S512x256.size inb0, w0⟩ : View.Piece (Elt Ideal) S8192x1024 .f32) :: L)) (ix2 s ⟨0 + q.val, by omega⟩) = w0 (ix2 r q) := by
  refine (View.read_writes_cons_unit_of_not_mem (off' := ![o, 768]) v f inb3 w3 _ _ h3 1 (Or.inl ?_)).trans ?_
  · show 0 + q.val < 768
    omega
  refine (View.read_writes_cons_unit_of_not_mem (off' := ![o, 512]) v f inb2 w2 _ _ h2 1 (Or.inl ?_)).trans ?_
  · show 0 + q.val < 512
    omega
  refine (View.read_writes_cons_unit_of_not_mem (off' := ![o, 256]) v f inb1 w1 _ _ h1 1 (Or.inl ?_)).trans ?_
  · show 0 + q.val < 256
    omega
  refine View.read_writes_cons_unit_of_mem (off' := ![o, 0]) v f inb0 w0 _ _ (ix2 r q) h0 ?_
  intro a
  fin_cases a
  · exact hs
  · rfl

/-- Within the rows of the trip, head 1's columns read head 1's block. -/
theorem score_in1 {sig : RefSig} {κ : Kind} {sp : Space} (v : View sig κ sp S8192x1024 .f32) (f : v.ty.Contents (Elt Ideal))
    {off0 off1 off2 off3 : Fin 2 → ℕ} (inb0 inb1 inb2 inb3) (w0 w1 w2 w3 : FVec Ideal S512x256 .f32) (L : List (View.Piece (Elt Ideal) S8192x1024 .f32))
    (o : ℕ) (h0 : off0 = ![o, 0]) (h1 : off1 = ![o, 256]) (h2 : off2 = ![o, 512]) (h3 : off3 = ![o, 768])
    (s : Fin 8192) (r : Fin 512) (hs : s.val = o + r.val) (q : Fin 256) :
    v.read (Elt Ideal) (v.writes (Elt Ideal) f ((⟨Rect.unit (s := S8192x1024) off3 S512x256.size inb3, w3⟩ : View.Piece (Elt Ideal) S8192x1024 .f32) :: (⟨Rect.unit (s := S8192x1024) off2 S512x256.size inb2, w2⟩ : View.Piece (Elt Ideal) S8192x1024 .f32) :: (⟨Rect.unit (s := S8192x1024) off1 S512x256.size inb1, w1⟩ : View.Piece (Elt Ideal) S8192x1024 .f32) :: (⟨Rect.unit (s := S8192x1024) off0 S512x256.size inb0, w0⟩ : View.Piece (Elt Ideal) S8192x1024 .f32) :: L)) (ix2 s ⟨256 + q.val, by omega⟩) = w1 (ix2 r q) := by
  refine (View.read_writes_cons_unit_of_not_mem (off' := ![o, 768]) v f inb3 w3 _ _ h3 1 (Or.inl ?_)).trans ?_
  · show 256 + q.val < 768
    omega
  refine (View.read_writes_cons_unit_of_not_mem (off' := ![o, 512]) v f inb2 w2 _ _ h2 1 (Or.inl ?_)).trans ?_
  · show 256 + q.val < 512
    omega
  refine View.read_writes_cons_unit_of_mem (off' := ![o, 256]) v f inb1 w1 _ _ (ix2 r q) h1 ?_
  intro a
  fin_cases a
  · exact hs
  · rfl

/-- Within the rows of the trip, head 2's columns read head 2's block. -/
theorem score_in2 {sig : RefSig} {κ : Kind} {sp : Space} (v : View sig κ sp S8192x1024 .f32) (f : v.ty.Contents (Elt Ideal))
    {off0 off1 off2 off3 : Fin 2 → ℕ} (inb0 inb1 inb2 inb3) (w0 w1 w2 w3 : FVec Ideal S512x256 .f32) (L : List (View.Piece (Elt Ideal) S8192x1024 .f32))
    (o : ℕ) (h0 : off0 = ![o, 0]) (h1 : off1 = ![o, 256]) (h2 : off2 = ![o, 512]) (h3 : off3 = ![o, 768])
    (s : Fin 8192) (r : Fin 512) (hs : s.val = o + r.val) (q : Fin 256) :
    v.read (Elt Ideal) (v.writes (Elt Ideal) f ((⟨Rect.unit (s := S8192x1024) off3 S512x256.size inb3, w3⟩ : View.Piece (Elt Ideal) S8192x1024 .f32) :: (⟨Rect.unit (s := S8192x1024) off2 S512x256.size inb2, w2⟩ : View.Piece (Elt Ideal) S8192x1024 .f32) :: (⟨Rect.unit (s := S8192x1024) off1 S512x256.size inb1, w1⟩ : View.Piece (Elt Ideal) S8192x1024 .f32) :: (⟨Rect.unit (s := S8192x1024) off0 S512x256.size inb0, w0⟩ : View.Piece (Elt Ideal) S8192x1024 .f32) :: L)) (ix2 s ⟨512 + q.val, by omega⟩) = w2 (ix2 r q) := by
  refine (View.read_writes_cons_unit_of_not_mem (off' := ![o, 768]) v f inb3 w3 _ _ h3 1 (Or.inl ?_)).trans ?_
  · show 512 + q.val < 768
    omega
  refine View.read_writes_cons_unit_of_mem (off' := ![o, 512]) v f inb2 w2 _ _ (ix2 r q) h2 ?_
  intro a
  fin_cases a
  · exact hs
  · rfl

/-- Within the rows of the trip, head 3's columns read head 3's block. -/
theorem score_in3 {sig : RefSig} {κ : Kind} {sp : Space} (v : View sig κ sp S8192x1024 .f32) (f : v.ty.Contents (Elt Ideal))
    {off0 off1 off2 off3 : Fin 2 → ℕ} (inb0 inb1 inb2 inb3) (w0 w1 w2 w3 : FVec Ideal S512x256 .f32) (L : List (View.Piece (Elt Ideal) S8192x1024 .f32))
    (o : ℕ) (h0 : off0 = ![o, 0]) (h1 : off1 = ![o, 256]) (h2 : off2 = ![o, 512]) (h3 : off3 = ![o, 768])
    (s : Fin 8192) (r : Fin 512) (hs : s.val = o + r.val) (q : Fin 256) :
    v.read (Elt Ideal) (v.writes (Elt Ideal) f ((⟨Rect.unit (s := S8192x1024) off3 S512x256.size inb3, w3⟩ : View.Piece (Elt Ideal) S8192x1024 .f32) :: (⟨Rect.unit (s := S8192x1024) off2 S512x256.size inb2, w2⟩ : View.Piece (Elt Ideal) S8192x1024 .f32) :: (⟨Rect.unit (s := S8192x1024) off1 S512x256.size inb1, w1⟩ : View.Piece (Elt Ideal) S8192x1024 .f32) :: (⟨Rect.unit (s := S8192x1024) off0 S512x256.size inb0, w0⟩ : View.Piece (Elt Ideal) S8192x1024 .f32) :: L)) (ix2 s ⟨768 + q.val, by omega⟩) = w3 (ix2 r q) := by
  refine View.read_writes_cons_unit_of_mem (off' := ![o, 768]) v f inb3 w3 _ _ (ix2 r q) h3 ?_
  intro a
  fin_cases a
  · exact hs
  · rfl

/-- Outside the rows of the trip nothing changes. -/
theorem score_out {sig : RefSig} {κ : Kind} {sp : Space} (v : View sig κ sp S8192x1024 .f32) (f : v.ty.Contents (Elt Ideal))
    {off0 off1 off2 off3 : Fin 2 → ℕ} (inb0 inb1 inb2 inb3) (w0 w1 w2 w3 : FVec Ideal S512x256 .f32) (L : List (View.Piece (Elt Ideal) S8192x1024 .f32))
    (o : ℕ) (h0 : off0 = ![o, 0]) (h1 : off1 = ![o, 256]) (h2 : off2 = ![o, 512]) (h3 : off3 = ![o, 768])
    (s : Fin 8192) (hs : s.val < o ∨ o + 512 ≤ s.val) (c : Fin 1024) :
    v.read (Elt Ideal) (v.writes (Elt Ideal) f ((⟨Rect.unit (s := S8192x1024) off3 S512x256.size inb3, w3⟩ : View.Piece (Elt Ideal) S8192x1024 .f32) :: (⟨Rect.unit (s := S8192x1024) off2 S512x256.size inb2, w2⟩ : View.Piece (Elt Ideal) S8192x1024 .f32) :: (⟨Rect.unit (s := S8192x1024) off1 S512x256.size inb1, w1⟩ : View.Piece (Elt Ideal) S8192x1024 .f32) :: (⟨Rect.unit (s := S8192x1024) off0 S512x256.size inb0, w0⟩ : View.Piece (Elt Ideal) S8192x1024 .f32) :: L)) (ix2 s c) = v.read (Elt Ideal) (v.writes (Elt Ideal) f L) (ix2 s c) := by
  refine (View.read_writes_cons_unit_of_not_mem (off' := ![o, 768]) v f inb3 w3 _ _ h3 0 hs).trans ?_
  refine (View.read_writes_cons_unit_of_not_mem (off' := ![o, 512]) v f inb2 w2 _ _ h2 0 hs).trans ?_
  refine (View.read_writes_cons_unit_of_not_mem (off' := ![o, 256]) v f inb1 w1 _ _ h1 0 hs).trans ?_
  refine (View.read_writes_cons_unit_of_not_mem (off' := ![o, 0]) v f inb0 w0 _ _ h0 0 hs).trans ?_
  rfl

/-- Within the rows of the trip, head 0's columns read head 0's block. -/
theorem acc_in0 {sig : RefSig} {κ : Kind} {sp : Space} (v : View sig κ sp S64x1024 .f32) (f : v.ty.Contents (Elt Ideal))
    {off0 off1 off2 off3 : Fin 2 → ℕ} (inb0 inb1 inb2 inb3) (w0 w1 w2 w3 : FVec Ideal S64x256 .f32) (L : List (View.Piece (Elt Ideal) S64x1024 .f32))
    (o : ℕ) (h0 : off0 = ![o, 0]) (h1 : off1 = ![o, 256]) (h2 : off2 = ![o, 512]) (h3 : off3 = ![o, 768])
    (s : Fin 64) (r : Fin 64) (hs : s.val = o + r.val) (q : Fin 256) :
    v.read (Elt Ideal) (v.writes (Elt Ideal) f ((⟨Rect.unit (s := S64x1024) off3 S64x256.size inb3, w3⟩ : View.Piece (Elt Ideal) S64x1024 .f32) :: (⟨Rect.unit (s := S64x1024) off2 S64x256.size inb2, w2⟩ : View.Piece (Elt Ideal) S64x1024 .f32) :: (⟨Rect.unit (s := S64x1024) off1 S64x256.size inb1, w1⟩ : View.Piece (Elt Ideal) S64x1024 .f32) :: (⟨Rect.unit (s := S64x1024) off0 S64x256.size inb0, w0⟩ : View.Piece (Elt Ideal) S64x1024 .f32) :: L)) (ix2 s ⟨0 + q.val, by omega⟩) = w0 (ix2 r q) := by
  refine (View.read_writes_cons_unit_of_not_mem (off' := ![o, 768]) v f inb3 w3 _ _ h3 1 (Or.inl ?_)).trans ?_
  · show 0 + q.val < 768
    omega
  refine (View.read_writes_cons_unit_of_not_mem (off' := ![o, 512]) v f inb2 w2 _ _ h2 1 (Or.inl ?_)).trans ?_
  · show 0 + q.val < 512
    omega
  refine (View.read_writes_cons_unit_of_not_mem (off' := ![o, 256]) v f inb1 w1 _ _ h1 1 (Or.inl ?_)).trans ?_
  · show 0 + q.val < 256
    omega
  refine View.read_writes_cons_unit_of_mem (off' := ![o, 0]) v f inb0 w0 _ _ (ix2 r q) h0 ?_
  intro a
  fin_cases a
  · exact hs
  · rfl

/-- Within the rows of the trip, head 1's columns read head 1's block. -/
theorem acc_in1 {sig : RefSig} {κ : Kind} {sp : Space} (v : View sig κ sp S64x1024 .f32) (f : v.ty.Contents (Elt Ideal))
    {off0 off1 off2 off3 : Fin 2 → ℕ} (inb0 inb1 inb2 inb3) (w0 w1 w2 w3 : FVec Ideal S64x256 .f32) (L : List (View.Piece (Elt Ideal) S64x1024 .f32))
    (o : ℕ) (h0 : off0 = ![o, 0]) (h1 : off1 = ![o, 256]) (h2 : off2 = ![o, 512]) (h3 : off3 = ![o, 768])
    (s : Fin 64) (r : Fin 64) (hs : s.val = o + r.val) (q : Fin 256) :
    v.read (Elt Ideal) (v.writes (Elt Ideal) f ((⟨Rect.unit (s := S64x1024) off3 S64x256.size inb3, w3⟩ : View.Piece (Elt Ideal) S64x1024 .f32) :: (⟨Rect.unit (s := S64x1024) off2 S64x256.size inb2, w2⟩ : View.Piece (Elt Ideal) S64x1024 .f32) :: (⟨Rect.unit (s := S64x1024) off1 S64x256.size inb1, w1⟩ : View.Piece (Elt Ideal) S64x1024 .f32) :: (⟨Rect.unit (s := S64x1024) off0 S64x256.size inb0, w0⟩ : View.Piece (Elt Ideal) S64x1024 .f32) :: L)) (ix2 s ⟨256 + q.val, by omega⟩) = w1 (ix2 r q) := by
  refine (View.read_writes_cons_unit_of_not_mem (off' := ![o, 768]) v f inb3 w3 _ _ h3 1 (Or.inl ?_)).trans ?_
  · show 256 + q.val < 768
    omega
  refine (View.read_writes_cons_unit_of_not_mem (off' := ![o, 512]) v f inb2 w2 _ _ h2 1 (Or.inl ?_)).trans ?_
  · show 256 + q.val < 512
    omega
  refine View.read_writes_cons_unit_of_mem (off' := ![o, 256]) v f inb1 w1 _ _ (ix2 r q) h1 ?_
  intro a
  fin_cases a
  · exact hs
  · rfl

/-- Within the rows of the trip, head 2's columns read head 2's block. -/
theorem acc_in2 {sig : RefSig} {κ : Kind} {sp : Space} (v : View sig κ sp S64x1024 .f32) (f : v.ty.Contents (Elt Ideal))
    {off0 off1 off2 off3 : Fin 2 → ℕ} (inb0 inb1 inb2 inb3) (w0 w1 w2 w3 : FVec Ideal S64x256 .f32) (L : List (View.Piece (Elt Ideal) S64x1024 .f32))
    (o : ℕ) (h0 : off0 = ![o, 0]) (h1 : off1 = ![o, 256]) (h2 : off2 = ![o, 512]) (h3 : off3 = ![o, 768])
    (s : Fin 64) (r : Fin 64) (hs : s.val = o + r.val) (q : Fin 256) :
    v.read (Elt Ideal) (v.writes (Elt Ideal) f ((⟨Rect.unit (s := S64x1024) off3 S64x256.size inb3, w3⟩ : View.Piece (Elt Ideal) S64x1024 .f32) :: (⟨Rect.unit (s := S64x1024) off2 S64x256.size inb2, w2⟩ : View.Piece (Elt Ideal) S64x1024 .f32) :: (⟨Rect.unit (s := S64x1024) off1 S64x256.size inb1, w1⟩ : View.Piece (Elt Ideal) S64x1024 .f32) :: (⟨Rect.unit (s := S64x1024) off0 S64x256.size inb0, w0⟩ : View.Piece (Elt Ideal) S64x1024 .f32) :: L)) (ix2 s ⟨512 + q.val, by omega⟩) = w2 (ix2 r q) := by
  refine (View.read_writes_cons_unit_of_not_mem (off' := ![o, 768]) v f inb3 w3 _ _ h3 1 (Or.inl ?_)).trans ?_
  · show 512 + q.val < 768
    omega
  refine View.read_writes_cons_unit_of_mem (off' := ![o, 512]) v f inb2 w2 _ _ (ix2 r q) h2 ?_
  intro a
  fin_cases a
  · exact hs
  · rfl

/-- Within the rows of the trip, head 3's columns read head 3's block. -/
theorem acc_in3 {sig : RefSig} {κ : Kind} {sp : Space} (v : View sig κ sp S64x1024 .f32) (f : v.ty.Contents (Elt Ideal))
    {off0 off1 off2 off3 : Fin 2 → ℕ} (inb0 inb1 inb2 inb3) (w0 w1 w2 w3 : FVec Ideal S64x256 .f32) (L : List (View.Piece (Elt Ideal) S64x1024 .f32))
    (o : ℕ) (h0 : off0 = ![o, 0]) (h1 : off1 = ![o, 256]) (h2 : off2 = ![o, 512]) (h3 : off3 = ![o, 768])
    (s : Fin 64) (r : Fin 64) (hs : s.val = o + r.val) (q : Fin 256) :
    v.read (Elt Ideal) (v.writes (Elt Ideal) f ((⟨Rect.unit (s := S64x1024) off3 S64x256.size inb3, w3⟩ : View.Piece (Elt Ideal) S64x1024 .f32) :: (⟨Rect.unit (s := S64x1024) off2 S64x256.size inb2, w2⟩ : View.Piece (Elt Ideal) S64x1024 .f32) :: (⟨Rect.unit (s := S64x1024) off1 S64x256.size inb1, w1⟩ : View.Piece (Elt Ideal) S64x1024 .f32) :: (⟨Rect.unit (s := S64x1024) off0 S64x256.size inb0, w0⟩ : View.Piece (Elt Ideal) S64x1024 .f32) :: L)) (ix2 s ⟨768 + q.val, by omega⟩) = w3 (ix2 r q) := by
  refine View.read_writes_cons_unit_of_mem (off' := ![o, 768]) v f inb3 w3 _ _ (ix2 r q) h3 ?_
  intro a
  fin_cases a
  · exact hs
  · rfl

/-- Outside the rows of the trip nothing changes. -/
theorem acc_out {sig : RefSig} {κ : Kind} {sp : Space} (v : View sig κ sp S64x1024 .f32) (f : v.ty.Contents (Elt Ideal))
    {off0 off1 off2 off3 : Fin 2 → ℕ} (inb0 inb1 inb2 inb3) (w0 w1 w2 w3 : FVec Ideal S64x256 .f32) (L : List (View.Piece (Elt Ideal) S64x1024 .f32))
    (o : ℕ) (h0 : off0 = ![o, 0]) (h1 : off1 = ![o, 256]) (h2 : off2 = ![o, 512]) (h3 : off3 = ![o, 768])
    (s : Fin 64) (hs : s.val < o ∨ o + 64 ≤ s.val) (c : Fin 1024) :
    v.read (Elt Ideal) (v.writes (Elt Ideal) f ((⟨Rect.unit (s := S64x1024) off3 S64x256.size inb3, w3⟩ : View.Piece (Elt Ideal) S64x1024 .f32) :: (⟨Rect.unit (s := S64x1024) off2 S64x256.size inb2, w2⟩ : View.Piece (Elt Ideal) S64x1024 .f32) :: (⟨Rect.unit (s := S64x1024) off1 S64x256.size inb1, w1⟩ : View.Piece (Elt Ideal) S64x1024 .f32) :: (⟨Rect.unit (s := S64x1024) off0 S64x256.size inb0, w0⟩ : View.Piece (Elt Ideal) S64x1024 .f32) :: L)) (ix2 s c) = v.read (Elt Ideal) (v.writes (Elt Ideal) f L) (ix2 s c) := by
  refine (View.read_writes_cons_unit_of_not_mem (off' := ![o, 768]) v f inb3 w3 _ _ h3 0 hs).trans ?_
  refine (View.read_writes_cons_unit_of_not_mem (off' := ![o, 512]) v f inb2 w2 _ _ h2 0 hs).trans ?_
  refine (View.read_writes_cons_unit_of_not_mem (off' := ![o, 256]) v f inb1 w1 _ _ h1 0 hs).trans ?_
  refine (View.read_writes_cons_unit_of_not_mem (off' := ![o, 0]) v f inb0 w0 _ _ h0 0 hs).trans ?_
  rfl

end Cert.AttnIdeal.Val

end
-- ==== Proof.AttnIdeal.St1.lean ====
/- The state of the loop over the full chunks of keys. -/
module

public import proofs.«01_k».proof.Proof.AttnIdeal.Trip1
public import proofs.«01_k».proof.Proof.AttnIdeal.Four
public import proofs.«01_k».proof.Proof.AttnIdeal.Sums
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1000000 in
/-- The state after `K` trips: the running maxima, and the scores of the keys of those trips in the buffer. -/
theorem st1 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v18 : BitVec 32) (v37 : BitVec 32) (v38 : BitVec 1) (X_arg4 : BufTy.Contents (Elt Ideal) arg4.view.ty) (X_arg6 : BufTy.Contents (Elt Ideal) arg6.view.ty) (X_arg11 : BufTy.Contents (Elt Ideal) arg11.view.ty) (init : FVec Ideal S8x256 .f32 × FVec Ideal S8x256 .f32 × FVec Ideal S8x256 .f32 × FVec Ideal S8x256 .f32)
    (x0 : FVec Ideal S1x256x256 .fp8e4m3) (x2 : FVec Ideal S1x1x8192x128 .fp8e4m3) (ks : Fin 8192 → EReal)
    (h4 : arg4.view.read (Elt Ideal) X_arg4 = x0) (h6 : arg6.view.read (Elt Ideal) X_arg6 = x2)
    (h11 : arg11.view.read (Elt Ideal) X_arg11 = fun i => ks (i 0)) (hi : init = (mx n x0 x2 ks 0 0, mx n x0 x2 ks 1 0, mx n x0 x2 ks 2 0, mx n x0 x2 ks 3 0)) :
    ∀ K : ℕ, K ≤ n / 512 →
      (st_k0_t1 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init K).1 = (mx n x0 x2 ks 0 K, mx n x0 x2 ks 1 K, mx n x0 x2 ks 2 K, mx n x0 x2 ks 3 K) ∧
      (∀ (f : arg12.view.ty.Contents (Elt Ideal)) (g : Fin 4) (q : Fin 256) (s : Fin 8192), s.val < 512 * K →
        arg12.view.read (Elt Ideal) (arg12.view.writes (Elt Ideal) f (st_k0_t1 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init K).2) (ix2 s ⟨256 * g.val + q.val, by omega⟩) = T n x0 x2 ks g q s.val) := by
  intro K
  induction K with
  | zero =>
    intro _
    exact ⟨hi, fun f g q s hs => absurd hs (by omega)⟩
  | succ K ih =>
    intro hK
    obtain ⟨ih1, ih2⟩ := ih (by omega)
    have hk : K < (k0_t1_loop (BitVec.ofNat 32 n)).trips := by rw [Len.t1_trips hn]; omega
    have hs := st_k0_t1_succ (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init ⟨K, hk⟩
    rw [tripR1 (hn := hn) (x0 := x0) (x2 := x2) (ks := ks) (h4 := h4) (h6 := h6) (h11 := h11), tripL1 (hn := hn) (x0 := x0) (x2 := x2) (ks := ks) (h4 := h4) (h6 := h6) (h11 := h11)] at hs
    dsimp only at hs
    rw [hs]
    refine ⟨?_, fun f g q s hs' => ?_⟩
    · rw [ih1]
      exact congrArg₂ Prod.mk (mx_succ _) (congrArg₂ Prod.mk (mx_succ _) (congrArg₂ Prod.mk (mx_succ _) (mx_succ _)))
    · by_cases hlt : s.val < 512 * K
      · exact (score_out arg12.view f _ _ _ _ _ _ _ _ _ (512 * K) (Len.off4_eq hn ⟨K, hk⟩) (Len.off5_eq hn ⟨K, hk⟩) (Len.off6_eq hn ⟨K, hk⟩) (Len.off7_eq hn ⟨K, hk⟩) s (Or.inl hlt) _).trans (ih2 f g q s hlt)
      · obtain ⟨r, hr⟩ : ∃ r : Fin 512, s.val = 512 * K + r.val := ⟨⟨s.val - 512 * K, by omega⟩, by show s.val = 512 * K + (s.val - 512 * K); omega⟩
        rw [hr]
        fin_cases g
        · exact score_in0 arg12.view f _ _ _ _ _ _ _ _ _ (512 * K) (Len.off4_eq hn ⟨K, hk⟩) (Len.off5_eq hn ⟨K, hk⟩) (Len.off6_eq hn ⟨K, hk⟩) (Len.off7_eq hn ⟨K, hk⟩) s r hr q
        · exact score_in1 arg12.view f _ _ _ _ _ _ _ _ _ (512 * K) (Len.off4_eq hn ⟨K, hk⟩) (Len.off5_eq hn ⟨K, hk⟩) (Len.off6_eq hn ⟨K, hk⟩) (Len.off7_eq hn ⟨K, hk⟩) s r hr q
        · exact score_in2 arg12.view f _ _ _ _ _ _ _ _ _ (512 * K) (Len.off4_eq hn ⟨K, hk⟩) (Len.off5_eq hn ⟨K, hk⟩) (Len.off6_eq hn ⟨K, hk⟩) (Len.off7_eq hn ⟨K, hk⟩) s r hr q
        · exact score_in3 arg12.view f _ _ _ _ _ _ _ _ _ (512 * K) (Len.off4_eq hn ⟨K, hk⟩) (Len.off5_eq hn ⟨K, hk⟩) (Len.off6_eq hn ⟨K, hk⟩) (Len.off7_eq hn ⟨K, hk⟩) s r hr q

end Cert.AttnIdeal.Val

end
-- ==== Proof.AttnIdeal.Trip3.lean ====
/- What one trip of the loop over the last, partly filled chunk of keys stores and yields. -/
module

public import proofs.«01_k».proof.Proof.AttnIdeal.Score
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1000000 in
/-- The four stores of a trip: the scores of its 512 keys, one block per head of the group. -/
theorem tripL3 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v18 : BitVec 32) (v37 : BitVec 32) (v38 : BitVec 1) (X_arg4 : BufTy.Contents (Elt Ideal) arg4.view.ty) (X_arg6 : BufTy.Contents (Elt Ideal) arg6.view.ty) (X_arg11 : BufTy.Contents (Elt Ideal) arg11.view.ty) (k : Fin (k0_t3_loop (BitVec.ofNat 32 n)).trips) (acc : FVec Ideal S8x256 .f32 × FVec Ideal S8x256 .f32 × FVec Ideal S8x256 .f32 × FVec Ideal S8x256 .f32)
    (x0 : FVec Ideal S1x256x256 .fp8e4m3) (x2 : FVec Ideal S1x1x8192x128 .fp8e4m3) (ks : Fin 8192 → EReal)
    (h4 : arg4.view.read (Elt Ideal) X_arg4 = x0) (h6 : arg6.view.read (Elt Ideal) X_arg6 = x2)
    (h11 : arg11.view.read (Elt Ideal) X_arg11 = fun i => ks (i 0)) (hv18 : v18 = BitVec.ofNat 32 (n / 512)) :
    tripL_k0_t3 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 k acc =
     [⟨Rect.unit (k0_off19 (BitVec.ofNat 32 n) k) S512x256.size (k0_off19_inb _ k0_hw1 k), blk n x0 x2 ks 3 (512 * (n / 512 + k.val))⟩,
      ⟨Rect.unit (k0_off18 (BitVec.ofNat 32 n) k) S512x256.size (k0_off18_inb _ k0_hw1 k), blk n x0 x2 ks 2 (512 * (n / 512 + k.val))⟩,
      ⟨Rect.unit (k0_off17 (BitVec.ofNat 32 n) k) S512x256.size (k0_off17_inb _ k0_hw1 k), blk n x0 x2 ks 1 (512 * (n / 512 + k.val))⟩,
      ⟨Rect.unit (k0_off16 (BitVec.ofNat 32 n) k) S512x256.size (k0_off16_inb _ k0_hw1 k), blk n x0 x2 ks 0 (512 * (n / 512 + k.val))⟩] := by
  have hk : k.val < (n + 511) / 512 - n / 512 := lt_of_lt_of_eq k.isLt (by rw [Len.t3_trips hn])
  subst hv18
  obtain ⟨V6, hV6, e6⟩ : ∃ V : FVec Ideal S1x1x512x128 .fp8e4m3, View.readAt (Elt Ideal) arg6.view (Rect.unit (s := S1x1x8192x128) (k0_off14 (BitVec.ofNat 32 n) k) S1x1x512x128.size (k0_off14_inb _ k0_hw1 k)).toLoadRect X_arg6 = V ∧
      ∀ (r : Fin 512) (l : Fin 128), V (ix4 0 0 r l) = x2 (ix4 0 0 ⟨512 * (n / 512 + k.val) + r.val, by omega⟩ l) :=
    ⟨_, rfl, fun r l => rd_unit _ _ _ h6 _ (ix4 0 0 ⟨512 * (n / 512 + k.val) + r.val, by omega⟩ l) (by intro a; rw [show k0_off14 (BitVec.ofNat 32 n) k a = _ from congrFun (Len.off14_eq hn k) a]; fin_cases a <;> simp [ix4])⟩
  obtain ⟨V11, hV11, e11⟩ : ∃ V : FVec Ideal S512x128 .f32, View.readAt (Elt Ideal) arg11.view (Rect.unit (s := S8192x128) (k0_off15 (BitVec.ofNat 32 n) k) S512x128.size (k0_off15_inb _ k0_hw1 k)).toLoadRect X_arg11 = V ∧
      ∀ (r : Fin 512) (l : Fin 128), V (ix2 r l) = ks ⟨512 * (n / 512 + k.val) + r.val, by omega⟩ :=
    ⟨_, rfl, fun r l => (rd_unit _ _ _ h11 _ (ix2 ⟨512 * (n / 512 + k.val) + r.val, by omega⟩ l) (by intro a; rw [show k0_off15 (BitVec.ofNat 32 n) k a = _ from congrFun (Len.off15_eq hn k) a]; fin_cases a <;> simp [ix2])).trans rfl⟩
  obtain ⟨Q0, hQ0, e4_0⟩ : ∃ V : FVec Ideal S1x64x256 .fp8e4m3, View.readAt (Elt Ideal) arg4.view (Rect.unit (s := S1x256x256) ![0, 0, 0] S1x64x256.size inb_S1x256x256_S1x64x256_0_0_0).toLoadRect X_arg4 = V ∧
      ∀ (x : Fin 64) (q : Fin 256), V (ix3 0 x q) = x0 (ix3 0 ⟨64 * (0 : Fin 4).val + x.val, by have := (0 : Fin 4).isLt; omega⟩ q) :=
    ⟨_, rfl, fun x q => rd_unit _ _ _ h4 _ (ix3 0 ⟨64 * (0 : Fin 4).val + x.val, by have := (0 : Fin 4).isLt; omega⟩ q) (by intro a; fin_cases a <;> simp [ix3])⟩
  obtain ⟨Q1, hQ1, e4_1⟩ : ∃ V : FVec Ideal S1x64x256 .fp8e4m3, View.readAt (Elt Ideal) arg4.view (Rect.unit (s := S1x256x256) ![0, 64, 0] S1x64x256.size inb_S1x256x256_S1x64x256_0_64_0).toLoadRect X_arg4 = V ∧
      ∀ (x : Fin 64) (q : Fin 256), V (ix3 0 x q) = x0 (ix3 0 ⟨64 * (1 : Fin 4).val + x.val, by have := (1 : Fin 4).isLt; omega⟩ q) :=
    ⟨_, rfl, fun x q => rd_unit _ _ _ h4 _ (ix3 0 ⟨64 * (1 : Fin 4).val + x.val, by have := (1 : Fin 4).isLt; omega⟩ q) (by intro a; fin_cases a <;> simp [ix3])⟩
  obtain ⟨Q2, hQ2, e4_2⟩ : ∃ V : FVec Ideal S1x64x256 .fp8e4m3, View.readAt (Elt Ideal) arg4.view (Rect.unit (s := S1x256x256) ![0, 128, 0] S1x64x256.size inb_S1x256x256_S1x64x256_0_128_0).toLoadRect X_arg4 = V ∧
      ∀ (x : Fin 64) (q : Fin 256), V (ix3 0 x q) = x0 (ix3 0 ⟨64 * (2 : Fin 4).val + x.val, by have := (2 : Fin 4).isLt; omega⟩ q) :=
    ⟨_, rfl, fun x q => rd_unit _ _ _ h4 _ (ix3 0 ⟨64 * (2 : Fin 4).val + x.val, by have := (2 : Fin 4).isLt; omega⟩ q) (by intro a; fin_cases a <;> simp [ix3])⟩
  obtain ⟨Q3, hQ3, e4_3⟩ : ∃ V : FVec Ideal S1x64x256 .fp8e4m3, View.readAt (Elt Ideal) arg4.view (Rect.unit (s := S1x256x256) ![0, 192, 0] S1x64x256.size inb_S1x256x256_S1x64x256_0_192_0).toLoadRect X_arg4 = V ∧
      ∀ (x : Fin 64) (q : Fin 256), V (ix3 0 x q) = x0 (ix3 0 ⟨64 * (3 : Fin 4).val + x.val, by have := (3 : Fin 4).isLt; omega⟩ q) :=
    ⟨_, rfl, fun x q => rd_unit _ _ _ h4 _ (ix3 0 ⟨64 * (3 : Fin 4).val + x.val, by have := (3 : Fin 4).isLt; omega⟩ q) (by intro a; fin_cases a <;> simp [ix3])⟩
  have s0 := score (x0 := x0) (x2 := x2) (ks := ks) (g := 0) (o := 512 * (n / 512 + k.val)) (by omega) (h1 := shapeCasts_S1x1x512x128_S512x128) (h2 := concatenates_S512x128_S512x128_S512x256_d1) e6 e11 e4_0
  have s1 := score (x0 := x0) (x2 := x2) (ks := ks) (g := 1) (o := 512 * (n / 512 + k.val)) (by omega) (h1 := shapeCasts_S1x1x512x128_S512x128) (h2 := concatenates_S512x128_S512x128_S512x256_d1) e6 e11 e4_1
  have s2 := score (x0 := x0) (x2 := x2) (ks := ks) (g := 2) (o := 512 * (n / 512 + k.val)) (by omega) (h1 := shapeCasts_S1x1x512x128_S512x128) (h2 := concatenates_S512x128_S512x128_S512x256_d1) e6 e11 e4_2
  have s3 := score (x0 := x0) (x2 := x2) (ks := ks) (g := 3) (o := 512 * (n / 512 + k.val)) (by omega) (h1 := shapeCasts_S1x1x512x128_S512x128) (h2 := concatenates_S512x128_S512x128_S512x256_d1) e6 e11 e4_3
  replace s0 := mask_of (n := n) hn (by omega) (h := iota_S512x256_d0_w32) s0
  replace s1 := mask_of (n := n) hn (by omega) (h := iota_S512x256_d0_w32) s1
  replace s2 := mask_of (n := n) hn (by omega) (h := iota_S512x256_d0_w32) s2
  replace s3 := mask_of (n := n) hn (by omega) (h := iota_S512x256_d0_w32) s3
  unfold k0_pay146 at s0 s1 s2 s3
  unfold tripL_k0_t3 trip_k0_t3
  dsimp only
  simp only [trip_k0_t3.sl.v186, trip_k0_t3.sl.v206, trip_k0_t3.sl.arg14, trip_k0_t3.sl.v224, trip_k0_t3.sl.v192, trip_k0_t3.sl.HW_arg12_3, trip_k0_t3.sl.v155, trip_k0_t3.sl.v212, trip_k0_t3.sl.v161, trip_k0_t3.sl.v205, trip_k0_t3.sl.v154, trip_k0_t3.sl.v143, trip_k0_t3.sl.v185, trip_k0_t3.sl.v173, trip_k0_t3.sl.v204, trip_k0_t3.sl.v153, trip_k0_t3.sl.v167, trip_k0_t3.sl.v207, trip_k0_t3.sl.v191, trip_k0_t3.sl.v158, trip_k0_t3.sl.v160, trip_k0_t3.sl.v162, trip_k0_t3.sl.HW_arg12_2, trip_k0_t3.sl.v147, trip_k0_t3.sl.v188, trip_k0_t3.sl.v193, trip_k0_t3.sl.v159, trip_k0_t3.sl.v184, trip_k0_t3.sl.v200, trip_k0_t3.sl.v203, trip_k0_t3.sl.v156, trip_k0_t3.sl.v169, trip_k0_t3.sl.v209, trip_k0_t3.sl.v211, trip_k0_t3.sl.v190, trip_k0_t3.sl.v174, trip_k0_t3.sl.cst_87, trip_k0_t3.sl.v171, trip_k0_t3.sl.v168, trip_k0_t3.sl.v219, trip_k0_t3.sl.HW_arg12_1, trip_k0_t3.sl.v166, trip_k0_t3.sl.v152, trip_k0_t3.sl.v210, trip_k0_t3.sl.v181, trip_k0_t3.sl.v157, trip_k0_t3.sl.v172, trip_k0_t3.sl.v150, trip_k0_t3.sl.cst_84, trip_k0_t3.sl.cst_85, trip_k0_t3.sl.v165, trip_k0_t3.sl.v187, trip_k0_t3.sl.v222, trip_k0_t3.sl.v145, trip_k0_t3.sl.v223, k0_pay148]
  rw [hV6, hV11, hQ0, hQ1, hQ2, hQ3]
  exact congrArg₂ List.cons (congrArg (Sigma.mk _) (cast_of s3)) (congrArg₂ List.cons (congrArg (Sigma.mk _) (cast_of s2))
    (congrArg₂ List.cons (congrArg (Sigma.mk _) (cast_of s1)) (congrArg₂ List.cons (congrArg (Sigma.mk _) (cast_of s0)) rfl)))

set_option maxHeartbeats 1000000 in
/-- What a trip yields: the running maxima after its 512 keys. -/
theorem tripR3 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v18 : BitVec 32) (v37 : BitVec 32) (v38 : BitVec 1) (X_arg4 : BufTy.Contents (Elt Ideal) arg4.view.ty) (X_arg6 : BufTy.Contents (Elt Ideal) arg6.view.ty) (X_arg11 : BufTy.Contents (Elt Ideal) arg11.view.ty) (k : Fin (k0_t3_loop (BitVec.ofNat 32 n)).trips) (acc : FVec Ideal S8x256 .f32 × FVec Ideal S8x256 .f32 × FVec Ideal S8x256 .f32 × FVec Ideal S8x256 .f32)
    (x0 : FVec Ideal S1x256x256 .fp8e4m3) (x2 : FVec Ideal S1x1x8192x128 .fp8e4m3) (ks : Fin 8192 → EReal)
    (h4 : arg4.view.read (Elt Ideal) X_arg4 = x0) (h6 : arg6.view.read (Elt Ideal) X_arg6 = x2)
    (h11 : arg11.view.read (Elt Ideal) X_arg11 = fun i => ks (i 0)) (hv18 : v18 = BitVec.ofNat 32 (n / 512)) :
    tripR_k0_t3 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 k acc =
     (stepMax n x0 x2 ks 0 (512 * (n / 512 + k.val)) acc.1, stepMax n x0 x2 ks 1 (512 * (n / 512 + k.val)) acc.2.1, stepMax n x0 x2 ks 2 (512 * (n / 512 + k.val)) acc.2.2.1, stepMax n x0 x2 ks 3 (512 * (n / 512 + k.val)) acc.2.2.2) := by
  have hk : k.val < (n + 511) / 512 - n / 512 := lt_of_lt_of_eq k.isLt (by rw [Len.t3_trips hn])
  subst hv18
  obtain ⟨V6, hV6, e6⟩ : ∃ V : FVec Ideal S1x1x512x128 .fp8e4m3, View.readAt (Elt Ideal) arg6.view (Rect.unit (s := S1x1x8192x128) (k0_off14 (BitVec.ofNat 32 n) k) S1x1x512x128.size (k0_off14_inb _ k0_hw1 k)).toLoadRect X_arg6 = V ∧
      ∀ (r : Fin 512) (l : Fin 128), V (ix4 0 0 r l) = x2 (ix4 0 0 ⟨512 * (n / 512 + k.val) + r.val, by omega⟩ l) :=
    ⟨_, rfl, fun r l => rd_unit _ _ _ h6 _ (ix4 0 0 ⟨512 * (n / 512 + k.val) + r.val, by omega⟩ l) (by intro a; rw [show k0_off14 (BitVec.ofNat 32 n) k a = _ from congrFun (Len.off14_eq hn k) a]; fin_cases a <;> simp [ix4])⟩
  obtain ⟨V11, hV11, e11⟩ : ∃ V : FVec Ideal S512x128 .f32, View.readAt (Elt Ideal) arg11.view (Rect.unit (s := S8192x128) (k0_off15 (BitVec.ofNat 32 n) k) S512x128.size (k0_off15_inb _ k0_hw1 k)).toLoadRect X_arg11 = V ∧
      ∀ (r : Fin 512) (l : Fin 128), V (ix2 r l) = ks ⟨512 * (n / 512 + k.val) + r.val, by omega⟩ :=
    ⟨_, rfl, fun r l => (rd_unit _ _ _ h11 _ (ix2 ⟨512 * (n / 512 + k.val) + r.val, by omega⟩ l) (by intro a; rw [show k0_off15 (BitVec.ofNat 32 n) k a = _ from congrFun (Len.off15_eq hn k) a]; fin_cases a <;> simp [ix2])).trans rfl⟩
  obtain ⟨Q0, hQ0, e4_0⟩ : ∃ V : FVec Ideal S1x64x256 .fp8e4m3, View.readAt (Elt Ideal) arg4.view (Rect.unit (s := S1x256x256) ![0, 0, 0] S1x64x256.size inb_S1x256x256_S1x64x256_0_0_0).toLoadRect X_arg4 = V ∧
      ∀ (x : Fin 64) (q : Fin 256), V (ix3 0 x q) = x0 (ix3 0 ⟨64 * (0 : Fin 4).val + x.val, by have := (0 : Fin 4).isLt; omega⟩ q) :=
    ⟨_, rfl, fun x q => rd_unit _ _ _ h4 _ (ix3 0 ⟨64 * (0 : Fin 4).val + x.val, by have := (0 : Fin 4).isLt; omega⟩ q) (by intro a; fin_cases a <;> simp [ix3])⟩
  obtain ⟨Q1, hQ1, e4_1⟩ : ∃ V : FVec Ideal S1x64x256 .fp8e4m3, View.readAt (Elt Ideal) arg4.view (Rect.unit (s := S1x256x256) ![0, 64, 0] S1x64x256.size inb_S1x256x256_S1x64x256_0_64_0).toLoadRect X_arg4 = V ∧
      ∀ (x : Fin 64) (q : Fin 256), V (ix3 0 x q) = x0 (ix3 0 ⟨64 * (1 : Fin 4).val + x.val, by have := (1 : Fin 4).isLt; omega⟩ q) :=
    ⟨_, rfl, fun x q => rd_unit _ _ _ h4 _ (ix3 0 ⟨64 * (1 : Fin 4).val + x.val, by have := (1 : Fin 4).isLt; omega⟩ q) (by intro a; fin_cases a <;> simp [ix3])⟩
  obtain ⟨Q2, hQ2, e4_2⟩ : ∃ V : FVec Ideal S1x64x256 .fp8e4m3, View.readAt (Elt Ideal) arg4.view (Rect.unit (s := S1x256x256) ![0, 128, 0] S1x64x256.size inb_S1x256x256_S1x64x256_0_128_0).toLoadRect X_arg4 = V ∧
      ∀ (x : Fin 64) (q : Fin 256), V (ix3 0 x q) = x0 (ix3 0 ⟨64 * (2 : Fin 4).val + x.val, by have := (2 : Fin 4).isLt; omega⟩ q) :=
    ⟨_, rfl, fun x q => rd_unit _ _ _ h4 _ (ix3 0 ⟨64 * (2 : Fin 4).val + x.val, by have := (2 : Fin 4).isLt; omega⟩ q) (by intro a; fin_cases a <;> simp [ix3])⟩
  obtain ⟨Q3, hQ3, e4_3⟩ : ∃ V : FVec Ideal S1x64x256 .fp8e4m3, View.readAt (Elt Ideal) arg4.view (Rect.unit (s := S1x256x256) ![0, 192, 0] S1x64x256.size inb_S1x256x256_S1x64x256_0_192_0).toLoadRect X_arg4 = V ∧
      ∀ (x : Fin 64) (q : Fin 256), V (ix3 0 x q) = x0 (ix3 0 ⟨64 * (3 : Fin 4).val + x.val, by have := (3 : Fin 4).isLt; omega⟩ q) :=
    ⟨_, rfl, fun x q => rd_unit _ _ _ h4 _ (ix3 0 ⟨64 * (3 : Fin 4).val + x.val, by have := (3 : Fin 4).isLt; omega⟩ q) (by intro a; fin_cases a <;> simp [ix3])⟩
  have s0 := score (x0 := x0) (x2 := x2) (ks := ks) (g := 0) (o := 512 * (n / 512 + k.val)) (by omega) (h1 := shapeCasts_S1x1x512x128_S512x128) (h2 := concatenates_S512x128_S512x128_S512x256_d1) e6 e11 e4_0
  have s1 := score (x0 := x0) (x2 := x2) (ks := ks) (g := 1) (o := 512 * (n / 512 + k.val)) (by omega) (h1 := shapeCasts_S1x1x512x128_S512x128) (h2 := concatenates_S512x128_S512x128_S512x256_d1) e6 e11 e4_1
  have s2 := score (x0 := x0) (x2 := x2) (ks := ks) (g := 2) (o := 512 * (n / 512 + k.val)) (by omega) (h1 := shapeCasts_S1x1x512x128_S512x128) (h2 := concatenates_S512x128_S512x128_S512x256_d1) e6 e11 e4_2
  have s3 := score (x0 := x0) (x2 := x2) (ks := ks) (g := 3) (o := 512 * (n / 512 + k.val)) (by omega) (h1 := shapeCasts_S1x1x512x128_S512x128) (h2 := concatenates_S512x128_S512x128_S512x256_d1) e6 e11 e4_3
  replace s0 := mask_of (n := n) hn (by omega) (h := iota_S512x256_d0_w32) s0
  replace s1 := mask_of (n := n) hn (by omega) (h := iota_S512x256_d0_w32) s1
  replace s2 := mask_of (n := n) hn (by omega) (h := iota_S512x256_d0_w32) s2
  replace s3 := mask_of (n := n) hn (by omega) (h := iota_S512x256_d0_w32) s3
  unfold k0_pay146 at s0 s1 s2 s3
  unfold tripR_k0_t3 trip_k0_t3
  dsimp only
  simp only [trip_k0_t3.sl.v186, trip_k0_t3.sl.v206, trip_k0_t3.sl.arg14, trip_k0_t3.sl.v224, trip_k0_t3.sl.v192, trip_k0_t3.sl.HW_arg12_3, trip_k0_t3.sl.v155, trip_k0_t3.sl.v212, trip_k0_t3.sl.v161, trip_k0_t3.sl.v205, trip_k0_t3.sl.v154, trip_k0_t3.sl.v143, trip_k0_t3.sl.v185, trip_k0_t3.sl.v173, trip_k0_t3.sl.v204, trip_k0_t3.sl.v153, trip_k0_t3.sl.v167, trip_k0_t3.sl.v207, trip_k0_t3.sl.v191, trip_k0_t3.sl.v158, trip_k0_t3.sl.v160, trip_k0_t3.sl.v162, trip_k0_t3.sl.HW_arg12_2, trip_k0_t3.sl.v147, trip_k0_t3.sl.v188, trip_k0_t3.sl.v193, trip_k0_t3.sl.v159, trip_k0_t3.sl.v184, trip_k0_t3.sl.v200, trip_k0_t3.sl.v203, trip_k0_t3.sl.v156, trip_k0_t3.sl.v169, trip_k0_t3.sl.v209, trip_k0_t3.sl.v211, trip_k0_t3.sl.v190, trip_k0_t3.sl.v174, trip_k0_t3.sl.cst_87, trip_k0_t3.sl.v171, trip_k0_t3.sl.v168, trip_k0_t3.sl.v219, trip_k0_t3.sl.HW_arg12_1, trip_k0_t3.sl.v166, trip_k0_t3.sl.v152, trip_k0_t3.sl.v210, trip_k0_t3.sl.v181, trip_k0_t3.sl.v157, trip_k0_t3.sl.v172, trip_k0_t3.sl.v150, trip_k0_t3.sl.cst_84, trip_k0_t3.sl.cst_85, trip_k0_t3.sl.v165, trip_k0_t3.sl.v187, trip_k0_t3.sl.v222, trip_k0_t3.sl.v145, trip_k0_t3.sl.v223, k0_pay148]
  rw [hV6, hV11, hQ0, hQ1, hQ2, hQ3]
  exact congrArg₂ Prod.mk (max_of s0 _) (congrArg₂ Prod.mk (max_of s1 _) (congrArg₂ Prod.mk (max_of s2 _) (max_of s3 _)))

end Cert.AttnIdeal.Val

end
-- ==== Proof.AttnIdeal.St3.lean ====
/- The state of the loop over the partly filled chunk of keys. -/
module

public import proofs.«01_k».proof.Proof.AttnIdeal.Trip3
public import proofs.«01_k».proof.Proof.AttnIdeal.Four
public import proofs.«01_k».proof.Proof.AttnIdeal.Sums
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1000000 in
/-- The state after `K` trips: the running maxima, and the scores of the keys of those trips in the buffer. -/
theorem st3 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v18 : BitVec 32) (v37 : BitVec 32) (v38 : BitVec 1) (X_arg4 : BufTy.Contents (Elt Ideal) arg4.view.ty) (X_arg6 : BufTy.Contents (Elt Ideal) arg6.view.ty) (X_arg11 : BufTy.Contents (Elt Ideal) arg11.view.ty) (init : FVec Ideal S8x256 .f32 × FVec Ideal S8x256 .f32 × FVec Ideal S8x256 .f32 × FVec Ideal S8x256 .f32)
    (x0 : FVec Ideal S1x256x256 .fp8e4m3) (x2 : FVec Ideal S1x1x8192x128 .fp8e4m3) (ks : Fin 8192 → EReal)
    (h4 : arg4.view.read (Elt Ideal) X_arg4 = x0) (h6 : arg6.view.read (Elt Ideal) X_arg6 = x2)
    (h11 : arg11.view.read (Elt Ideal) X_arg11 = fun i => ks (i 0)) (hv18 : v18 = BitVec.ofNat 32 (n / 512)) (hi : init = (mx n x0 x2 ks 0 (n / 512), mx n x0 x2 ks 1 (n / 512), mx n x0 x2 ks 2 (n / 512), mx n x0 x2 ks 3 (n / 512))) :
    ∀ K : ℕ, K ≤ (n + 511) / 512 - n / 512 →
      (st_k0_t3 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init K).1 = (mx n x0 x2 ks 0 (n / 512 + K), mx n x0 x2 ks 1 (n / 512 + K), mx n x0 x2 ks 2 (n / 512 + K), mx n x0 x2 ks 3 (n / 512 + K)) ∧
      (∀ (f : arg12.view.ty.Contents (Elt Ideal)) (g : Fin 4) (q : Fin 256) (s : Fin 8192), (512 * (n / 512)) ≤ s.val → s.val < 512 * (n / 512 + K) →
        arg12.view.read (Elt Ideal) (arg12.view.writes (Elt Ideal) f (st_k0_t3 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init K).2) (ix2 s ⟨256 * g.val + q.val, by omega⟩) = T n x0 x2 ks g q s.val) ∧
      (∀ (f : arg12.view.ty.Contents (Elt Ideal)) (s : Fin 8192) (cc : Fin 1024), s.val < 512 * (n / 512) →
        arg12.view.read (Elt Ideal) (arg12.view.writes (Elt Ideal) f (st_k0_t3 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init K).2) (ix2 s cc) = arg12.view.read (Elt Ideal) f (ix2 s cc)) := by
  intro K
  induction K with
  | zero =>
    intro _
    exact ⟨hi, fun f g q s hl hs => absurd hs (by omega), fun f s c _ => rfl⟩
  | succ K ih =>
    intro hK
    obtain ⟨ih1, ih2, ih3⟩ := ih (by omega)
    have hk : K < (k0_t3_loop (BitVec.ofNat 32 n)).trips := by rw [Len.t3_trips hn]; omega
    have hs := st_k0_t3_succ (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v18 v37 v38 X_arg4 X_arg6 X_arg11 init ⟨K, hk⟩
    rw [tripR3 (hn := hn) (x0 := x0) (x2 := x2) (ks := ks) (h4 := h4) (h6 := h6) (h11 := h11) (hv18 := hv18), tripL3 (hn := hn) (x0 := x0) (x2 := x2) (ks := ks) (h4 := h4) (h6 := h6) (h11 := h11) (hv18 := hv18)] at hs
    dsimp only at hs
    rw [hs]
    refine ⟨?_, fun f g q s hl hs' => ?_, fun f s cc hl => ?_⟩
    · rw [ih1]
      exact congrArg₂ Prod.mk (mx_succ _) (congrArg₂ Prod.mk (mx_succ _) (congrArg₂ Prod.mk (mx_succ _) (mx_succ _)))
    · by_cases hlt : s.val < 512 * (n / 512 + K)
      · exact (score_out arg12.view f _ _ _ _ _ _ _ _ _ (512 * (n / 512 + K)) (Len.off16_eq hn ⟨K, hk⟩) (Len.off17_eq hn ⟨K, hk⟩) (Len.off18_eq hn ⟨K, hk⟩) (Len.off19_eq hn ⟨K, hk⟩) s (Or.inl hlt) _).trans (ih2 f g q s hl hlt)
      · obtain ⟨r, hr⟩ : ∃ r : Fin 512, s.val = 512 * (n / 512 + K) + r.val := ⟨⟨s.val - 512 * (n / 512 + K), by omega⟩, by show s.val = 512 * (n / 512 + K) + (s.val - 512 * (n / 512 + K)); omega⟩
        rw [hr]
        fin_cases g
        · exact score_in0 arg12.view f _ _ _ _ _ _ _ _ _ (512 * (n / 512 + K)) (Len.off16_eq hn ⟨K, hk⟩) (Len.off17_eq hn ⟨K, hk⟩) (Len.off18_eq hn ⟨K, hk⟩) (Len.off19_eq hn ⟨K, hk⟩) s r hr q
        · exact score_in1 arg12.view f _ _ _ _ _ _ _ _ _ (512 * (n / 512 + K)) (Len.off16_eq hn ⟨K, hk⟩) (Len.off17_eq hn ⟨K, hk⟩) (Len.off18_eq hn ⟨K, hk⟩) (Len.off19_eq hn ⟨K, hk⟩) s r hr q
        · exact score_in2 arg12.view f _ _ _ _ _ _ _ _ _ (512 * (n / 512 + K)) (Len.off16_eq hn ⟨K, hk⟩) (Len.off17_eq hn ⟨K, hk⟩) (Len.off18_eq hn ⟨K, hk⟩) (Len.off19_eq hn ⟨K, hk⟩) s r hr q
        · exact score_in3 arg12.view f _ _ _ _ _ _ _ _ _ (512 * (n / 512 + K)) (Len.off16_eq hn ⟨K, hk⟩) (Len.off17_eq hn ⟨K, hk⟩) (Len.off18_eq hn ⟨K, hk⟩) (Len.off19_eq hn ⟨K, hk⟩) s r hr q
    · exact (score_out arg12.view f _ _ _ _ _ _ _ _ _ (512 * (n / 512 + K)) (Len.off16_eq hn ⟨K, hk⟩) (Len.off17_eq hn ⟨K, hk⟩) (Len.off18_eq hn ⟨K, hk⟩) (Len.off19_eq hn ⟨K, hk⟩) s (Or.inl (by omega)) _).trans (ih3 f s cc hl)

end Cert.AttnIdeal.Val

end
-- ==== Proof.AttnIdeal.Trip5.lean ====
/- What one trip of the weighting loop stores and yields. -/
module

public import proofs.«01_k».proof.Proof.AttnIdeal.Weight
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1000000 in
/-- The four stores of a trip: the accumulated products after its 512 keys, one block per head of the group. -/
theorem tripL5 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v62 : FVec Ideal S1x256 .f32) (v66 : FVec Ideal S1x256 .f32) (v70 : FVec Ideal S1x256 .f32) (v74 : FVec Ideal S1x256 .f32) (v79 : FVec Ideal S1x256 .f32) (v84 : FVec Ideal S1x256 .f32) (v89 : FVec Ideal S1x256 .f32) (v94 : FVec Ideal S1x256 .f32) (c0_i32_56 : BitVec 32) (X_arg8 : BufTy.Contents (Elt Ideal) arg8.view.ty) (X_arg12 : BufTy.Contents (Elt Ideal) arg12.view.ty) (k : Fin (k0_t5_loop (BitVec.ofNat 32 n)).trips) (acc : FVec Ideal S8x256 .f32 × FVec Ideal S8x256 .f32 × FVec Ideal S8x256 .f32 × FVec Ideal S8x256 .f32)
    (Y13 : BufTy.Contents (Elt Ideal) arg13.view.ty) (x8 : FVec Ideal S1x1x64x8192 .fp8e4m3) (x12 : FVec Ideal S8192x1024 .f32)
    (h8 : arg8.view.read (Elt Ideal) X_arg8 = x8) (h12 : arg12.view.read (Elt Ideal) X_arg12 = x12) :
    tripL_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 k acc Y13 =
     [⟨Rect.unit (s := S64x1024) ![0, 768] S64x256.size inb_S64x1024_S64x256_0_768, stepAcc x8 x12 v74 v94 3 (512 * k.val) (arg13.view.readAt (Elt Ideal) (Rect.unit (s := S64x1024) ![0, 768] S64x256.size inb_S64x1024_S64x256_0_768).toLoadRect Y13)⟩,
      ⟨Rect.unit (s := S64x1024) ![0, 512] S64x256.size inb_S64x1024_S64x256_0_512, stepAcc x8 x12 v70 v89 2 (512 * k.val) (arg13.view.readAt (Elt Ideal) (Rect.unit (s := S64x1024) ![0, 512] S64x256.size inb_S64x1024_S64x256_0_512).toLoadRect Y13)⟩,
      ⟨Rect.unit (s := S64x1024) ![0, 256] S64x256.size inb_S64x1024_S64x256_0_256, stepAcc x8 x12 v66 v84 1 (512 * k.val) (arg13.view.readAt (Elt Ideal) (Rect.unit (s := S64x1024) ![0, 256] S64x256.size inb_S64x1024_S64x256_0_256).toLoadRect Y13)⟩,
      ⟨Rect.unit (s := S64x1024) ![0, 0] S64x256.size inb_S64x1024_S64x256_0_0, stepAcc x8 x12 v62 v79 0 (512 * k.val) (arg13.view.readAt (Elt Ideal) (Rect.unit (s := S64x1024) ![0, 0] S64x256.size inb_S64x1024_S64x256_0_0).toLoadRect Y13)⟩] := by
  have hk : k.val < (n + 511) / 512 := lt_of_lt_of_eq k.isLt (by rw [Len.t5_trips hn])
  obtain ⟨V8, hV8, e8⟩ : ∃ V : FVec Ideal S1x1x64x512 .fp8e4m3, View.readAt (Elt Ideal) arg8.view (Rect.unit (s := S1x1x64x8192) (k0_off26 (BitVec.ofNat 32 n) k) S1x1x64x512.size (k0_off26_inb _ k0_hw1 k)).toLoadRect X_arg8 = V ∧
      ∀ (d : Fin 64) (r : Fin 512), V (ix4 0 0 d r) = x8 (ix4 0 0 d ⟨512 * k.val + r.val, by omega⟩) :=
    ⟨_, rfl, fun d r => rd_unit _ _ _ h8 _ (ix4 0 0 d ⟨512 * k.val + r.val, by omega⟩) (by intro a; rw [show k0_off26 (BitVec.ofNat 32 n) k a = _ from congrFun (Len.off26_eq hn k) a]; fin_cases a <;> simp [ix4])⟩
  obtain ⟨W0, hW0, e12_0⟩ : ∃ V : FVec Ideal S512x256 .f32, View.readAt (Elt Ideal) arg12.view (Rect.unit (s := S8192x1024) (k0_off27 (BitVec.ofNat 32 n) k) S512x256.size (k0_off27_inb _ k0_hw1 k)).toLoadRect X_arg12 = V ∧
      ∀ (r : Fin 512) (q : Fin 256), V (ix2 r q) = x12 (ix2 ⟨512 * k.val + r.val, by omega⟩ ⟨256 * (0 : Fin 4).val + q.val, by have := (0 : Fin 4).isLt; omega⟩) :=
    ⟨_, rfl, fun r q => rd_unit _ _ _ h12 _ (ix2 ⟨512 * k.val + r.val, by omega⟩ ⟨256 * (0 : Fin 4).val + q.val, by have := (0 : Fin 4).isLt; omega⟩) (by intro a; rw [show k0_off27 (BitVec.ofNat 32 n) k a = _ from congrFun (Len.off27_eq hn k) a]; fin_cases a <;> simp [ix2])⟩
  obtain ⟨W1, hW1, e12_1⟩ : ∃ V : FVec Ideal S512x256 .f32, View.readAt (Elt Ideal) arg12.view (Rect.unit (s := S8192x1024) (k0_off28 (BitVec.ofNat 32 n) k) S512x256.size (k0_off28_inb _ k0_hw1 k)).toLoadRect X_arg12 = V ∧
      ∀ (r : Fin 512) (q : Fin 256), V (ix2 r q) = x12 (ix2 ⟨512 * k.val + r.val, by omega⟩ ⟨256 * (1 : Fin 4).val + q.val, by have := (1 : Fin 4).isLt; omega⟩) :=
    ⟨_, rfl, fun r q => rd_unit _ _ _ h12 _ (ix2 ⟨512 * k.val + r.val, by omega⟩ ⟨256 * (1 : Fin 4).val + q.val, by have := (1 : Fin 4).isLt; omega⟩) (by intro a; rw [show k0_off28 (BitVec.ofNat 32 n) k a = _ from congrFun (Len.off28_eq hn k) a]; fin_cases a <;> simp [ix2])⟩
  obtain ⟨W2, hW2, e12_2⟩ : ∃ V : FVec Ideal S512x256 .f32, View.readAt (Elt Ideal) arg12.view (Rect.unit (s := S8192x1024) (k0_off29 (BitVec.ofNat 32 n) k) S512x256.size (k0_off29_inb _ k0_hw1 k)).toLoadRect X_arg12 = V ∧
      ∀ (r : Fin 512) (q : Fin 256), V (ix2 r q) = x12 (ix2 ⟨512 * k.val + r.val, by omega⟩ ⟨256 * (2 : Fin 4).val + q.val, by have := (2 : Fin 4).isLt; omega⟩) :=
    ⟨_, rfl, fun r q => rd_unit _ _ _ h12 _ (ix2 ⟨512 * k.val + r.val, by omega⟩ ⟨256 * (2 : Fin 4).val + q.val, by have := (2 : Fin 4).isLt; omega⟩) (by intro a; rw [show k0_off29 (BitVec.ofNat 32 n) k a = _ from congrFun (Len.off29_eq hn k) a]; fin_cases a <;> simp [ix2])⟩
  obtain ⟨W3, hW3, e12_3⟩ : ∃ V : FVec Ideal S512x256 .f32, View.readAt (Elt Ideal) arg12.view (Rect.unit (s := S8192x1024) (k0_off30 (BitVec.ofNat 32 n) k) S512x256.size (k0_off30_inb _ k0_hw1 k)).toLoadRect X_arg12 = V ∧
      ∀ (r : Fin 512) (q : Fin 256), V (ix2 r q) = x12 (ix2 ⟨512 * k.val + r.val, by omega⟩ ⟨256 * (3 : Fin 4).val + q.val, by have := (3 : Fin 4).isLt; omega⟩) :=
    ⟨_, rfl, fun r q => rd_unit _ _ _ h12 _ (ix2 ⟨512 * k.val + r.val, by omega⟩ ⟨256 * (3 : Fin 4).val + q.val, by have := (3 : Fin 4).isLt; omega⟩) (by intro a; rw [show k0_off30 (BitVec.ofNat 32 n) k a = _ from congrFun (Len.off30_eq hn k) a]; fin_cases a <;> simp [ix2])⟩
  unfold tripL_k0_t5 trip_k0_t5
  dsimp only
  simp only [trip_k0_t5.sl.cst_82, trip_k0_t5.sl.v166, trip_k0_t5.sl.v218, trip_k0_t5.sl.v204, trip_k0_t5.sl.v155, trip_k0_t5.sl.arg14, trip_k0_t5.sl.v176, trip_k0_t5.sl.v209, trip_k0_t5.sl.v182, trip_k0_t5.sl.v184, trip_k0_t5.sl.v191, trip_k0_t5.sl.v159, trip_k0_t5.sl.v152, trip_k0_t5.sl.v188, trip_k0_t5.sl.v151, trip_k0_t5.sl.v216, trip_k0_t5.sl.v208, trip_k0_t5.sl.cst_81, trip_k0_t5.sl.v199, trip_k0_t5.sl.v179, trip_k0_t5.sl.v193, trip_k0_t5.sl.v172, trip_k0_t5.sl.v220, trip_k0_t5.sl.v219, trip_k0_t5.sl.v217, trip_k0_t5.sl.v198, trip_k0_t5.sl.v169, trip_k0_t5.sl.v171, trip_k0_t5.sl.v195, trip_k0_t5.sl.v200, trip_k0_t5.sl.cst_85, trip_k0_t5.sl.v165, trip_k0_t5.sl.v150, trip_k0_t5.sl.v194, trip_k0_t5.sl.v211, trip_k0_t5.sl.v156, trip_k0_t5.sl.v203, trip_k0_t5.sl.v192, trip_k0_t5.sl.v170, trip_k0_t5.sl.v154, trip_k0_t5.sl.v201, trip_k0_t5.sl.v160, trip_k0_t5.sl.v212, trip_k0_t5.sl.v189, trip_k0_t5.sl.v207, trip_k0_t5.sl.v214, trip_k0_t5.sl.v153, trip_k0_t5.sl.v185, trip_k0_t5.sl.v147, trip_k0_t5.sl.v158, trip_k0_t5.sl.v173, trip_k0_t5.sl.v190, trip_k0_t5.sl.v143, trip_k0_t5.sl.v213, trip_k0_t5.sl.v222, trip_k0_t5.sl.v157, trip_k0_t5.sl.v197, trip_k0_t5.sl.v162, trip_k0_t5.sl.v145, trip_k0_t5.sl.v181, trip_k0_t5.sl.v180, trip_k0_t5.sl.v163, trip_k0_t5.sl.v174, trip_k0_t5.sl.v210, trip_k0_t5.sl.v178, trip_k0_t5.sl.v175]
  rw [hV8, hW0, hW1, hW2, hW3]
  exact congrArg₂ List.cons (congrArg (Sigma.mk _) (acc_of (by omega) e12_3 e8 _)) (congrArg₂ List.cons (congrArg (Sigma.mk _) (acc_of (by omega) e12_2 e8 _))
    (congrArg₂ List.cons (congrArg (Sigma.mk _) (acc_of (by omega) e12_1 e8 _)) (congrArg₂ List.cons (congrArg (Sigma.mk _) (acc_of (by omega) e12_0 e8 _)) rfl)))

set_option maxHeartbeats 1000000 in
/-- What a trip yields: the running sums after its 512 keys. -/
theorem tripR5 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v62 : FVec Ideal S1x256 .f32) (v66 : FVec Ideal S1x256 .f32) (v70 : FVec Ideal S1x256 .f32) (v74 : FVec Ideal S1x256 .f32) (v79 : FVec Ideal S1x256 .f32) (v84 : FVec Ideal S1x256 .f32) (v89 : FVec Ideal S1x256 .f32) (v94 : FVec Ideal S1x256 .f32) (c0_i32_56 : BitVec 32) (X_arg8 : BufTy.Contents (Elt Ideal) arg8.view.ty) (X_arg12 : BufTy.Contents (Elt Ideal) arg12.view.ty) (k : Fin (k0_t5_loop (BitVec.ofNat 32 n)).trips) (acc : FVec Ideal S8x256 .f32 × FVec Ideal S8x256 .f32 × FVec Ideal S8x256 .f32 × FVec Ideal S8x256 .f32)
    (Y13 : BufTy.Contents (Elt Ideal) arg13.view.ty) (x8 : FVec Ideal S1x1x64x8192 .fp8e4m3) (x12 : FVec Ideal S8192x1024 .f32)
    (h8 : arg8.view.read (Elt Ideal) X_arg8 = x8) (h12 : arg12.view.read (Elt Ideal) X_arg12 = x12) :
    tripR_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 k acc Y13 =
     (stepSum x12 v62 v79 0 (512 * k.val) acc.1, stepSum x12 v66 v84 1 (512 * k.val) acc.2.1, stepSum x12 v70 v89 2 (512 * k.val) acc.2.2.1, stepSum x12 v74 v94 3 (512 * k.val) acc.2.2.2) := by
  have hk : k.val < (n + 511) / 512 := lt_of_lt_of_eq k.isLt (by rw [Len.t5_trips hn])
  obtain ⟨V8, hV8, e8⟩ : ∃ V : FVec Ideal S1x1x64x512 .fp8e4m3, View.readAt (Elt Ideal) arg8.view (Rect.unit (s := S1x1x64x8192) (k0_off26 (BitVec.ofNat 32 n) k) S1x1x64x512.size (k0_off26_inb _ k0_hw1 k)).toLoadRect X_arg8 = V ∧
      ∀ (d : Fin 64) (r : Fin 512), V (ix4 0 0 d r) = x8 (ix4 0 0 d ⟨512 * k.val + r.val, by omega⟩) :=
    ⟨_, rfl, fun d r => rd_unit _ _ _ h8 _ (ix4 0 0 d ⟨512 * k.val + r.val, by omega⟩) (by intro a; rw [show k0_off26 (BitVec.ofNat 32 n) k a = _ from congrFun (Len.off26_eq hn k) a]; fin_cases a <;> simp [ix4])⟩
  obtain ⟨W0, hW0, e12_0⟩ : ∃ V : FVec Ideal S512x256 .f32, View.readAt (Elt Ideal) arg12.view (Rect.unit (s := S8192x1024) (k0_off27 (BitVec.ofNat 32 n) k) S512x256.size (k0_off27_inb _ k0_hw1 k)).toLoadRect X_arg12 = V ∧
      ∀ (r : Fin 512) (q : Fin 256), V (ix2 r q) = x12 (ix2 ⟨512 * k.val + r.val, by omega⟩ ⟨256 * (0 : Fin 4).val + q.val, by have := (0 : Fin 4).isLt; omega⟩) :=
    ⟨_, rfl, fun r q => rd_unit _ _ _ h12 _ (ix2 ⟨512 * k.val + r.val, by omega⟩ ⟨256 * (0 : Fin 4).val + q.val, by have := (0 : Fin 4).isLt; omega⟩) (by intro a; rw [show k0_off27 (BitVec.ofNat 32 n) k a = _ from congrFun (Len.off27_eq hn k) a]; fin_cases a <;> simp [ix2])⟩
  obtain ⟨W1, hW1, e12_1⟩ : ∃ V : FVec Ideal S512x256 .f32, View.readAt (Elt Ideal) arg12.view (Rect.unit (s := S8192x1024) (k0_off28 (BitVec.ofNat 32 n) k) S512x256.size (k0_off28_inb _ k0_hw1 k)).toLoadRect X_arg12 = V ∧
      ∀ (r : Fin 512) (q : Fin 256), V (ix2 r q) = x12 (ix2 ⟨512 * k.val + r.val, by omega⟩ ⟨256 * (1 : Fin 4).val + q.val, by have := (1 : Fin 4).isLt; omega⟩) :=
    ⟨_, rfl, fun r q => rd_unit _ _ _ h12 _ (ix2 ⟨512 * k.val + r.val, by omega⟩ ⟨256 * (1 : Fin 4).val + q.val, by have := (1 : Fin 4).isLt; omega⟩) (by intro a; rw [show k0_off28 (BitVec.ofNat 32 n) k a = _ from congrFun (Len.off28_eq hn k) a]; fin_cases a <;> simp [ix2])⟩
  obtain ⟨W2, hW2, e12_2⟩ : ∃ V : FVec Ideal S512x256 .f32, View.readAt (Elt Ideal) arg12.view (Rect.unit (s := S8192x1024) (k0_off29 (BitVec.ofNat 32 n) k) S512x256.size (k0_off29_inb _ k0_hw1 k)).toLoadRect X_arg12 = V ∧
      ∀ (r : Fin 512) (q : Fin 256), V (ix2 r q) = x12 (ix2 ⟨512 * k.val + r.val, by omega⟩ ⟨256 * (2 : Fin 4).val + q.val, by have := (2 : Fin 4).isLt; omega⟩) :=
    ⟨_, rfl, fun r q => rd_unit _ _ _ h12 _ (ix2 ⟨512 * k.val + r.val, by omega⟩ ⟨256 * (2 : Fin 4).val + q.val, by have := (2 : Fin 4).isLt; omega⟩) (by intro a; rw [show k0_off29 (BitVec.ofNat 32 n) k a = _ from congrFun (Len.off29_eq hn k) a]; fin_cases a <;> simp [ix2])⟩
  obtain ⟨W3, hW3, e12_3⟩ : ∃ V : FVec Ideal S512x256 .f32, View.readAt (Elt Ideal) arg12.view (Rect.unit (s := S8192x1024) (k0_off30 (BitVec.ofNat 32 n) k) S512x256.size (k0_off30_inb _ k0_hw1 k)).toLoadRect X_arg12 = V ∧
      ∀ (r : Fin 512) (q : Fin 256), V (ix2 r q) = x12 (ix2 ⟨512 * k.val + r.val, by omega⟩ ⟨256 * (3 : Fin 4).val + q.val, by have := (3 : Fin 4).isLt; omega⟩) :=
    ⟨_, rfl, fun r q => rd_unit _ _ _ h12 _ (ix2 ⟨512 * k.val + r.val, by omega⟩ ⟨256 * (3 : Fin 4).val + q.val, by have := (3 : Fin 4).isLt; omega⟩) (by intro a; rw [show k0_off30 (BitVec.ofNat 32 n) k a = _ from congrFun (Len.off30_eq hn k) a]; fin_cases a <;> simp [ix2])⟩
  unfold tripR_k0_t5 trip_k0_t5
  dsimp only
  simp only [trip_k0_t5.sl.cst_82, trip_k0_t5.sl.v166, trip_k0_t5.sl.v218, trip_k0_t5.sl.v204, trip_k0_t5.sl.v155, trip_k0_t5.sl.arg14, trip_k0_t5.sl.v176, trip_k0_t5.sl.v209, trip_k0_t5.sl.v182, trip_k0_t5.sl.v184, trip_k0_t5.sl.v191, trip_k0_t5.sl.v159, trip_k0_t5.sl.v152, trip_k0_t5.sl.v188, trip_k0_t5.sl.v151, trip_k0_t5.sl.v216, trip_k0_t5.sl.v208, trip_k0_t5.sl.cst_81, trip_k0_t5.sl.v199, trip_k0_t5.sl.v179, trip_k0_t5.sl.v193, trip_k0_t5.sl.v172, trip_k0_t5.sl.v220, trip_k0_t5.sl.v219, trip_k0_t5.sl.v217, trip_k0_t5.sl.v198, trip_k0_t5.sl.v169, trip_k0_t5.sl.v171, trip_k0_t5.sl.v195, trip_k0_t5.sl.v200, trip_k0_t5.sl.cst_85, trip_k0_t5.sl.v165, trip_k0_t5.sl.v150, trip_k0_t5.sl.v194, trip_k0_t5.sl.v211, trip_k0_t5.sl.v156, trip_k0_t5.sl.v203, trip_k0_t5.sl.v192, trip_k0_t5.sl.v170, trip_k0_t5.sl.v154, trip_k0_t5.sl.v201, trip_k0_t5.sl.v160, trip_k0_t5.sl.v212, trip_k0_t5.sl.v189, trip_k0_t5.sl.v207, trip_k0_t5.sl.v214, trip_k0_t5.sl.v153, trip_k0_t5.sl.v185, trip_k0_t5.sl.v147, trip_k0_t5.sl.v158, trip_k0_t5.sl.v173, trip_k0_t5.sl.v190, trip_k0_t5.sl.v143, trip_k0_t5.sl.v213, trip_k0_t5.sl.v222, trip_k0_t5.sl.v157, trip_k0_t5.sl.v197, trip_k0_t5.sl.v162, trip_k0_t5.sl.v145, trip_k0_t5.sl.v181, trip_k0_t5.sl.v180, trip_k0_t5.sl.v163, trip_k0_t5.sl.v174, trip_k0_t5.sl.v210, trip_k0_t5.sl.v178, trip_k0_t5.sl.v175]
  rw [hW0, hW1, hW2, hW3]
  exact congrArg₂ Prod.mk (sum_of (by omega) e12_0 _) (congrArg₂ Prod.mk (sum_of (by omega) e12_1 _) (congrArg₂ Prod.mk (sum_of (by omega) e12_2 _) (sum_of (by omega) e12_3 _)))

end Cert.AttnIdeal.Val

end
-- ==== Proof.AttnIdeal.St5.lean ====
/- The state of the weighting loop. -/
module

public import proofs.«01_k».proof.Proof.AttnIdeal.Trip5
public import proofs.«01_k».proof.Proof.AttnIdeal.Four
public import proofs.«01_k».proof.Proof.AttnIdeal.Sums
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1000000 in
/-- The state after `K` trips: the running sums, and the accumulated products of those trips in the buffer. -/
theorem st5 (𝒱 : Variants) (c : Dev nD) (bd : Option 𝒱.V) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (n : ℕ) (hn : n ≤ 8192) (k0_hw1 : k0_chk1 (BitVec.ofNat 32 n)) (v62 : FVec Ideal S1x256 .f32) (v66 : FVec Ideal S1x256 .f32) (v70 : FVec Ideal S1x256 .f32) (v74 : FVec Ideal S1x256 .f32) (v79 : FVec Ideal S1x256 .f32) (v84 : FVec Ideal S1x256 .f32) (v89 : FVec Ideal S1x256 .f32) (v94 : FVec Ideal S1x256 .f32) (c0_i32_56 : BitVec 32) (X_arg8 : BufTy.Contents (Elt Ideal) arg8.view.ty) (X_arg12 : BufTy.Contents (Elt Ideal) arg12.view.ty) (G : BufTy.Contents (Elt Ideal) arg13.view.ty) (init : FVec Ideal S8x256 .f32 × FVec Ideal S8x256 .f32 × FVec Ideal S8x256 .f32 × FVec Ideal S8x256 .f32)
    (x8 : FVec Ideal S1x1x64x8192 .fp8e4m3) (x12 : FVec Ideal S8192x1024 .f32)
    (h8 : arg8.view.read (Elt Ideal) X_arg8 = x8) (h12 : arg12.view.read (Elt Ideal) X_arg12 = x12)
    (hi : init = (sm x12 v62 v79 0 0, sm x12 v66 v84 1 0, sm x12 v70 v89 2 0, sm x12 v74 v94 3 0)) (hG : ∀ y, arg13.view.read (Elt Ideal) G y = 0) :
    ∀ K : ℕ, K ≤ (n + 511) / 512 →
      (st_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 G init K).1 = (sm x12 v62 v79 0 K, sm x12 v66 v84 1 K, sm x12 v70 v89 2 K, sm x12 v74 v94 3 K) ∧
      (∀ (d : Fin 64) (q : Fin 256), arg13.view.read (Elt Ideal) (arg13.view.writes (Elt Ideal) G (st_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 G init K).2) (ix2 d ⟨0 + q.val, by omega⟩) = ac x8 x12 v62 v79 0 K (ix2 d q)) ∧
      (∀ (d : Fin 64) (q : Fin 256), arg13.view.read (Elt Ideal) (arg13.view.writes (Elt Ideal) G (st_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 G init K).2) (ix2 d ⟨256 + q.val, by omega⟩) = ac x8 x12 v66 v84 1 K (ix2 d q)) ∧
      (∀ (d : Fin 64) (q : Fin 256), arg13.view.read (Elt Ideal) (arg13.view.writes (Elt Ideal) G (st_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 G init K).2) (ix2 d ⟨512 + q.val, by omega⟩) = ac x8 x12 v70 v89 2 K (ix2 d q)) ∧
      (∀ (d : Fin 64) (q : Fin 256), arg13.view.read (Elt Ideal) (arg13.view.writes (Elt Ideal) G (st_k0_t5 (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 G init K).2) (ix2 d ⟨768 + q.val, by omega⟩) = ac x8 x12 v74 v94 3 K (ix2 d q)) := by
  intro K
  induction K with
  | zero =>
    intro _
    refine ⟨hi, ?_, ?_, ?_, ?_⟩ <;> (intro d q; rw [ac_zero]; exact hG _)
  | succ K ih =>
    intro hK
    obtain ⟨ih1, i0, i1, i2, i3⟩ := ih (by omega)
    have hk : K < (k0_t5_loop (BitVec.ofNat 32 n)).trips := by rw [Len.t5_trips hn]; omega
    have hs := st_k0_t5_succ (F := Ideal) 𝒱 c bd i arg3 harg3 arg4 harg4 arg5 harg5 arg6 harg6 arg7 harg7 arg8 harg8 arg9 harg9 arg10 harg10 arg11 harg11 arg12 harg12 arg13 harg13 (BitVec.ofNat 32 n) k0_hw1 v62 v66 v70 v74 v79 v84 v89 v94 c0_i32_56 X_arg8 X_arg12 G init ⟨K, hk⟩
    rw [tripR5 (hn := hn) (x8 := x8) (x12 := x12) (h8 := h8) (h12 := h12), tripL5 (hn := hn) (x8 := x8) (x12 := x12) (h8 := h8) (h12 := h12)] at hs
    dsimp only at hs
    rw [hs]
    refine ⟨?_, fun d q => ?_, fun d q => ?_, fun d q => ?_, fun d q => ?_⟩
    · rw [ih1]
      exact congrArg₂ Prod.mk (sm_succ _) (congrArg₂ Prod.mk (sm_succ _) (congrArg₂ Prod.mk (sm_succ _) (sm_succ _)))
    · refine (acc_in0 arg13.view G _ _ _ _ _ _ _ _ _ 0 rfl rfl rfl rfl d d (Nat.zero_add _).symm q).trans ?_
      refine congrFun (ac_succ K (funext fun i => ?_)) (ix2 d q)
      obtain ⟨i0', i1', rfl⟩ : ∃ (i0' : Fin 64) (i1' : Fin 256), i = ix2 i0' i1' := ⟨i 0, i 1, by funext a; fin_cases a <;> rfl⟩
      exact (rd_unit arg13.view _ _ rfl _ (ix2 i0' ⟨0 + i1'.val, by omega⟩) (by intro a; fin_cases a <;> simp [ix2])).trans (i0 i0' i1')
    · refine (acc_in1 arg13.view G _ _ _ _ _ _ _ _ _ 0 rfl rfl rfl rfl d d (Nat.zero_add _).symm q).trans ?_
      refine congrFun (ac_succ K (funext fun i => ?_)) (ix2 d q)
      obtain ⟨i0', i1', rfl⟩ : ∃ (i0' : Fin 64) (i1' : Fin 256), i = ix2 i0' i1' := ⟨i 0, i 1, by funext a; fin_cases a <;> rfl⟩
      exact (rd_unit arg13.view _ _ rfl _ (ix2 i0' ⟨256 + i1'.val, by omega⟩) (by intro a; fin_cases a <;> simp [ix2])).trans (i1 i0' i1')
    · refine (acc_in2 arg13.view G _ _ _ _ _ _ _ _ _ 0 rfl rfl rfl rfl d d (Nat.zero_add _).symm q).trans ?_
      refine congrFun (ac_succ K (funext fun i => ?_)) (ix2 d q)
      obtain ⟨i0', i1', rfl⟩ : ∃ (i0' : Fin 64) (i1' : Fin 256), i = ix2 i0' i1' := ⟨i 0, i 1, by funext a; fin_cases a <;> rfl⟩
      exact (rd_unit arg13.view _ _ rfl _ (ix2 i0' ⟨512 + i1'.val, by omega⟩) (by intro a; fin_cases a <;> simp [ix2])).trans (i2 i0' i1')
    · refine (acc_in3 arg13.view G _ _ _ _ _ _ _ _ _ 0 rfl rfl rfl rfl d d (Nat.zero_add _).symm q).trans ?_
      refine congrFun (ac_succ K (funext fun i => ?_)) (ix2 d q)
      obtain ⟨i0', i1', rfl⟩ : ∃ (i0' : Fin 64) (i1' : Fin 256), i = ix2 i0' i1' := ⟨i 0, i 1, by funext a; fin_cases a <;> rfl⟩
      exact (rd_unit arg13.view _ _ rfl _ (ix2 i0' ⟨768 + i1'.val, by omega⟩) (by intro a; fin_cases a <;> simp [ix2])).trans (i3 i0' i1')

end Cert.AttnIdeal.Val

end
-- ==== Proof.AttnIdeal.Chain.lean ====
/- What the body stores, from the states its loops leave. -/
module

public import proofs.«01_k».proof.Proof.AttnIdeal.St1
public import proofs.«01_k».proof.Proof.AttnIdeal.St3
public import proofs.«01_k».proof.Proof.AttnIdeal.St5
public import proofs.«01_k».proof.Proof.AttnIdeal.Out
public import Idealize.ShloMosaic.Lib.VecWindow
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

set_option maxHeartbeats 1600000 in
/-- The loops a program runs one after another, and the block it stores from what they leave. -/
theorem chain (c : Dev nD) (i : grid0.Coords) (arg3 : Memref sig .tc .smem S4 .i32) (harg3 : arg3.IsWhole) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole)  (n : ℕ) (hn : n ≤ 8192) (v1 : Elt Ideal .i32) (hv1 : v1 = BitVec.ofNat 32 n) (k0_hw1 : k0_chk1 v1)
    (v18 : BitVec 32) (hv18 : v18 = Words.floor512 v1) (v37 : BitVec 32) (v38 : BitVec 1) (v49 v56 c56 v107 : BitVec 32)
    (x0 : FVec Ideal S1x256x256 .fp8e4m3) (x1 : FVec Ideal S1x1x4x256 .f32) (x2 : FVec Ideal S1x1x8192x128 .fp8e4m3) (ks : Fin 8192 → EReal)
    (x4 : FVec Ideal S1x1x64x8192 .fp8e4m3) (x5 : FVec Ideal S1x1x64x128 .f32)
    (X4 : BufTy.Contents (Elt Ideal) arg4.view.ty) (X6 : BufTy.Contents (Elt Ideal) arg6.view.ty) (X11 : BufTy.Contents (Elt Ideal) arg11.view.ty)
    (X5 : BufTy.Contents (Elt Ideal) arg5.view.ty) (X8 : BufTy.Contents (Elt Ideal) arg8.view.ty) (X9 : BufTy.Contents (Elt Ideal) arg9.view.ty)
    (G10 : BufTy.Contents (Elt Ideal) arg10.view.ty) (G12 : BufTy.Contents (Elt Ideal) arg12.view.ty) (J13 : BufTy.Contents (Elt Ideal) arg13.view.ty)
    (h4 : arg4.view.read (Elt Ideal) X4 = x0) (h5 : arg5.view.read (Elt Ideal) X5 = x1) (h6 : arg6.view.read (Elt Ideal) X6 = x2)
    (h11 : arg11.view.read (Elt Ideal) X11 = fun i => ks (i 0)) (h8 : arg8.view.read (Elt Ideal) X8 = x4) (h9 : arg9.view.read (Elt Ideal) X9 = x5)
    (S1 S2 S3 S4 : (FVec Ideal S8x256 .f32 × FVec Ideal S8x256 .f32 × FVec Ideal S8x256 .f32 × FVec Ideal S8x256 .f32) × List (View.Piece (Elt Ideal) S8192x1024 .f32)) (S5 S6 : (FVec Ideal S8x256 .f32 × FVec Ideal S8x256 .f32 × FVec Ideal S8x256 .f32 × FVec Ideal S8x256 .f32) × List (View.Piece (Elt Ideal) S64x1024 .f32))
    (a0 a1 a2 a3 m0 m1 m2 m3 : FVec Ideal S1x256 .f32)
    (e1 : st_k0_t1 (F := Ideal) Variants.none c none i arg3 harg3 arg4 harg4 arg5 harg5 arg6 harg6 arg7 harg7 arg8 harg8 arg9 harg9 arg10 harg10 arg11 harg11 arg12 harg12 arg13 harg13 v1 k0_hw1 v18 v37 v38 X4 X6 X11 (k0_pay139, k0_pay140, k0_pay141, k0_pay142) (Scf.trips (k0_t1_loop v1).lb (k0_t1_loop v1).ub (k0_t1_loop v1).st) = S1)
    (e2 : st_k0_t2 (F := Ideal) Variants.none c none i arg3 harg3 arg4 harg4 arg5 harg5 arg6 harg6 arg7 harg7 arg8 harg8 arg9 harg9 arg10 harg10 arg11 harg11 arg12 harg12 arg13 harg13 v1 k0_hw1 v18 v37 v38 v49 X4 X6 X11 (S1.1.1, S1.1.2.1, S1.1.2.2.1, S1.1.2.2.2) (Scf.trips (k0_t2_loop v1).lb (k0_t2_loop v1).ub (k0_t2_loop v1).st) = S2)
    (e3 : st_k0_t3 (F := Ideal) Variants.none c none i arg3 harg3 arg4 harg4 arg5 harg5 arg6 harg6 arg7 harg7 arg8 harg8 arg9 harg9 arg10 harg10 arg11 harg11 arg12 harg12 arg13 harg13 v1 k0_hw1 v18 v37 v38 X4 X6 X11 (S2.1.1, S2.1.2.1, S2.1.2.2.1, S2.1.2.2.2) (Scf.trips (k0_t3_loop v1).lb (k0_t3_loop v1).ub (k0_t3_loop v1).st) = S3)
    (e4 : st_k0_t4 (F := Ideal) Variants.none c none i arg3 harg3 arg4 harg4 arg5 harg5 arg6 harg6 arg7 harg7 arg8 harg8 arg9 harg9 arg10 harg10 arg11 harg11 arg12 harg12 arg13 harg13 v1 k0_hw1 v18 v37 v38 v56 X4 X6 X11 (S3.1.1, S3.1.2.1, S3.1.2.2.1, S3.1.2.2.2) (Scf.trips (k0_t4_loop v1).lb (k0_t4_loop v1).ub (k0_t4_loop v1).st) = S4)
    (ea0 : k0_pay157 (F := Ideal) (View.readAt (Elt Ideal) arg5.view (Rect.unit (s := S1x1x4x256) ![0, 0, 0, 0] S1x1x1x256.size inb_S1x1x4x256_S1x1x1x256_0_0_0_0).toLoadRect X5) = a0)
    (ea1 : k0_pay158 (F := Ideal) (View.readAt (Elt Ideal) arg5.view (Rect.unit (s := S1x1x4x256) ![0, 0, 1, 0] S1x1x1x256.size inb_S1x1x4x256_S1x1x1x256_0_0_1_0).toLoadRect X5) = a1)
    (ea2 : k0_pay159 (F := Ideal) (View.readAt (Elt Ideal) arg5.view (Rect.unit (s := S1x1x4x256) ![0, 0, 2, 0] S1x1x1x256.size inb_S1x1x4x256_S1x1x1x256_0_0_2_0).toLoadRect X5) = a2)
    (ea3 : k0_pay160 (F := Ideal) (View.readAt (Elt Ideal) arg5.view (Rect.unit (s := S1x1x4x256) ![0, 0, 3, 0] S1x1x1x256.size inb_S1x1x4x256_S1x1x1x256_0_0_3_0).toLoadRect X5) = a3)
    (em0 : k0_pay161 (F := Ideal) S4.1.1 a0 = m0)
    (em1 : k0_pay162 (F := Ideal) S4.1.2.1 a1 = m1)
    (em2 : k0_pay163 (F := Ideal) S4.1.2.2.1 a2 = m2)
    (em3 : k0_pay164 (F := Ideal) S4.1.2.2.2 (View.readAt (Elt Ideal) arg5.view (Rect.unit (s := S1x1x4x256) ![0, 0, 3, 0] S1x1x1x256.size inb_S1x1x4x256_S1x1x1x256_0_0_3_0).toLoadRect X5) = m3)
    (e5 : st_k0_t5 (F := Ideal) Variants.none c none i arg3 harg3 arg4 harg4 arg5 harg5 arg6 harg6 arg7 harg7 arg8 harg8 arg9 harg9 arg10 harg10 arg11 harg11 arg12 harg12 arg13 harg13 v1 k0_hw1 a0 a1 a2 a3 m0 m1 m2 m3 c56 X8 (arg12.view.writes (Elt Ideal) G12 (S4.2 ++ (S3.2 ++ (S2.2 ++ S1.2)))) (arg13.view.writes (Elt Ideal) J13 [⟨Rect.unit (s := S64x1024) ![0, 0] S64x1024.size inb_S64x1024_S64x1024_0_0, k0_pay165 (F := Ideal)⟩]) (k0_pay166, k0_pay167, k0_pay168, k0_pay169) (Scf.trips (k0_t5_loop v1).lb (k0_t5_loop v1).ub (k0_t5_loop v1).st) = S5)
    (e6 : st_k0_t6 (F := Ideal) Variants.none c none i arg3 harg3 arg4 harg4 arg5 harg5 arg6 harg6 arg7 harg7 arg8 harg8 arg9 harg9 arg10 harg10 arg11 harg11 arg12 harg12 arg13 harg13 v1 k0_hw1 a0 a1 a2 a3 m0 m1 m2 m3 v107 X8 (arg12.view.writes (Elt Ideal) G12 (S4.2 ++ (S3.2 ++ (S2.2 ++ S1.2)))) (arg13.view.writes (Elt Ideal) J13 (S5.2 ++ [⟨Rect.unit (s := S64x1024) ![0, 0] S64x1024.size inb_S64x1024_S64x1024_0_0, k0_pay165 (F := Ideal)⟩])) (S5.1.1, S5.1.2.1, S5.1.2.2.1, S5.1.2.2.2) (Scf.trips (k0_t6_loop v1).lb (k0_t6_loop v1).ub (k0_t6_loop v1).st) = S6) :
    arg10.view.read (Elt Ideal) (arg10.view.writes (Elt Ideal) G10 [⟨Rect.unit (s := S1x256x256) ![0, 0, 0] S1x256x256.size inb_S1x256x256_S1x256x256_0_0_0,
      k0_pay172 (F := Ideal) S6.1.1 S6.1.2.1 S6.1.2.2.1 S6.1.2.2.2 (View.readAt (Elt Ideal) arg9.view (Rect.unit (s := S1x1x64x128) ![0, 0, 0, 0] S1x1x64x128.size inb_S1x1x64x128_S1x1x64x128_0_0_0_0).toLoadRect X9)
        (View.readAt (Elt Ideal) arg13.view (Rect.unit (s := S64x1024) ![0, 0] S64x256.size inb_S64x1024_S64x256_0_0).toLoadRect (arg13.view.writes (Elt Ideal) J13 (S6.2 ++ (S5.2 ++ [⟨Rect.unit (s := S64x1024) ![0, 0] S64x1024.size inb_S64x1024_S64x1024_0_0, k0_pay165 (F := Ideal)⟩])))) (View.readAt (Elt Ideal) arg13.view (Rect.unit (s := S64x1024) ![0, 256] S64x256.size inb_S64x1024_S64x256_0_256).toLoadRect (arg13.view.writes (Elt Ideal) J13 (S6.2 ++ (S5.2 ++ [⟨Rect.unit (s := S64x1024) ![0, 0] S64x1024.size inb_S64x1024_S64x1024_0_0, k0_pay165 (F := Ideal)⟩])))) (View.readAt (Elt Ideal) arg13.view (Rect.unit (s := S64x1024) ![0, 512] S64x256.size inb_S64x1024_S64x256_0_512).toLoadRect (arg13.view.writes (Elt Ideal) J13 (S6.2 ++ (S5.2 ++ [⟨Rect.unit (s := S64x1024) ![0, 0] S64x1024.size inb_S64x1024_S64x1024_0_0, k0_pay165 (F := Ideal)⟩])))) (View.readAt (Elt Ideal) arg13.view (Rect.unit (s := S64x1024) ![0, 768] S64x256.size inb_S64x1024_S64x256_0_768).toLoadRect (arg13.view.writes (Elt Ideal) J13 (S6.2 ++ (S5.2 ++ [⟨Rect.unit (s := S64x1024) ![0, 0] S64x1024.size inb_S64x1024_S64x1024_0_0, k0_pay165 (F := Ideal)⟩]))))⟩]) = outV n x0 x1 x2 ks x4 x5 := by
  subst hv1
  have hv18' : v18 = BitVec.ofNat 32 (n / 512) := hv18.trans (Words.floor512_ofNat (by omega))
  have ht1 : (Scf.trips (k0_t1_loop (BitVec.ofNat 32 n)).lb (k0_t1_loop (BitVec.ofNat 32 n)).ub (k0_t1_loop (BitVec.ofNat 32 n)).st) = n / 512 := Len.t1_trips hn
  have ht3 : (Scf.trips (k0_t3_loop (BitVec.ofNat 32 n)).lb (k0_t3_loop (BitVec.ofNat 32 n)).ub (k0_t3_loop (BitVec.ofNat 32 n)).st) = (n + 511) / 512 - n / 512 := Len.t3_trips hn
  have ht5 : (Scf.trips (k0_t5_loop (BitVec.ofNat 32 n)).lb (k0_t5_loop (BitVec.ofNat 32 n)).ub (k0_t5_loop (BitVec.ofNat 32 n)).st) = (n + 511) / 512 := Len.t5_trips hn
  have ht2 : (Scf.trips (k0_t2_loop (BitVec.ofNat 32 n)).lb (k0_t2_loop (BitVec.ofNat 32 n)).ub (k0_t2_loop (BitVec.ofNat 32 n)).st) = 0 := Len.t2_trips _
  have ht4 : (Scf.trips (k0_t4_loop (BitVec.ofNat 32 n)).lb (k0_t4_loop (BitVec.ofNat 32 n)).ub (k0_t4_loop (BitVec.ofNat 32 n)).st) = 0 := Len.t4_trips _
  have ht6 : (Scf.trips (k0_t6_loop (BitVec.ofNat 32 n)).lb (k0_t6_loop (BitVec.ofNat 32 n)).ub (k0_t6_loop (BitVec.ofNat 32 n)).st) = 0 := Len.t6_trips _
  rw [ht1] at e1; rw [ht2] at e2; rw [ht3] at e3; rw [ht4] at e4; rw [ht5] at e5; rw [ht6] at e6
  have hfull : n / 512 + ((n + 511) / 512 - n / 512) = (n + 511) / 512 := by omega
  -- the maxima and the scores
  have s1 := st1 Variants.none c none i arg3 harg3 arg4 harg4 arg5 harg5 arg6 harg6 arg7 harg7 arg8 harg8 arg9 harg9 arg10 harg10 arg11 harg11 arg12 harg12 arg13 harg13 n hn k0_hw1 v18 v37 v38 X4 X6 X11 (k0_pay139, k0_pay140, k0_pay141, k0_pay142) x0 x2 ks h4 h6 h11
    (by
      have z : ∀ g, mx n x0 x2 ks g 0 = fun _ => Ideal.ofBits FTy.f32 4286578688#32 := fun g => by rw [mx_zero, ofBits_neg_inf]
      rw [z, z, z, z]; rfl) (n / 512) le_rfl
  rw [e1] at s1
  obtain ⟨s1a, s1b⟩ := s1
  have s2a : S2 = ((S1.1.1, S1.1.2.1, S1.1.2.2.1, S1.1.2.2.2), []) := e2.symm.trans rfl
  have s3 := st3 Variants.none c none i arg3 harg3 arg4 harg4 arg5 harg5 arg6 harg6 arg7 harg7 arg8 harg8 arg9 harg9 arg10 harg10 arg11 harg11 arg12 harg12 arg13 harg13 n hn k0_hw1 v18 v37 v38 X4 X6 X11 (S2.1.1, S2.1.2.1, S2.1.2.2.1, S2.1.2.2.2) x0 x2 ks h4 h6 h11 hv18'
    (by rw [s2a]; dsimp only; rw [s1a]) ((n + 511) / 512 - n / 512) le_rfl
  rw [e3, hfull] at s3
  obtain ⟨s3a, s3b, s3c⟩ := s3
  have s4a : S4 = ((S3.1.1, S3.1.2.1, S3.1.2.2.1, S3.1.2.2.2), []) := e4.symm.trans rfl
  have s4b : S4.1 = (mx n x0 x2 ks 0 ((n + 511) / 512), mx n x0 x2 ks 1 ((n + 511) / 512), mx n x0 x2 ks 2 ((n + 511) / 512), mx n x0 x2 ks 3 ((n + 511) / 512)) := by
    rw [s4a]; dsimp only; rw [s3a]
  have hx : ∀ (g : Fin 4) (q : Fin 256) (s : Fin 8192), s.val < 512 * ((n + 511) / 512) →
      arg12.view.read (Elt Ideal) (arg12.view.writes (Elt Ideal) G12 (S4.2 ++ (S3.2 ++ (S2.2 ++ S1.2)))) (ix2 s ⟨256 * g.val + q.val, by omega⟩) = T n x0 x2 ks g q s.val := by
    intro g q s hs
    rw [s4a, s2a]
    dsimp only
    rw [List.nil_append, List.nil_append, View.writes_append]
    by_cases hlt : s.val < 512 * (n / 512)
    · exact (s3c _ s _ hlt).trans (s1b _ g q s hlt)
    · exact s3b _ g q s (by omega) hs
  -- the scales and the lowered maxima
  have q0 : a0 = fun i => av x1 0 (i 1) := ea0.symm.trans (pay157 fun q => rd_unit arg5.view _ _ h5 _ (ix4 0 0 0 q) (by intro a; fin_cases a <;> simp [ix4]))
  have q1 : a1 = fun i => av x1 1 (i 1) := ea1.symm.trans (pay158 fun q => rd_unit arg5.view _ _ h5 _ (ix4 0 0 1 q) (by intro a; fin_cases a <;> simp [ix4]))
  have q2 : a2 = fun i => av x1 2 (i 1) := ea2.symm.trans (pay159 fun q => rd_unit arg5.view _ _ h5 _ (ix4 0 0 2 q) (by intro a; fin_cases a <;> simp [ix4]))
  have q3 : a3 = fun i => av x1 3 (i 1) := ea3.symm.trans (pay160 fun q => rd_unit arg5.view _ _ h5 _ (ix4 0 0 3 q) (by intro a; fin_cases a <;> simp [ix4]))
  have p0 : m0 = fun i => mv n x0 x1 x2 ks ((n + 511) / 512) 0 (i 1) := by
    rw [← em0, s4b]
    exact pay161 q0
  have p1 : m1 = fun i => mv n x0 x1 x2 ks ((n + 511) / 512) 1 (i 1) := by
    rw [← em1, s4b]
    exact pay162 q1
  have p2 : m2 = fun i => mv n x0 x1 x2 ks ((n + 511) / 512) 2 (i 1) := by
    rw [← em2, s4b]
    exact pay163 q2
  have p3 : m3 = fun i => mv n x0 x1 x2 ks ((n + 511) / 512) 3 (i 1) := by
    rw [← em3, s4b]
    exact pay164 fun q => rd_unit arg5.view _ _ h5 _ (ix4 0 0 3 q) (by intro a; fin_cases a <;> simp [ix4])
  -- the sums and the products
  have s5 := st5 Variants.none c none i arg3 harg3 arg4 harg4 arg5 harg5 arg6 harg6 arg7 harg7 arg8 harg8 arg9 harg9 arg10 harg10 arg11 harg11 arg12 harg12 arg13 harg13 n hn k0_hw1 a0 a1 a2 a3 m0 m1 m2 m3 c56 X8 (arg12.view.writes (Elt Ideal) G12 (S4.2 ++ (S3.2 ++ (S2.2 ++ S1.2)))) (arg13.view.writes (Elt Ideal) J13 [⟨Rect.unit (s := S64x1024) ![0, 0] S64x1024.size inb_S64x1024_S64x1024_0_0, k0_pay165 (F := Ideal)⟩]) (k0_pay166, k0_pay167, k0_pay168, k0_pay169) x4 _ h8 rfl
    (by
      have z : ∀ x12 a m g, sm x12 a m g 0 = fun _ => Ideal.ofBits FTy.f32 0#32 := fun x12 a m g => by rw [sm_zero]; funext _; simp [Ideal.ofBits, Ideal.ieee]
      rw [z, z, z, z]; rfl)
    (fun y => (congrFun (View.read_writes_full arg13.view J13 _ _ _) y).trans
      (show k0_pay165 (F := Ideal) y = 0 by pointwise [k0_pay165])) ((n + 511) / 512) le_rfl
  rw [e5] at s5
  obtain ⟨s5a, t0, t1, t2, t3⟩ := s5
  have s6a : S6 = ((S5.1.1, S5.1.2.1, S5.1.2.2.1, S5.1.2.2.2), []) := e6.symm.trans rfl
  have s6b : S6.1 = _ := (congrArg Prod.fst s6a).trans s5a
  refine (View.read_writes_full arg10.view G10 _ _ _).trans ?_
  have r9 : View.readAt (Elt Ideal) arg9.view (Rect.unit (s := S1x1x64x128) ![0, 0, 0, 0] S1x1x64x128.size inb_S1x1x64x128_S1x1x64x128_0_0_0_0).toLoadRect X9 = x5 := (View.readAt_full arg9.view X9 _).trans h9
  subst q0 q1 q2 q3 p0 p1 p2 p3
  refine out_eq (K := (n + 511) / 512) rfl hn hx r9 ?_ ?_ ?_ ?_ ?_ ?_ ?_ ?_
  · exact congrArg (fun w => w.1) s6b
  · exact congrArg (fun w => w.2.1) s6b
  · exact congrArg (fun w => w.2.2.1) s6b
  · exact congrArg (fun w => w.2.2.2) s6b
  · funext j
    idx_vars j
    rw [s6a]
    dsimp only
    rw [List.nil_append, View.writes_append]
    exact (rd_unit arg13.view _ _ rfl _ (ix2 _ ⟨0 + _, by omega⟩) (by intro a; fin_cases a <;> simp [ix2])).trans (t0 _ _)
  · funext j
    idx_vars j
    rw [s6a]
    dsimp only
    rw [List.nil_append, View.writes_append]
    exact (rd_unit arg13.view _ _ rfl _ (ix2 _ ⟨256 + _, by omega⟩) (by intro a; fin_cases a <;> simp [ix2])).trans (t1 _ _)
  · funext j
    idx_vars j
    rw [s6a]
    dsimp only
    rw [List.nil_append, View.writes_append]
    exact (rd_unit arg13.view _ _ rfl _ (ix2 _ ⟨512 + _, by omega⟩) (by intro a; fin_cases a <;> simp [ix2])).trans (t2 _ _)
  · funext j
    idx_vars j
    rw [s6a]
    dsimp only
    rw [List.nil_append, View.writes_append]
    exact (rd_unit arg13.view _ _ rfl _ (ix2 _ ⟨768 + _, by omega⟩) (by intro a; fin_cases a <;> simp [ix2])).trans (t3 _ _)

end Cert.AttnIdeal.Val

end
-- ==== Proof.AttnIdeal.Spread.lean ====
/- What the first program of a head leaves in scratch: one key scale per row. -/
module

public import proofs.«01_k».proof.Proof.AttnIdeal.Score
public import Idealize.ShloMosaic.Lib.VecWindow
public import proofs.«01_k».proof.Proof.AttnIdeal.Len
public import proofs.«01_k».proof.Proof.Gen.AttnIdeal.Loops

@[expose] public section

set_option maxRecDepth 16384

noncomputable section

namespace Cert.AttnIdeal.Val

open Idealize.ShloMosaic Idealize.ShloMosaic.TcCoe Cert.AttnIdeal Cert.AttnIdeal.Gen

/-- The rows below `K` hold the scale of their key in every lane. -/
def Spread (arg11 : Memref sig .tc .vmem S8192x128 .f32) (x3 : FVec Ideal S1x1x1x8192 .f32) (f : BufTy.Contents (Elt Ideal) arg11.view.ty)
    (K : ℕ) (L : List (View.Piece (Elt Ideal) S8192x128 .f32)) : Prop :=
  ∀ (s : Fin 8192) (l : Fin 128), s.val < K → arg11.view.read (Elt Ideal) (arg11.view.writes (Elt Ideal) f L) (ix2 s l) = x3 (ix4 0 0 0 s)

/-- No store spreads no row. -/
theorem spread_nil (arg11 : Memref sig .tc .vmem S8192x128 .f32) (x3 : FVec Ideal S1x1x1x8192 .f32) (f : BufTy.Contents (Elt Ideal) arg11.view.ty) :
    Spread arg11 x3 f 0 [] := fun _ _ h => absurd h (Nat.not_lt_zero _)

/-- A stored block of 128 rows spreads the next 128 rows. -/
theorem spread_cons (arg11 : Memref sig .tc .vmem S8192x128 .f32) (x3 : FVec Ideal S1x1x1x8192 .f32) (f : BufTy.Contents (Elt Ideal) arg11.view.ty)
    (K : ℕ) (L : List (View.Piece (Elt Ideal) S8192x128 .f32)) (hK : K + 128 ≤ 8192) (inb : ∀ a, (![K, 0] : Fin 2 → ℕ) a + S128x128.size a ≤ S8192x128.size a)
    (w : FVec Ideal S128x128 .f32) (hw : ∀ r l : Fin 128, w (ix2 r l) = x3 (ix4 0 0 0 ⟨K + r.val, by omega⟩)) (h : Spread arg11 x3 f K L) :
    Spread arg11 x3 f (K + 128) (⟨Rect.unit (s := S8192x128) ![K, 0] S128x128.size inb, w⟩ :: L) := by
  intro s l hs
  by_cases hlt : s.val < K
  · rw [View.read_writes_cons_unit_of_not_mem (off' := ![K, 0]) arg11.view f _ _ L _ rfl (0 : Fin 2) (Or.inl hlt)]
    exact h s l hlt
  · refine (View.read_writes_cons_unit_of_mem (off' := ![K, 0]) arg11.view f _ _ L (ix2 s l) (ix2 ⟨s.val - K, by omega⟩ l) rfl (by
      intro a; fin_cases a <;> simp [ix2]; omega)).trans ?_
    rw [hw]
    congr 2
    exact Fin.ext (by show K + (s.val - K) = s.val; omega)

/-- A block's payload is its slice of the scales, one per row. -/
theorem spread_pay (V : FVec Ideal S1x1x1x128 .f32) (r l : Fin 128) : k0_pay1 (F := Ideal) V (ix2 r l) = V (ix4 0 0 0 r) := by
  pointwise [k0_pay1]

/-- A slice of the scales, read where it lies. -/
theorem spread_row (arg7 : Memref sig .tc .vmem S1x1x1x8192 .f32) (X7 : BufTy.Contents (Elt Ideal) arg7.view.ty) (x3 : FVec Ideal S1x1x1x8192 .f32)
    (h7 : arg7.view.read (Elt Ideal) X7 = x3) (K : ℕ) (hK : K + 128 ≤ 8192) (inb : ∀ a, (![0, 0, 0, K] : Fin 4 → ℕ) a + S1x1x1x128.size a ≤ S1x1x1x8192.size a)
    (r l : Fin 128) : k0_pay1 (F := Ideal) (View.readAt (Elt Ideal) arg7.view (Rect.unit (s := S1x1x1x8192) ![0, 0, 0, K] S1x1x1x128.size inb).toLoadRect X7) (ix2 r l)
      = x3 (ix4 0 0 0 ⟨K + r.val, by omega⟩) :=
  (spread_pay _ r l).trans (rd_unit arg7.view _ _ h7 _ (ix4 0 0 0 ⟨K + r.val, by omega⟩) (by intro a; fin_cases a <;> simp [ix4]))

set_option maxHeartbeats 2000000 in
/-- The 64 blocks the first program of a head stores leave each key's scale in its row. -/
theorem spread (arg7 : Memref sig .tc .vmem S1x1x1x8192 .f32) (arg11 : Memref sig .tc .vmem S8192x128 .f32) (X7 : BufTy.Contents (Elt Ideal) arg7.view.ty)
    (f : BufTy.Contents (Elt Ideal) arg11.view.ty) (x3 : FVec Ideal S1x1x1x8192 .f32) (h7 : arg7.view.read (Elt Ideal) X7 = x3)
    (L : List (View.Piece (Elt Ideal) S8192x128 .f32)) (hL : L = [⟨Rect.unit (s := S8192x128) ![8064, 0] S128x128.size inb_S8192x128_S128x128_8064_0, k0_pay64 (F := Ideal) (View.readAt (Elt Ideal) arg7.view (Rect.unit (s := S1x1x1x8192) ![0, 0, 0, 8064] S1x1x1x128.size inb_S1x1x1x8192_S1x1x1x128_0_0_0_8064).toLoadRect X7)⟩,
      ⟨Rect.unit (s := S8192x128) ![7936, 0] S128x128.size inb_S8192x128_S128x128_7936_0, k0_pay63 (F := Ideal) (View.readAt (Elt Ideal) arg7.view (Rect.unit (s := S1x1x1x8192) ![0, 0, 0, 7936] S1x1x1x128.size inb_S1x1x1x8192_S1x1x1x128_0_0_0_7936).toLoadRect X7)⟩,
      ⟨Rect.unit (s := S8192x128) ![7808, 0] S128x128.size inb_S8192x128_S128x128_7808_0, k0_pay62 (F := Ideal) (View.readAt (Elt Ideal) arg7.view (Rect.unit (s := S1x1x1x8192) ![0, 0, 0, 7808] S1x1x1x128.size inb_S1x1x1x8192_S1x1x1x128_0_0_0_7808).toLoadRect X7)⟩,
      ⟨Rect.unit (s := S8192x128) ![7680, 0] S128x128.size inb_S8192x128_S128x128_7680_0, k0_pay61 (F := Ideal) (View.readAt (Elt Ideal) arg7.view (Rect.unit (s := S1x1x1x8192) ![0, 0, 0, 7680] S1x1x1x128.size inb_S1x1x1x8192_S1x1x1x128_0_0_0_7680).toLoadRect X7)⟩,
      ⟨Rect.unit (s := S8192x128) ![7552, 0] S128x128.size inb_S8192x128_S128x128_7552_0, k0_pay60 (F := Ideal) (View.readAt (Elt Ideal) arg7.view (Rect.unit (s := S1x1x1x8192) ![0, 0, 0, 7552] S1x1x1x128.size inb_S1x1x1x8192_S1x1x1x128_0_0_0_7552).toLoadRect X7)⟩,
      ⟨Rect.unit (s := S8192x128) ![7424, 0] S128x128.size inb_S8192x128_S128x128_7424_0, k0_pay59 (F := Ideal) (View.readAt (Elt Ideal) arg7.view (Rect.unit (s := S1x1x1x8192) ![0, 0, 0, 7424] S1x1x1x128.size inb_S1x1x1x8192_S1x1x1x128_0_0_0_7424).toLoadRect X7)⟩,
      ⟨Rect.unit (s := S8192x128) ![7296, 0] S128x128.size inb_S8192x128_S128x128_7296_0, k0_pay58 (F := Ideal) (View.readAt (Elt Ideal) arg7.view (Rect.unit (s := S1x1x1x8192) ![0, 0, 0, 7296] S1x1x1x128.size inb_S1x1x1x8192_S1x1x1x128_0_0_0_7296).toLoadRect X7)⟩,
      ⟨Rect.unit (s := S8192x128) ![7168, 0] S128x128.size inb_S8192x128_S128x128_7168_0, k0_pay57 (F := Ideal) (View.readAt (Elt Ideal) arg7.view (Rect.unit (s := S1x1x1x8192) ![0, 0, 0, 7168] S1x1x1x128.size inb_S1x1x1x8192_S1x1x1x128_0_0_0_7168).toLoadRect X7)⟩,
      ⟨Rect.unit (s := S8192x128) ![7040, 0] S128x128.size inb_S8192x128_S128x128_7040_0, k0_pay56 (F := Ideal) (View.readAt (Elt Ideal) arg7.view (Rect.unit (s := S1x1x1x8192) ![0, 0, 0, 7040] S1x1x1x128.size inb_S1x1x1x8192_S1x1x1x128_0_0_0_7040).toLoadRect X7)⟩,
      ⟨Rect.unit (s := S8192x128) ![6912, 0] S128x128.size inb_S8192x128_S128x128_6912_0, k0_pay55 (F := Ideal) (View.readAt (Elt Ideal) arg7.view (Rect.unit (s := S1x1x1x8192) ![0, 0, 0, 6912] S1x1x1x128.size inb_S1x1x1x8192_S1x1x1x128_0_0_0_6912).toLoadRect X7)⟩,
      ⟨Rect.unit (s := S8192x128) ![6784, 0] S128x128.size inb_S8192x128_S128x128_6784_0, k0_pay54 (F := Ideal) (View.readAt (Elt Ideal) arg7.view (Rect.unit (s := S1x1x1x8192) ![0, 0, 0, 6784] S1x1x1x128.size inb_S1x1x1x8192_S1x1x1x128_0_0_0_6784).toLoadRect X7)⟩,
      ⟨Rect.unit (s := S8192x128) ![6656, 0] S128x128.size inb_S8192x128_S128x128_6656_0, k0_pay53 (F := Ideal) (View.readAt (Elt Ideal) arg7.view (Rect.unit (s := S1x1x1x8192) ![0, 0, 0, 6656] S1x1x1x128.size inb_S1x1x1x8192_S1x1x1x128_0_0_0_6656).toLoadRect X7)⟩,
      ⟨Rect.unit (s := S8192x128) ![6528, 0] S128x128.size inb_S8192x128_S128x128_6528_0, k0_pay52 (F := Ideal) (View.readAt (Elt Ideal) arg7.view (Rect.unit (s := S1x1x1x8192) ![0, 0, 0, 6528] S1x1x1x128.size inb_S1x1x1x8192_S1x1x1x128_0_0_0_6528).toLoadRect X7)⟩,
      ⟨Rect.unit (s := S8192x128) ![6400, 0] S128x128.size inb_S8192x128_S128x128_6400_0, k0_pay51 (F := Ideal) (View.readAt (Elt Ideal) arg7.view (Rect.unit (s := S1x1x1x8192) ![0, 0, 0, 6400] S1x1x1x128.size inb_S1x1x1x8192_S1x1x1x128_0_0_0_6400).toLoadRect X7)⟩,
      ⟨Rect.unit (s := S8192x128) ![6272, 0] S128x128.size inb_S8192x128_S128x128_6272_0, k0_pay50 (F := Ideal) (View.readAt (Elt Ideal) arg7.view (Rect.unit (s := S1x1x1x8192) ![0, 0, 0, 6272] S1x1x1x128.size inb_S1x1x1x8192_S1x1x1x128_0_0_0_6272).toLoadRect X7)⟩,
      ⟨Rect.unit (s := S8192x128) ![6144, 0] S128x128.size inb_S8192x128_S128x128_6144_0, k0_pay49 (F := Ideal) (View.readAt (Elt Ideal) arg7.view (Rect.unit (s := S1x1x1x8192) ![0, 0, 0, 6144] S1x1x1x128.size inb_S1x1x1x8192_S1x1x1x128_0_0_0_6144).toLoadRect X7)⟩,
      ⟨Rect.unit (s := S8192x128) ![6016, 0] S128x128.size inb_S8192x128_S128x128_6016_0, k0_pay48 (F := Ideal) (View.readAt (Elt Ideal) arg7.view (Rect.unit (s := S1x1x1x8192) ![0, 0, 0, 6016] S1x1x1x128.size inb_S1x1x1x8192_S1x1x1x128_0_0_0_6016).toLoadRect X7)⟩,
      ⟨Rect.unit (s := S8192x128) ![5888, 0] S128x128.size inb_S8192x128_S128x128_5888_0, k0_pay47 (F := Ideal) (View.readAt (Elt Ideal) arg7.view (Rect.unit (s := S1x1x1x8192) ![0, 0, 0, 5888] S1x1x1x128.size inb_S1x1x1x8192_S1x1x1x128_0_0_0_5888).toLoadRect X7)⟩,
      ⟨Rect.unit (s := S8192x128) ![5760, 0] S128x128.size inb_S8192x128_S128x128_5760_0, k0_pay46 (F := Ideal) (View.readAt (Elt Ideal) arg7.view (Rect.unit (s := S1x1x1x8192) ![0, 0, 0, 5760] S1x1x1x128.size inb_S1x1x1x8192_S1x1x1x128_0_0_0_5760).toLoadRect X7)⟩,
      ⟨Rect.unit (s := S8192x128) ![5632, 0] S128x128.size inb_S8192x128_S128x128_5632_0, k0_pay45 (F := Ideal) (View.readAt (Elt Ideal) arg7.view (Rect.unit (s := S1x1x1x8192) ![0, 0, 0, 5632] S1x1x1x128.size inb_S1x1x1x8192_S1x1x1x128_0_0_0_5632).toLoadRect X7)⟩,
      ⟨Rect.unit (s := S8192x128) ![5504, 0] S128x128.size inb_S8192x128_S128x128_5504_0, k0_pay44 (F := Ideal) (View.readAt (Elt Ideal) arg7.view (Rect.unit (s := S1x1x1x8192) ![0, 0, 0, 5504] S1x1x1x128.size inb_S1x1x1x8192_S1x1x1x128_0_0_0_5504).toLoadRect X7)⟩,
      ⟨Rect.unit (s := S8192x128) ![5376, 0] S128x128.size inb_S8192x128_S128x128_5376_0, k0_pay43 (F := Ideal) (View.readAt (Elt Ideal) arg7.view (Rect.unit (s := S1x1x1x8192) ![0, 0, 0, 5376] S1x1x1x128.size inb_S1x1x1x8192_S1x1x1x128_0_0_0_5376).toLoadRect X7)⟩,
      ⟨Rect.unit (s := S8192x128) ![5248, 0] S128x128.size inb_S8192x128_S128x128_5248_0, k0_pay42 (F := Ideal) (View.readAt (Elt Ideal) arg7.view (Rect.unit (s := S1x1x1x8192) ![0, 0, 0, 5248] S1x1x1x128.size inb_S1x1x1x8192_S1x1x1x128_0_0_0_5248).toLoadRect X7)⟩,
      ⟨Rect.unit (s := S8192x128) ![5120, 0] S128x128.size inb_S8192x128_S128x128_5120_0, k0_pay41 (F := Ideal) (View.readAt (Elt Ideal) arg7.view (Rect.unit (s := S1x1x1x8192) ![0, 0, 0, 5120] S1x1x1x128.size inb_S1x1x1x8192_S1x1x1x128_0_0_0_5120).toLoadRect X7)⟩,
      ⟨Rect.unit (s := S8192x128) ![4992, 0] S128x128.size inb_S8192x128_S128x128_4992_0, k0_pay40 (F := Ideal) (View.readAt (Elt Ideal) arg7.view (Rect.unit (s := S1x1x1x8192) ![0, 0, 0, 4992] S1x1x1x128.size inb_S1x1x1x8192_S1x1x1x128_0_0_0_4992).toLoadRect X7)⟩,
      ⟨Rect.unit (s := S8192x128) ![4864, 0] S128x128.size inb_S8192x128_S128x128_4864_0, k0_pay39 (F := Ideal) (View.readAt (Elt Ideal) arg7.view (Rect.unit (s := S1x1x1x8192) ![0, 0, 0, 4864] S1x1x1x128.size inb_S1x1x1x8192_S1x1x1x128_0_0_0_4864).toLoadRect X7)⟩,
      ⟨Rect.unit (s := S8192x128) ![4736, 0] S128x128.size inb_S8192x128_S128x128_4736_0, k0_pay38 (F := Ideal) (View.readAt (Elt Ideal) arg7.view (Rect.unit (s := S1x1x1x8192) ![0, 0, 0, 4736] S1x1x1x128.size inb_S1x1x1x8192_S1x1x1x128_0_0_0_4736).toLoadRect X7)⟩,
      ⟨Rect.unit (s := S8192x128) ![4608, 0] S128x128.size inb_S8192x128_S128x128_4608_0, k0_pay37 (F := Ideal) (View.readAt (Elt Ideal) arg7.view (Rect.unit (s := S1x1x1x8192) ![0, 0, 0, 4608] S1x1x1x128.size inb_S1x1x1x8192_S1x1x1x128_0_0_0_4608).toLoadRect X7)⟩,
      ⟨Rect.unit (s := S8192x128) ![4480, 0] S128x128.size inb_S8192x128_S128x128_4480_0, k0_pay36 (F := Ideal) (View.readAt (Elt Ideal) arg7.view (Rect.unit (s := S1x1x1x8192) ![0, 0, 0, 4480] S1x1x1x128.size inb_S1x1x1x8192_S1x1x1x128_0_0_0_4480).toLoadRect X7)⟩,
      ⟨Rect.unit (s := S8192x128) ![4352, 0] S128x128.size inb_S8192x128_S128x128_4352_0, k0_pay35 (F := Ideal) (View.readAt (Elt Ideal) arg7.view (Rect.unit (s := S1x1x1x8192) ![0, 0, 0, 4352] S1x1x1x128.size inb_S1x1x1x8192_S1x1x1x128_0_0_0_4352).toLoadRect X7)⟩,
      ⟨Rect.unit (s := S8192x128) ![4224, 0] S128x128.size inb_S8192x128_S128x128_4224_0, k0_pay34 (F := Ideal) (View.readAt (Elt Ideal) arg7.view (Rect.unit (s := S1x1x1x8192) ![0, 0, 0, 4224] S1x1x1x128.size inb_S1x1x1x8192_S1x1x1x128_0_0_0_4224).toLoadRect X7)⟩,
      ⟨Rect.unit (s := S8192x128) ![4096, 0] S128x128.size inb_S8192x128_S128x128_4096_0, k0_pay33 (F := Ideal) (View.readAt (Elt Ideal) arg7.view (Rect.unit (s := S1x1x1x8192) ![0, 0, 0, 4096] S1x1x1x128.size inb_S1x1x1x8192_S1x1x1x128_0_0_0_4096).toLoadRect X7)⟩,
      ⟨Rect.unit (s := S8192x128) ![3968, 0] S128x128.size inb_S8192x128_S128x128_3968_0, k0_pay32 (F := Ideal) (View.readAt (Elt Ideal) arg7.view (Rect.unit (s := S1x1x1x8192) ![0, 0, 0, 3968] S1x1x1x128.size inb_S1x1x1x8192_S1x1x1x128_0_0_0_3968).toLoadRect X7)⟩,
      ⟨Rect.unit (s := S8192x128) ![3840, 0] S128x128.size inb_S8192x128_S128x128_3840_0, k0_pay31 (F := Ideal) (View.readAt (Elt Ideal) arg7.view (Rect.unit (s := S1x1x1x8192) ![0, 0, 0, 3840] S1x1x1x128.size inb_S1x1x1x8192_S1x1x1x128_0_0_0_3840).toLoadRect X7)⟩,
      ⟨Rect.unit (s := S8192x128) ![3712, 0] S128x128.size inb_S8192x128_S128x128_3712_0, k0_pay30 (F := Ideal) (View.readAt (Elt Ideal) arg7.view (Rect.unit (s := S1x1x1x8192) ![0, 0, 0, 3712] S1x1x1x128.size inb_S1x1x1x8192_S1x1x1x128_0_0_0_3712).toLoadRect X7)⟩,
      ⟨Rect.unit (s := S8192x128) ![3584, 0] S128x128.size inb_S8192x128_S128x128_3584_0, k0_pay29 (F := Ideal) (View.readAt (Elt Ideal) arg7.view (Rect.unit (s := S1x1x1x8192) ![0, 0, 0, 3584] S1x1x1x128.size inb_S1x1x1x8192_S1x1x1x128_0_0_0_3584).toLoadRect X7)⟩,
      ⟨Rect.unit (s := S8192x128) ![3456, 0] S128x128.size inb_S8192x128_S128x128_3456_0, k0_pay28 (F := Ideal) (View.readAt (Elt Ideal) arg7.view (Rect.unit (s := S1x1x1x8192) ![0, 0, 0, 3456] S1x1x1x128.size inb_S1x1x1x8192_S1x1x1x128_0_0_0_3456).toLoadRect X7)⟩,
      ⟨Rect.unit (s := S8192x128) ![3328, 0] S128x128.size inb_S8192x128_S128x128_3328_0, k0_pay27 (F := Ideal) (View.readAt (Elt Ideal) arg7.view (Rect.unit (s := S1x1x1x8192) ![0, 0, 0, 3328] S1x1x1x128.size inb_S1x1x1x8192_S1x1x1x128_0_0_0_3328).toLoadRect X7)⟩,
      ⟨Rect.unit (s := S8192x128) ![3200, 0] S128x128.size inb_S8192x128_S128x128_3200_0, k0_pay26 (F := Ideal) (View.readAt (Elt Ideal) arg7.view (Rect.unit (s := S1x1x1x8192) ![0, 0, 0, 3200] S1x1x1x128.size inb_S1x1x1x8192_S1x1x1x128_0_0_0_3200).toLoadRect X7)⟩,
      ⟨Rect.unit (s := S8192x128) ![3072, 0] S128x128.size inb_S8192x128_S128x128_3072_0, k0_pay25 (F := Ideal) (View.readAt (Elt Ideal) arg7.view (Rect.unit (s := S1x1x1x8192) ![0, 0, 0, 3072] S1x1x1x128.size inb_S1x1x1x8192_S1x1x1x128_0_0_0_3072).toLoadRect X7)⟩,
      ⟨Rect.unit (s := S8192x128) ![2944, 0] S128x128.size inb_S8192x128_S128x128_2944_0, k0_pay24 (F := Ideal) (View.readAt (Elt Ideal) arg7.view (Rect.unit (s := S1x1x1x8192) ![0, 0, 0, 2944] S1x1x1x128.size inb_S1x1x1x8192_S1x1x1x128_0_0_0_2944).toLoadRect X7)⟩,
      ⟨Rect.unit (s := S8192x128) ![2816, 0] S128x128.size inb_S8192x128_S128x128_2816_0, k0_pay23 (F := Ideal) (View.readAt (Elt Ideal) arg7.view (Rect.unit (s := S1x1x1x8192) ![0, 0, 0, 2816] S1x1x1x128.size inb_S1x1x1x8192_S1x1x1x128_0_0_0_2816).toLoadRect X7)⟩,
      ⟨Rect.unit (s := S8192x128) ![2688, 0] S128x128.size inb_S8192x128_S128x128_2688_0, k0_pay22 (F := Ideal) (View.readAt (Elt Ideal) arg7.view (Rect.unit (s := S1x1x1x8192) ![0, 0, 0, 2688] S1x1x1x128.size inb_S1x1x1x8192_S1x1x1x128_0_0_0_2688).toLoadRect X7)⟩,
      ⟨Rect.unit (s := S8192x128) ![2560, 0] S128x128.size inb_S8192x128_S128x128_2560_0, k0_pay21 (F := Ideal) (View.readAt (Elt Ideal) arg7.view (Rect.unit (s := S1x1x1x8192) ![0, 0, 0, 2560] S1x1x1x128.size inb_S1x1x1x8192_S1x1x1x128_0_0_0_2560).toLoadRect X7)⟩,
      ⟨Rect.unit (s := S8192x128) ![2432, 0] S128x128.size inb_S8192x128_S128x128_2432_0, k0_pay20 (F := Ideal) (View.readAt (Elt Ideal) arg7.view (Rect.unit (s := S1x1x1x8192) ![0, 0, 0, 2432] S1x1x1x128.size inb_S1x1x1x8192_S1x1x1x128_0_0_0_2432).toLoadRect X7)⟩,
      ⟨Rect.unit (s := S8192x128) ![2304, 0] S128x128.size inb_S8192x128_S128x128_2304_0, k0_pay19 (F := Ideal) (View.readAt (Elt Ideal) arg7.view (Rect.unit (s := S1x1x1x8192) ![0, 0, 0, 2304] S1x1x1x128.size inb_S1x1x1x8192_S1x1x1x128_0_0_0_2304).toLoadRect X7)⟩,
      ⟨Rect.unit (s := S8192x128) ![2176, 0] S128x128.size inb_S8192x128_S128x128_2176_0, k0_pay18 (F := Ideal) (View.readAt (Elt Ideal) arg7.view (Rect.unit (s := S1x1x1x8192) ![0, 0, 0, 2176] S1x1x1x128.size inb_S1x1x1x8192_S1x1x1x128_0_0_0_2176).toLoadRect X7)⟩,
      ⟨Rect.unit (s := S8192x128) ![2048, 0] S128x128.size inb_S8192x128_S128x128_2048_0, k0_pay17 (F := Ideal) (View.readAt (Elt Ideal) arg7.view (Rect.unit (s := S1x1x1x8192) ![0, 0, 0, 2048] S1x1x1x128.size inb_S1x1x1x8192_S1x1x1x128_0_0_0_2048).toLoadRect X7)⟩,
      ⟨Rect.unit (s := S8192x128) ![1920, 0] S128x128.size inb_S8192x128_S128x128_1920_0, k0_pay16 (F := Ideal) (View.readAt (Elt Ideal) arg7.view (Rect.unit (s := S1x1x1x8192) ![0, 0, 0, 1920] S1x1x1x128.size inb_S1x1x1x8192_S1x1x1x128_0_0_0_1920).toLoadRect X7)⟩,
      ⟨Rect.unit (s := S8192x128) ![1792, 0] S128x128.size inb_S8192x128_S128x128_1792_0, k0_pay15 (F := Ideal) (View.readAt (Elt Ideal) arg7.view (Rect.unit (s := S1x1x1x8192) ![0, 0, 0, 1792] S1x1x1x128.size inb_S1x1x1x8192_S1x1x1x128_0_0_0_1792).toLoadRect X7)⟩,
      ⟨Rect.unit (s := S8192x128) ![1664, 0] S128x128.size inb_S8192x128_S128x128_1664_0, k0_pay14 (F := Ideal) (View.readAt (Elt Ideal) arg7.view (Rect.unit (s := S1x1x1x8192) ![0, 0, 0, 1664] S1x1x1x128.size inb_S1x1x1x8192_S1x1x1x128_0_0_0_1664).toLoadRect X7)⟩,
      ⟨Rect.unit (s := S8192x128) ![1536, 0] S128x128.size inb_S8192x128_S128x128_1536_0, k0_pay13 (F := Ideal) (View.readAt (Elt Ideal) arg7.view (Rect.unit (s := S1x1x1x8192) ![0, 0, 0, 1536] S1x1x1x128.size inb_S1x1x1x8192_S1x1x1x128_0_0_0_1536).toLoadRect X7)⟩,
      ⟨Rect.unit (s := S8192x128) ![1408, 0] S128x128.size inb_S8192x128_S128x128_1408_0, k0_pay12 (F := Ideal) (View.readAt (Elt Ideal) arg7.view (Rect.unit (s := S1x1x1x8192) ![0, 0, 0, 1408] S1x1x1x128.size inb_S1x1x1x8192_S1x1x1x128_0_0_0_1408).toLoadRect X7)⟩,
      ⟨Rect.unit (s := S8192x128) ![1280, 0] S128x128.size inb_S8192x128_S128x128_1280_0, k0_pay11 (F := Ideal) (View.readAt (Elt Ideal) arg7.view (Rect.unit (s := S1x1x1x8192) ![0, 0, 0, 1280] S1x1x1x128.size inb_S1x1x1x8192_S1x1x1x128_0_0_0_1280).toLoadRect X7)⟩,
      ⟨Rect.unit (s := S8192x128) ![1152, 0] S128x128.size inb_S8192x128_S128x128_1152_0, k0_pay10 (F := Ideal) (View.readAt (Elt Ideal) arg7.view (Rect.unit (s := S1x1x1x8192) ![0, 0, 0, 1152] S1x1x1x128.size inb_S1x1x1x8192_S1x1x1x128_0_0_0_1152).toLoadRect X7)⟩,
      ⟨Rect.unit (s := S8192x128) ![1024, 0] S128x128.size inb_S8192x128_S128x128_1024_0, k0_pay9 (F := Ideal) (View.readAt (Elt Ideal) arg7.view (Rect.unit (s := S1x1x1x8192) ![0, 0, 0, 1024] S1x1x1x128.size inb_S1x1x1x8192_S1x1x1x128_0_0_0_1024).toLoadRect X7)⟩,
      ⟨Rect.unit (s := S8192x128) ![896, 0] S128x128.size inb_S8192x128_S128x128_896_0, k0_pay8 (F := Ideal) (View.readAt (Elt Ideal) arg7.view (Rect.unit (s := S1x1x1x8192) ![0, 0, 0, 896] S1x1x1x128.size inb_S1x1x1x8192_S1x1x1x128_0_0_0_896).toLoadRect X7)⟩,
      ⟨Rect.unit (s := S8192x128) ![768, 0] S128x128.size inb_S8192x128_S128x128_768_0, k0_pay7 (F := Ideal) (View.readAt (Elt Ideal) arg7.view (Rect.unit (s := S1x1x1x8192) ![0, 0, 0, 768] S1x1x1x128.size inb_S1x1x1x8192_S1x1x1x128_0_0_0_768).toLoadRect X7)⟩,
      ⟨Rect.unit (s := S8192x128) ![640, 0] S128x128.size inb_S8192x128_S128x128_640_0, k0_pay6 (F := Ideal) (View.readAt (Elt Ideal) arg7.view (Rect.unit (s := S1x1x1x8192) ![0, 0, 0, 640] S1x1x1x128.size inb_S1x1x1x8192_S1x1x1x128_0_0_0_640).toLoadRect X7)⟩,
      ⟨Rect.unit (s := S8192x128) ![512, 0] S128x128.size inb_S8192x128_S128x128_512_0, k0_pay5 (F := Ideal) (View.readAt (Elt Ideal) arg7.view (Rect.unit (s := S1x1x1x8192) ![0, 0, 0, 512] S1x1x1x128.size inb_S1x1x1x8192_S1x1x1x128_0_0_0_512).toLoadRect X7)⟩,
      ⟨Rect.unit (s := S8192x128) ![384, 0] S128x128.size inb_S8192x128_S128x128_384_0, k0_pay4 (F := Ideal) (View.readAt (Elt Ideal) arg7.view (Rect.unit (s := S1x1x1x8192) ![0, 0, 0, 384] S1x1x1x128.size inb_S1x1x1x8192_S1x1x1x128_0_0_0_384).toLoadRect X7)⟩,
      ⟨Rect.unit (s := S8192x128) ![256, 0] S128x128.size inb_S8192x128_S128x128_256_0, k0_pay3 (F := Ideal) (View.readAt (Elt Ideal) arg7.view (Rect.unit (s := S1x1x1x8192) ![0, 0, 0, 256] S1x1x1x128.size inb_S1x1x1x8192_S1x1x1x128_0_0_0_256).toLoadRect X7)⟩,
      ⟨Rect.unit (s := S8192x128) ![128, 0] S128x128.size inb_S8192x128_S128x128_128_0, k0_pay2 (F := Ideal) (View.readAt (Elt Ideal) arg7.view (Rect.unit (s := S1x1x1x8192) ![0, 0, 0, 128] S1x1x1x128.size inb_S1x1x1x8192_S1x1x1x128_0_0_0_128).toLoadRect X7)⟩,
      ⟨Rect.unit (s := S8192x128) ![0, 0] S128x128.size inb_S8192x128_S128x128_0_0, k0_pay1 (F := Ideal) (View.readAt (Elt Ideal) arg7.view (Rect.unit (s := S1x1x1x8192) ![0, 0, 0, 0] S1x1x1x128.size inb_S1x1x1x8192_S1x1x1x128_0_0_0_0).toLoadRect X7)⟩]) :
    arg11.view.read (Elt Ideal) (arg11.view.writes (Elt Ideal) f L) = fun i => x3 (ix4 0 0 0 (i 0)) := by
  subst hL
  have s0 := spread_nil arg11 x3 f
  have s1 := spread_cons arg11 x3 f 0 _ (by norm_num) inb_S8192x128_S128x128_0_0 (k0_pay1 (F := Ideal) (View.readAt (Elt Ideal) arg7.view (Rect.unit (s := S1x1x1x8192) ![0, 0, 0, 0] S1x1x1x128.size inb_S1x1x1x8192_S1x1x1x128_0_0_0_0).toLoadRect X7)) (fun r l => spread_row arg7 X7 x3 h7 0 (by norm_num) inb_S1x1x1x8192_S1x1x1x128_0_0_0_0 r l) s0
  clear s0
  have s2 := spread_cons arg11 x3 f 128 _ (by norm_num) inb_S8192x128_S128x128_128_0 (k0_pay2 (F := Ideal) (View.readAt (Elt Ideal) arg7.view (Rect.unit (s := S1x1x1x8192) ![0, 0, 0, 128] S1x1x1x128.size inb_S1x1x1x8192_S1x1x1x128_0_0_0_128).toLoadRect X7)) (fun r l => spread_row arg7 X7 x3 h7 128 (by norm_num) inb_S1x1x1x8192_S1x1x1x128_0_0_0_128 r l) s1
  clear s1
  have s3 := spread_cons arg11 x3 f 256 _ (by norm_num) inb_S8192x128_S128x128_256_0 (k0_pay3 (F := Ideal) (View.readAt (Elt Ideal) arg7.view (Rect.unit (s := S1x1x1x8192) ![0, 0, 0, 256] S1x1x1x128.size inb_S1x1x1x8192_S1x1x1x128_0_0_0_256).toLoadRect X7)) (fun r l => spread_row arg7 X7 x3 h7 256 (by norm_num) inb_S1x1x1x8192_S1x1x1x128_0_0_0_256 r l) s2
  clear s2
  have s4 := spread_cons arg11 x3 f 384 _ (by norm_num) inb_S8192x128_S128x128_384_0 (k0_pay4 (F := Ideal) (View.readAt (Elt Ideal) arg7.view (Rect.unit (s := S1x1x1x8192) ![0, 0, 0, 384] S1x1x1x128.size inb_S1x1x1x8192_S1x1x1x128_0_0_0_384).toLoadRect X7)) (fun r l => spread_row arg7 X7 x3 h7 384 (by norm_num) inb_S1x1x1x8192_S1x1x1x128_0_0_0_384 r l) s3
  clear s3
  have s5 := spread_cons arg11 x3 f 512 _ (by norm_num) inb_S8192x128_S128x128_512_0 (k0_pay5 (F := Ideal) (View.readAt (Elt Ideal) arg7.view (Rect.unit (s := S1x1x1x8192) ![0, 0, 0, 512] S1x1x1x128.size inb_S1x1x1x8192_S1x1x1x128_0_0_0_512).toLoadRect X7)) (fun r l => spread_row arg7 X7 x3 h7 512 (by norm_num) inb_S1x1x1x8192_S1x1x1x128_0_0_0_512 r l) s4
  clear s4
  have s6 := spread_cons arg11 x3 f 640 _ (by norm_num) inb_S8192x128_S128x128_640_0 (k0_pay6 (F := Ideal) (View.readAt (Elt Ideal) arg7.view (Rect.unit (s := S1x1x1x8192) ![0, 0, 0, 640] S1x1x1x128.size inb_S1x1x1x8192_S1x1x1x128_0_0_0_640).toLoadRect X7)) (fun r l => spread_row arg7 X7 x3 h7 640 (by norm_num) inb_S1x1x1x8192_S1x1x1x128_0_0_0_640 r l) s5
  clear s5
  have s7 := spread_cons arg11 x3 f 768 _ (by norm_num) inb_S8192x128_S128x128_768_0 (k0_pay7 (F := Ideal) (View.readAt (Elt Ideal) arg7.view (Rect.unit (s := S1x1x1x8192) ![0, 0, 0, 768] S1x1x1x128.size inb_S1x1x1x8192_S1x1x1x128_0_0_0_768).toLoadRect X7)) (fun r l => spread_row arg7 X7 x3 h7 768 (by norm_num) inb_S1x1x1x8192_S1x1x1x128_0_0_0_768 r l) s6
  clear s6
  have s8 := spread_cons arg11 x3 f 896 _ (by norm_num) inb_S8192x128_S128x128_896_0 (k0_pay8 (F := Ideal) (View.readAt (Elt Ideal) arg7.view (Rect.unit (s := S1x1x1x8192) ![0, 0, 0, 896] S1x1x1x128.size inb_S1x1x1x8192_S1x1x1x128_0_0_0_896).toLoadRect X7)) (fun r l => spread_row arg7 X7 x3 h7 896 (by norm_num) inb_S1x1x1x8192_S1x1x1x128_0_0_0_896 r l) s7
  clear s7
  have s9 := spread_cons arg11 x3 f 1024 _ (by norm_num) inb_S8192x128_S128x128_1024_0 (k0_pay9 (F := Ideal) (View.readAt (Elt Ideal) arg7.view (Rect.unit (s := S1x1x1x8192) ![0, 0, 0, 1024] S1x1x1x128.size inb_S1x1x1x8192_S1x1x1x128_0_0_0_1024).toLoadRect X7)) (fun r l => spread_row arg7 X7 x3 h7 1024 (by norm_num) inb_S1x1x1x8192_S1x1x1x128_0_0_0_1024 r l) s8
  clear s8
  have s10 := spread_cons arg11 x3 f 1152 _ (by norm_num) inb_S8192x128_S128x128_1152_0 (k0_pay10 (F := Ideal) (View.readAt (Elt Ideal) arg7.view (Rect.unit (s := S1x1x1x8192) ![0, 0, 0, 1152] S1x1x1x128.size inb_S1x1x1x8192_S1x1x1x128_0_0_0_1152).toLoadRect X7)) (fun r l => spread_row arg7 X7 x3 h7 1152 (by norm_num) inb_S1x1x1x8192_S1x1x1x128_0_0_0_1152 r l) s9
  clear s9
  have s11 := spread_cons arg11 x3 f 1280 _ (by norm_num) inb_S8192x128_S128x128_1280_0 (k0_pay11 (F := Ideal) (View.readAt (Elt Ideal) arg7.view (Rect.unit (s := S1x1x1x8192) ![0, 0, 0, 1280] S1x1x1x128.size inb_S1x1x1x8192_S1x1x1x128_0_0_0_1280).toLoadRect X7)) (fun r l => spread_row arg7 X7 x3 h7 1280 (by norm_num) inb_S1x1x1x8192_S1x1x1x128_0_0_0_1280 r l) s10
  clear s10
  have s12 := spread_cons arg11 x3 f 1408 _ (by norm_num) inb_S8192x128_S128x128_1408_0 (k0_pay12 (F := Ideal) (View.readAt (Elt Ideal) arg7.view (Rect.unit (s := S1x1x1x8192) ![0, 0, 0, 1408] S1x1x1x128.size inb_S1x1x1x8192_S1x1x1x128_0_0_0_1408).toLoadRect X7)) (fun r l => spread_row arg7 X7 x3 h7 1408 (by norm_num) inb_S1x1x1x8192_S1x1x1x128_0_0_0_1408 r l) s11
  clear s11
  have s13 := spread_cons arg11 x3 f 1536 _ (by norm_num) inb_S8192x128_S128x128_1536_0 (k0_pay13 (F := Ideal) (View.readAt (Elt Ideal) arg7.view (Rect.unit (s := S1x1x1x8192) ![0, 0, 0, 1536] S1x1x1x128.size inb_S1x1x1x8192_S1x1x1x128_0_0_0_1536).toLoadRect X7)) (fun r l => spread_row arg7 X7 x3 h7 1536 (by norm_num) inb_S1x1x1x8192_S1x1x1x128_0_0_0_1536 r l) s12
  clear s12
  have s14 := spread_cons arg11 x3 f 1664 _ (by norm_num) inb_S8192x128_S128x128_1664_0 (k0_pay14 (F := Ideal) (View.readAt (Elt Ideal) arg7.view (Rect.unit (s := S1x1x1x8192) ![0, 0, 0, 1664] S1x1x1x128.size inb_S1x1x1x8192_S1x1x1x128_0_0_0_1664).toLoadRect X7)) (fun r l => spread_row arg7 X7 x3 h7 1664 (by norm_num) inb_S1x1x1x8192_S1x1x1x128_0_0_0_1664 r l) s13
  clear s13
  have s15 := spread_cons arg11 x3 f 1792 _ (by norm_num) inb_S8192x128_S128x128_1792_0 (k0_pay15 (F := Ideal) (View.readAt (Elt Ideal) arg7.view (Rect.unit (s := S1x1x1x8192) ![0, 0, 0, 1792] S1x1x1x128.size inb_S1x1x1x8192_S1x1x1x128_0_0_0_1792).toLoadRect X7)) (fun r l => spread_row arg7 X7 x3 h7 1792 (by norm_num) inb_S1x1x1x8192_S1x1x1x128_0_0_0_1792 r l) s14
  clear s14
  have s16 := spread_cons arg11 x3 f 1920 _ (by norm_num) inb_S8192x128_S128x128_1920_0 (k0_pay16 (F := Ideal) (View.readAt (Elt Ideal) arg7.view (Rect.unit (s := S1x1x1x8192) ![0, 0, 0, 1920] S1x1x1x128.size inb_S1x1x1x8192_S1x1x1x128_0_0_0_1920).toLoadRect X7)) (fun r l => spread_row arg7 X7 x3 h7 1920 (by norm_num) inb_S1x1x1x8192_S1x1x1x128_0_0_0_1920 r l) s15
  clear s15
  have s17 := spread_cons arg11 x3 f 2048 _ (by norm_num) inb_S8192x128_S128x128_2048_0 (k0_pay17 (F := Ideal) (View.readAt (Elt Ideal) arg7.view (Rect.unit (s := S1x1x1x8192) ![0, 0, 0, 2048] S1x1x1x128.size inb_S1x1x1x8192_S1x1x1x128_0_0_0_2048).toLoadRect X7)) (fun r l => spread_row arg7 X7 x3 h7 2048 (by norm_num) inb_S1x1x1x8192_S1x1x1x128_0_0_0_2048 r l) s16
  clear s16
  have s18 := spread_cons arg11 x3 f 2176 _ (by norm_num) inb_S8192x128_S128x128_2176_0 (k0_pay18 (F := Ideal) (View.readAt (Elt Ideal) arg7.view (Rect.unit (s := S1x1x1x8192) ![0, 0, 0, 2176] S1x1x1x128.size inb_S1x1x1x8192_S1x1x1x128_0_0_0_2176).toLoadRect X7)) (fun r l => spread_row arg7 X7 x3 h7 2176 (by norm_num) inb_S1x1x1x8192_S1x1x1x128_0_0_0_2176 r l) s17
  clear s17
  have s19 := spread_cons arg11 x3 f 2304 _ (by norm_num) inb_S8192x128_S128x128_2304_0 (k0_pay19 (F := Ideal) (View.readAt (Elt Ideal) arg7.view (Rect.unit (s := S1x1x1x8192) ![0, 0, 0, 2304] S1x1x1x128.size inb_S1x1x1x8192_S1x1x1x128_0_0_0_2304).toLoadRect X7)) (fun r l => spread_row arg7 X7 x3 h7 2304 (by norm_num) inb_S1x1x1x8192_S1x1x1x128_0_0_0_2304 r l) s18
  clear s18
  have s20 := spread_cons arg11 x3 f 2432 _ (by norm_num) inb_S8192x128_S128x128_2432_0 (k0_pay20 (F := Ideal) (View.readAt (Elt Ideal) arg7.view (Rect.unit (s := S1x1x1x8192) ![0, 0, 0, 2432] S1x1x1x128.size inb_S1x1x1x8192_S1x1x1x128_0_0_0_2432).toLoadRect X7)) (fun r l => spread_row arg7 X7 x3 h7 2432 (by norm_num) inb_S1x1x1x8192_S1x1x1x128_0_0_0_2432 r l) s19
  clear s19
  have s21 := spread_cons arg11 x3 f 2560 _ (by norm_num) inb_S8192x128_S128x128_2560_0 (k0_pay21 (F := Ideal) (View.readAt (Elt Ideal) arg7.view (Rect.unit (s := S1x1x1x8192) ![0, 0, 0, 2560] S1x1x1x128.size inb_S1x1x1x8192_S1x1x1x128_0_0_0_2560).toLoadRect X7)) (fun r l => spread_row arg7 X7 x3 h7 2560 (by norm_num) inb_S1x1x1x8192_S1x1x1x128_0_0_0_2560 r l) s20
  clear s20
  have s22 := spread_cons arg11 x3 f 2688 _ (by norm_num) inb_S8192x128_S128x128_2688_0 (k0_pay22 (F := Ideal) (View.readAt (Elt Ideal) arg7.view (Rect.unit (s := S1x1x1x8192) ![0, 0, 0, 2688] S1x1x1x128.size inb_S1x1x1x8192_S1x1x1x128_0_0_0_2688).toLoadRect X7)) (fun r l => spread_row arg7 X7 x3 h7 2688 (by norm_num) inb_S1x1x1x8192_S1x1x1x128_0_0_0_2688 r l) s21
  clear s21
  have s23 := spread_cons arg11 x3 f 2816 _ (by norm_num) inb_S8192x128_S128x128_2816_0 (k0_pay23 (F := Ideal) (View.readAt (Elt Ideal) arg7.view (Rect.unit (s := S1x1x1x8192) ![0, 0, 0, 2816] S1x1x1x128.size inb_S1x1x1x8192_S1x1x1x128_0_0_0_2816).toLoadRect X7)) (fun r l => spread_row arg7 X7 x3 h7 2816 (by norm_num) inb_S1x1x1x8192_S1x1x1x128_0_0_0_2816 r l) s22
  clear s22
  have s24 := spread_cons arg11 x3 f 2944 _ (by norm_num) inb_S8192x128_S128x128_2944_0 (k0_pay24 (F := Ideal) (View.readAt (Elt Ideal) arg7.view (Rect.unit (s := S1x1x1x8192) ![0, 0, 0, 2944] S1x1x1x128.size inb_S1x1x1x8192_S1x1x1x128_0_0_0_2944).toLoadRect X7)) (fun r l => spread_row arg7 X7 x3 h7 2944 (by norm_num) inb_S1x1x1x8192_S1x1x1x128_0_0_0_2944 r l) s23
  clear s23
  have s25 := spread_cons arg11 x3 f 3072 _ (by norm_num) inb_S8192x128_S128x128_3072_0 (k0_pay25 (F := Ideal) (View.readAt (Elt Ideal) arg7.view (Rect.unit (s := S1x1x1x8192) ![0, 0, 0, 3072] S1x1x1x128.size inb_S1x1x1x8192_S1x1x1x128_0_0_0_3072).toLoadRect X7)) (fun r l => spread_row arg7 X7 x3 h7 3072 (by norm_num) inb_S1x1x1x8192_S1x1x1x128_0_0_0_3072 r l) s24
  clear s24
  have s26 := spread_cons arg11 x3 f 3200 _ (by norm_num) inb_S8192x128_S128x128_3200_0 (k0_pay26 (F := Ideal) (View.readAt (Elt Ideal) arg7.view (Rect.unit (s := S1x1x1x8192) ![0, 0, 0, 3200] S1x1x1x128.size inb_S1x1x1x8192_S1x1x1x128_0_0_0_3200).toLoadRect X7)) (fun r l => spread_row arg7 X7 x3 h7 3200 (by norm_num) inb_S1x1x1x8192_S1x1x1x128_0_0_0_3200 r l) s25
  clear s25
  have s27 := spread_cons arg11 x3 f 3328 _ (by norm_num) inb_S8192x128_S128x128_3328_0 (k0_pay27 (F := Ideal) (View.readAt (Elt Ideal) arg7.view (Rect.unit (s := S1x1x1x8192) ![0, 0, 0, 3328] S1x1x1x128.size inb_S1x1x1x8192_S1x1x1x128_0_0_0_3328).toLoadRect X7)) (fun r l => spread_row arg7 X7 x3 h7 3328 (by norm_num) inb_S1x1x1x8192_S1x1x1x128_0_0_0_3328 r l) s26
  clear s26
  have s28 := spread_cons arg11 x3 f 3456 _ (by norm_num) inb_S8192x128_S128x128_3456_0 (k0_pay28 (F := Ideal) (View.readAt (Elt Ideal) arg7.view (Rect.unit (s := S1x1x1x8192) ![0, 0, 0, 3456] S1x1x1x128.size inb_S1x1x1x8192_S1x1x1x128_0_0_0_3456).toLoadRect X7)) (fun r l => spread_row arg7 X7 x3 h7 3456 (by norm_num) inb_S1x1x1x8192_S1x1x1x128_0_0_0_3456 r l) s27
  clear s27
  have s29 := spread_cons arg11 x3 f 3584 _ (by norm_num) inb_S8192x128_S128x128_3584_0 (k0_pay29 (F := Ideal) (View.readAt (Elt Ideal) arg7.view (Rect.unit (s := S1x1x1x8192) ![0, 0, 0, 3584] S1x1x1x128.size inb_S1x1x1x8192_S1x1x1x128_0_0_0_3584).toLoadRect X7)) (fun r l => spread_row arg7 X7 x3 h7 3584 (by norm_num) inb_S1x1x1x8192_S1x1x1x128_0_0_0_3584 r l) s28
  clear s28
  have s30 := spread_cons arg11 x3 f 3712 _ (by norm_num) inb_S8192x128_S128x128_3712_0 (k0_pay30 (F := Ideal) (View.readAt (Elt Ideal) arg7.view (Rect.unit (s := S1x1x1x8192) ![0, 0, 0, 3712] S1x1x1x128.size inb_S1x1x1x8192_S1x1x1x128_0_0_0_3712).toLoadRect X7)) (fun r l => spread_row arg7 X7 x3 h7 3712 (by norm_num) inb_S1x1x1x8192_S1x1x1x128_0_0_0_3712 r l) s29
  clear s29
  have s31 := spread_cons arg11 x3 f 3840 _ (by norm_num) inb_S8192x128_S128x128_3840_0 (k0_pay31 (F := Ideal) (View.readAt (Elt Ideal) arg7.view (Rect.unit (s := S1x1x1x8192) ![0, 0, 0, 3840] S1x1x1x128.size inb_S1x1x1x8192_S1x1x1x128_0_0_0_3840).toLoadRect X7)) (fun r l => spread_row arg7 X7 x3 h7 3840 (by norm_num) inb_S1x1x1x8192_S1x1x1x128_0_0_0_3840 r l) s30
  clear s30
  have s32 := spread_cons arg11 x3 f 3968 _ (by norm_num) inb_S8192x128_S128x128_3968_0 (k0_pay32 (F := Ideal) (View.readAt (Elt Ideal) arg7.view (Rect.unit (s := S1x1x1x8192) ![0, 0, 0, 3968] S1x1x1x128.size inb_S1x1x1x8192_S1x1x1x128_0_0_0_3968).toLoadRect X7)) (fun r l => spread_row arg7 X7 x3 h7 3968 (by norm_num) inb_S1x1x1x8192_S1x1x1x128_0_0_0_3968 r l) s31
  clear s31
  have s33 := spread_cons arg11 x3 f 4096 _ (by norm_num) inb_S8192x128_S128x128_4096_0 (k0_pay33 (F := Ideal) (View.readAt (Elt Ideal) arg7.view (Rect.unit (s := S1x1x1x8192) ![0, 0, 0, 4096] S1x1x1x128.size inb_S1x1x1x8192_S1x1x1x128_0_0_0_4096).toLoadRect X7)) (fun r l => spread_row arg7 X7 x3 h7 4096 (by norm_num) inb_S1x1x1x8192_S1x1x1x128_0_0_0_4096 r l) s32
  clear s32
  have s34 := spread_cons arg11 x3 f 4224 _ (by norm_num) inb_S8192x128_S128x128_4224_0 (k0_pay34 (F := Ideal) (View.readAt (Elt Ideal) arg7.view (Rect.unit (s := S1x1x1x8192) ![0, 0, 0, 4224] S1x1x1x128.size inb_S1x1x1x8192_S1x1x1x128_0_0_0_4224).toLoadRect X7)) (fun r l => spread_row arg7 X7 x3 h7 4224 (by norm_num) inb_S1x1x1x8192_S1x1x1x128_0_0_0_4224 r l) s33
  clear s33
  have s35 := spread_cons arg11 x3 f 4352 _ (by norm_num) inb_S8192x128_S128x128_4352_0 (k0_pay35 (F := Ideal) (View.readAt (Elt Ideal) arg7.view (Rect.unit (s := S1x1x1x8192) ![0, 0, 0, 4352] S1x1x1x128.size inb_S1x1x1x8192_S1x1x1x128_0_0_0_4352).toLoadRect X7)) (fun r l => spread_row arg7 X7 x3 h7 4352 (by norm_num) inb_S1x1x1x8192_S1x1x1x128_0_0_0_4352 r l) s34
  clear s34
  have s36 := spread_cons arg11 x3 f 4480 _ (by norm_num) inb_S8192x128_S128x128_4480_0 (k0_pay36 (F := Ideal) (View.readAt (Elt Ideal) arg7.view (Rect.unit (s := S1x1x1x8192) ![0, 0, 0, 4480] S1x1x1x128.size inb_S1x1x1x8192_S1x1x1x128_0_0_0_4480).toLoadRect X7)) (fun r l => spread_row arg7 X7 x3 h7 4480 (by norm_num) inb_S1x1x1x8192_S1x1x1x128_0_0_0_4480 r l) s35
  clear s35
  have s37 := spread_cons arg11 x3 f 4608 _ (by norm_num) inb_S8192x128_S128x128_4608_0 (k0_pay37 (F := Ideal) (View.readAt (Elt Ideal) arg7.view (Rect.unit (s := S1x1x1x8192) ![0, 0, 0, 4608] S1x1x1x128.size inb_S1x1x1x8192_S1x1x1x128_0_0_0_4608).toLoadRect X7)) (fun r l => spread_row arg7 X7 x3 h7 4608 (by norm_num) inb_S1x1x1x8192_S1x1x1x128_0_0_0_4608 r l) s36
  clear s36
  have s38 := spread_cons arg11 x3 f 4736 _ (by norm_num) inb_S8192x128_S128x128_4736_0 (k0_pay38 (F := Ideal) (View.readAt (Elt Ideal) arg7.view (Rect.unit (s := S1x1x1x8192) ![0, 0, 0, 4736] S1x1x1x128.size inb_S1x1x1x8192_S1x1x1x128_0_0_0_4736).toLoadRect X7)) (fun r l => spread_row arg7 X7 x3 h7 4736 (by norm_num) inb_S1x1x1x8192_S1x1x1x128_0_0_0_4736 r l) s37
  clear s37
  have s39 := spread_cons arg11 x3 f 4864 _ (by norm_num) inb_S8192x128_S128x128_4864_0 (k0_pay39 (F := Ideal) (View.readAt (Elt Ideal) arg7.view (Rect.unit (s := S1x1x1x8192) ![0, 0, 0, 4864] S1x1x1x128.size inb_S1x1x1x8192_S1x1x1x128_0_0_0_4864).toLoadRect X7)) (fun r l => spread_row arg7 X7 x3 h7 4864 (by norm_num) inb_S1x1x1x8192_S1x1x1x128_0_0_0_4864 r l) s38
  clear s38
  have s40 := spread_cons arg11 x3 f 4992 _ (by norm_num) inb_S8192x128_S128x128_4992_0 (k0_pay40 (F := Ideal) (View.readAt (Elt Ideal) arg7.view (Rect.unit (s := S1x1x1x8192) ![0, 0, 0, 4992] S1x1x1x128.size inb_S1x1x1x8192_S1x1x1x128_0_0_0_4992).toLoadRect X7)) (fun r l => spread_row arg7 X7 x3 h7 4992 (by norm_num) inb_S1x1x1x8192_S1x1x1x128_0_0_0_4992 r l) s39
  clear s39
  have s41 := spread_cons arg11 x3 f 5120 _ (by norm_num) inb_S8192x128_S128x128_5120_0 (k0_pay41 (F := Ideal) (View.readAt (Elt Ideal) arg7.view (Rect.unit (s := S1x1x1x8192) ![0, 0, 0, 5120] S1x1x1x128.size inb_S1x1x1x8192_S1x1x1x128_0_0_0_5120).toLoadRect X7)) (fun r l => spread_row arg7 X7 x3 h7 5120 (by norm_num) inb_S1x1x1x8192_S1x1x1x128_0_0_0_5120 r l) s40
  clear s40
  have s42 := spread_cons arg11 x3 f 5248 _ (by norm_num) inb_S8192x128_S128x128_5248_0 (k0_pay42 (F := Ideal) (View.readAt (Elt Ideal) arg7.view (Rect.unit (s := S1x1x1x8192) ![0, 0, 0, 5248] S1x1x1x128.size inb_S1x1x1x8192_S1x1x1x128_0_0_0_5248).toLoadRect X7)) (fun r l => spread_row arg7 X7 x3 h7 5248 (by norm_num) inb_S1x1x1x8192_S1x1x1x128_0_0_0_5248 r l) s41
  clear s41
  have s43 := spread_cons arg11 x3 f 5376 _ (by norm_num) inb_S8192x128_S128x128_5376_0 (k0_pay43 (F := Ideal) (View.readAt (Elt Ideal) arg7.view (Rect.unit (s := S1x1x1x8192) ![0, 0, 0, 5376] S1x1x1x128.size inb_S1x1x1x8192_S1x1x1x128_0_0_0_5376).toLoadRect X7)) (fun r l => spread_row arg7 X7 x3 h7 5376 (by norm_num) inb_S1x1x1x8192_S1x1x1x128_0_0_0_5376 r l) s42
  clear s42
  have s44 := spread_cons arg11 x3 f 5504 _ (by norm_num) inb_S8192x128_S128x128_5504_0 (k0_pay44 (F := Ideal) (View.readAt (Elt Ideal) arg7.view (Rect.unit (s := S1x1x1x8192) ![0, 0, 0, 5504] S1x1x1x128.size inb_S1x1x1x8192_S1x1x1x128_0_0_0_5504).toLoadRect X7)) (fun r l => spread_row arg7 X7 x3 h7 5504 (by norm_num) inb_S1x1x1x8192_S1x1x1x128_0_0_0_5504 r l) s43
  clear s43
  have s45 := spread_cons arg11 x3 f 5632 _ (by norm_num) inb_S8192x128_S128x128_5632_0 (k0_pay45 (F := Ideal) (View.readAt (Elt Ideal) arg7.view (Rect.unit (s := S1x1x1x8192) ![0, 0, 0, 5632] S1x1x1x128.size inb_S1x1x1x8192_S1x1x1x128_0_0_0_5632).toLoadRect X7)) (fun r l => spread_row arg7 X7 x3 h7 5632 (by norm_num) inb_S1x1x1x8192_S1x1x1x128_0_0_0_5632 r l) s44
  clear s44
  have s46 := spread_cons arg11 x3 f 5760 _ (by norm_num) inb_S8192x128_S128x128_5760_0 (k0_pay46 (F := Ideal) (View.readAt (Elt Ideal) arg7.view (Rect.unit (s := S1x1x1x8192) ![0, 0, 0, 5760] S1x1x1x128.size inb_S1x1x1x8192_S1x1x1x128_0_0_0_5760).toLoadRect X7)) (fun r l => spread_row arg7 X7 x3 h7 5760 (by norm_num) inb_S1x1x1x8192_S1x1x1x128_0_0_0_5760 r l) s45
  clear s45
  have s47 := spread_cons arg11 x3 f 5888 _ (by norm_num) inb_S8192x128_S128x128_5888_0 (k0_pay47 (F := Ideal) (View.readAt (Elt Ideal) arg7.view (Rect.unit (s := S1x1x1x8192) ![0, 0, 0, 5888] S1x1x1x128.size inb_S1x1x1x8192_S1x1x1x128_0_0_0_5888).toLoadRect X7)) (fun r l => spread_row arg7 X7 x3 h7 5888 (by norm_num) inb_S1x1x1x8192_S1x1x1x128_0_0_0_5888 r l) s46
  clear s46
  have s48 := spread_cons arg11 x3 f 6016 _ (by norm_num) inb_S8192x128_S128x128_6016_0 (k0_pay48 (F := Ideal) (View.readAt (Elt Ideal) arg7.view (Rect.unit (s := S1x1x1x8192) ![0, 0, 0, 6016] S1x1x1x128.size inb_S1x1x1x8192_S1x1x1x128_0_0_0_6016).toLoadRect X7)) (fun r l => spread_row arg7 X7 x3 h7 6016 (by norm_num) inb_S1x1x1x8192_S1x1x1x128_0_0_0_6016 r l) s47
  clear s47
  have s49 := spread_cons arg11 x3 f 6144 _ (by norm_num) inb_S8192x128_S128x128_6144_0 (k0_pay49 (F := Ideal) (View.readAt (Elt Ideal) arg7.view (Rect.unit (s := S1x1x1x8192) ![0, 0, 0, 6144] S1x1x1x128.size inb_S1x1x1x8192_S1x1x1x128_0_0_0_6144).toLoadRect X7)) (fun r l => spread_row arg7 X7 x3 h7 6144 (by norm_num) inb_S1x1x1x8192_S1x1x1x128_0_0_0_6144 r l) s48
  clear s48
  have s50 := spread_cons arg11 x3 f 6272 _ (by norm_num) inb_S8192x128_S128x128_6272_0 (k0_pay50 (F := Ideal) (View.readAt (Elt Ideal) arg7.view (Rect.unit (s := S1x1x1x8192) ![0, 0, 0, 6272] S1x1x1x128.size inb_S1x1x1x8192_S1x1x1x128_0_0_0_6272).toLoadRect X7)) (fun r l => spread_row arg7 X7 x3 h7 6272 (by norm_num) inb_S1x1x1x8192_S1x1x1x128_0_0_0_6272 r l) s49
  clear s49
  have s51 := spread_cons arg11 x3 f 6400 _ (by norm_num) inb_S8192x128_S128x128_6400_0 (k0_pay51 (F := Ideal) (View.readAt (Elt Ideal) arg7.view (Rect.unit (s := S1x1x1x8192) ![0, 0, 0, 6400] S1x1x1x128.size inb_S1x1x1x8192_S1x1x1x128_0_0_0_6400).toLoadRect X7)) (fun r l => spread_row arg7 X7 x3 h7 6400 (by norm_num) inb_S1x1x1x8192_S1x1x1x128_0_0_0_6400 r l) s50
  clear s50
  have s52 := spread_cons arg11 x3 f 6528 _ (by norm_num) inb_S8192x128_S128x128_6528_0 (k0_pay52 (F := Ideal) (View.readAt (Elt Ideal) arg7.view (Rect.unit (s := S1x1x1x8192) ![0, 0, 0, 6528] S1x1x1x128.size inb_S1x1x1x8192_S1x1x1x128_0_0_0_6528).toLoadRect X7)) (fun r l => spread_row arg7 X7 x3 h7 6528 (by norm_num) inb_S1x1x1x8192_S1x1x1x128_0_0_0_6528 r l) s51
  clear s51
  have s53 := spread_cons arg11 x3 f 6656 _ (by norm_num) inb_S8192x128_S128x128_6656_0 (k0_pay53 (F := Ideal) (View.readAt (Elt Ideal) arg7.view (Rect.unit (s := S1x1x1x8192) ![0, 0, 0, 6656] S1x1x1x128.size inb_S1x1x1x8192_S1x1x1x128_0_0_0_6656).toLoadRect X7)) (fun r l => spread_row arg7 X7 x3 h7 6656 (by norm_num) inb_S1x1x1x8192_S1x1x1x128_0_0_0_6656 r l) s52
  clear s52
  have s54 := spread_cons arg11 x3 f 6784 _ (by norm_num) inb_S8192x128_S128x128_6784_0 (k0_pay54 (F := Ideal) (View.readAt (Elt Ideal) arg7.view (Rect.unit (s := S1x1x1x8192) ![0, 0, 0, 6784] S1x1x1x128.size inb_S1x1x1x8192_S1x1x1x128_0_0_0_6784).toLoadRect X7)) (fun r l => spread_row arg7 X7 x3 h7 6784 (by norm_num) inb_S1x1x1x8192_S1x1x1x128_0_0_0_6784 r l) s53
  clear s53
  have s55 := spread_cons arg11 x3 f 6912 _ (by norm_num) inb_S8192x128_S128x128_6912_0 (k0_pay55 (F := Ideal) (View.readAt (Elt Ideal) arg7.view (Rect.unit (s := S1x1x1x8192) ![0, 0, 0, 6912] S1x1x1x128.size inb_S1x1x1x8192_S1x1x1x128_0_0_0_6912).toLoadRect X7)) (fun r l => spread_row arg7 X7 x3 h7 6912 (by norm_num) inb_S1x1x1x8192_S1x1x1x128_0_0_0_6912 r l) s54
  clear s54
  have s56 := spread_cons arg11 x3 f 7040 _ (by norm_num) inb_S8192x128_S128x128_7040_0 (k0_pay56 (F := Ideal) (View.readAt (Elt Ideal) arg7.view (Rect.unit (s := S1x1x1x8192) ![0, 0, 0, 7040] S1x1x1x128.size inb_S1x1x1x8192_S1x1x1x128_0_0_0_7040).toLoadRect X7)) (fun r l => spread_row arg7 X7 x3 h7 7040 (by norm_num) inb_S1x1x1x8192_S1x1x1x128_0_0_0_7040 r l) s55
  clear s55
  have s57 := spread_cons arg11 x3 f 7168 _ (by norm_num) inb_S8192x128_S128x128_7168_0 (k0_pay57 (F := Ideal) (View.readAt (Elt Ideal) arg7.view (Rect.unit (s := S1x1x1x8192) ![0, 0, 0, 7168] S1x1x1x128.size inb_S1x1x1x8192_S1x1x1x128_0_0_0_7168).toLoadRect X7)) (fun r l => spread_row arg7 X7 x3 h7 7168 (by norm_num) inb_S1x1x1x8192_S1x1x1x128_0_0_0_7168 r l) s56
  clear s56
  have s58 := spread_cons arg11 x3 f 7296 _ (by norm_num) inb_S8192x128_S128x128_7296_0 (k0_pay58 (F := Ideal) (View.readAt (Elt Ideal) arg7.view (Rect.unit (s := S1x1x1x8192) ![0, 0, 0, 7296] S1x1x1x128.size inb_S1x1x1x8192_S1x1x1x128_0_0_0_7296).toLoadRect X7)) (fun r l => spread_row arg7 X7 x3 h7 7296 (by norm_num) inb_S1x1x1x8192_S1x1x1x128_0_0_0_7296 r l) s57
  clear s57
  have s59 := spread_cons arg11 x3 f 7424 _ (by norm_num) inb_S8192x128_S128x128_7424_0 (k0_pay59 (F := Ideal) (View.readAt (Elt Ideal) arg7.view (Rect.unit (s := S1x1x1x8192) ![0, 0, 0, 7424] S1x1x1x128.size inb_S1x1x1x8192_S1x1x1x128_0_0_0_7424).toLoadRect X7)) (fun r l => spread_row arg7 X7 x3 h7 7424 (by norm_num) inb_S1x1x1x8192_S1x1x1x128_0_0_0_7424 r l) s58
  clear s58
  have s60 := spread_cons arg11 x3 f 7552 _ (by norm_num) inb_S8192x128_S128x128_7552_0 (k0_pay60 (F := Ideal) (View.readAt (Elt Ideal) arg7.view (Rect.unit (s := S1x1x1x8192) ![0, 0, 0, 7552] S1x1x1x128.size inb_S1x1x1x8192_S1x1x1x128_0_0_0_7552).toLoadRect X7)) (fun r l => spread_row arg7 X7 x3 h7 7552 (by norm_num) inb_S1x1x1x8192_S1x1x1x128_0_0_0_7552 r l) s59
  clear s59
  have s61 := spread_cons arg11 x3 f 7680 _ (by norm_num) inb_S8192x128_S128x128_7680_0 (k0_pay61 (F := Ideal) (View.readAt (Elt Ideal) arg7.view (Rect.unit (s := S1x1x1x8192) ![0, 0, 0, 7680] S1x1x1x128.size inb_S1x1x1x8192_S1x1x1x128_0_0_0_7680).toLoadRect X7)) (fun r l => spread_row arg7 X7 x3 h7 7680 (by norm_num) inb_S1x1x1x8192_S1x1x1x128_0_0_0_7680 r l) s60
  clear s60
  have s62 := spread_cons arg11 x3 f 7808 _ (by norm_num) inb_S8192x128_S128x128_7808_0 (k0_pay62 (F := Ideal) (View.readAt (Elt Ideal) arg7.view (Rect.unit (s := S1x1x1x8192) ![0, 0, 0, 7808] S1x1x1x128.size inb_S1x1x1x8192_S1x1x1x128_0_0_0_7808).toLoadRect X7)) (fun r l => spread_row arg7 X7 x3 h7 7808 (by norm_num) inb_S1x1x1x8192_S1x1x1x128_0_0_0_7808 r l) s61
  clear s61
  have s63 := spread_cons arg11 x3 f 7936 _ (by norm_num) inb_S8192x128_S128x128_7936_0 (k0_pay63 (F := Ideal) (View.readAt (Elt Ideal) arg7.view (Rect.unit (s := S1x1x1x8192) ![0, 0, 0, 7936] S1x1x1x128.size inb_S1x1x1x8192_S1x1x1x128_0_0_0_7936).toLoadRect X7)) (fun r l => spread_row arg7 X7 x3 h7 7936 (by norm_num) inb_S1x1x1x8192_S1x1x1x128_0_0_0_7936 r l) s62
  clear s62
  have s64 := spread_cons arg11 x3 f 8064 _ (by norm_num) inb_S8192x128_S128x128_8064_0 (k0_pay64 (F := Ideal) (View.readAt (Elt Ideal) arg7.view (Rect.unit (s := S1x1x1x8192) ![0, 0, 0, 8064] S1x1x1x128.size inb_S1x1x1x8192_S1x1x1x128_0_0_0_8064).toLoadRect X7)) (fun r l => spread_row arg7 X7 x3 h7 8064 (by norm_num) inb_S1x1x1x8192_S1x1x1x128_0_0_0_8064 r l) s63
  clear s63
  funext i
  rw [show i = ix2 (i 0) (i 1) from eq_ix2 i]
  exact s64 (i 0) (i 1) (i 0).isLt

end Cert.AttnIdeal.Val

end
-- ==== Proof.AttnIdeal.ValA.lean ====
/- The body of the attention call at the first query tile of a head (the key scales are spread into scratch). -/
module

public import proofs.«01_k».proof.Proof.AttnIdeal.Chain
public import proofs.«01_k».proof.Proof.AttnIdeal.Spread
public import proofs.«01_k».proof.Proof.AttnIdeal.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 8000000 in
/-- The body's triple IN CASE A (`scf.if` 0 taken: points 0, 32, … 992: 32 of 1024): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem valueRun0_A (c : Dev nD) (i : grid0.Coords) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (hc0 : cond0_0 i)
    (x0 : Vec Ideal S1x256x256 .fp8e4m3) (x1 : Vec Ideal S1x1x4x256 .f32) (x2 : Vec Ideal S1x1x8192x128 .fp8e4m3) (x3 : Vec Ideal S1x1x1x8192 .f32) (x4 : Vec Ideal S1x1x64x8192 .fp8e4m3) (x5 : Vec Ideal S1x1x64x128 .f32) (xt0 : TbBuf0 (F := Ideal) c tbM0_0) (k0_hw1 : k0_chk1 (tbM0_0.view.readAt (Elt Ideal) (Rect.unit (s := S4) (k0_off1 i) S1.size (k0_off1_inb i)).toLoadRect xt0 (Shape.Idx.first (numel1_S1.symm ▸ Nat.one_pos)))) (n : ℕ) (hn : n ≤ 8192) (hword : (tbM0_0.view.readAt (Elt Ideal) (Rect.unit (s := S4) (k0_off1 i) S1.size (k0_off1_inb i)).toLoadRect xt0 (Shape.Idx.first (numel1_S1.symm ▸ Nat.one_pos))) = BitVec.ofNat 32 n) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (Val.outV n x0 x1 x2 (fun s => x3 (ix4 0 0 0 s)) x4 x5) ∗ owns (c : Thread nD τ) arg11 fullShare (fun i : S8192x128.Idx => x3 (ix4 0 0 0 (i 0))) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := Ideal)) Variants.none c none) E (cc0_attn i tbM0_0 htbM0_0 arg4 harg4 arg5 harg5 arg6 harg6 arg7 harg7 arg8 harg8 arg9 harg9 arg10 harg10 arg11 harg11 arg12 harg12 arg13 harg13) K := by
    intro E K
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      apply Val.chain (n := n) (hn := hn) (hv1 := hword) (h4 := harg4.read_unread x0) (h5 := harg5.read_unread x1) (h6 := harg6.read_unread x2) (h8 := harg8.read_unread x4) (h9 := harg9.read_unread x5)
      case e6 => rfl
      case e5 => rfl
      case e4 => rfl
      case e3 => rfl
      case e2 => rfl
      case e1 => rfl
      case h11 => exact Val.spread arg7 arg11 (harg7.unread x3) _ x3 (harg7.read_unread x3) _ rfl
      all_goals rfl
    isplitl [HS0]
    · iexists _; isplitr; swap; · iexact HS0
      ipureintro
      exact Val.spread arg7 arg11 (harg7.unread x3) _ x3 (harg7.read_unread x3) _ rfl
    isplitl [HS1]
    · iexists _, _; isplitr; swap; · iexact HS1
      ipureintro; rfl
    isplitl [HS2]
    · iexists _, _; isplitr; swap; · iexact HS2
      ipureintro; rfl
    iexact HT0

end Cert.AttnIdeal.Gen

end
-- ==== Proof.AttnIdeal.ValB.lean ====
/- The body of the attention call at every later query tile of a head. -/
module

public import proofs.«01_k».proof.Proof.AttnIdeal.Chain
public import proofs.«01_k».proof.Proof.AttnIdeal.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 8000000 in
/-- The body's triple IN CASE B (`scf.if` 0 not taken: points 1, 2, … 1023: 992 of 1024): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem valueRun0_B (c : Dev nD) (i : grid0.Coords) (arg4 : Memref sig .tc .vmem S1x256x256 .fp8e4m3) (harg4 : arg4.IsWhole) (arg5 : Memref sig .tc .vmem S1x1x4x256 .f32) (harg5 : arg5.IsWhole) (arg6 : Memref sig .tc .vmem S1x1x8192x128 .fp8e4m3) (harg6 : arg6.IsWhole) (arg7 : Memref sig .tc .vmem S1x1x1x8192 .f32) (harg7 : arg7.IsWhole) (arg8 : Memref sig .tc .vmem S1x1x64x8192 .fp8e4m3) (harg8 : arg8.IsWhole) (arg9 : Memref sig .tc .vmem S1x1x64x128 .f32) (harg9 : arg9.IsWhole) (arg10 : Memref sig .tc .vmem S1x256x256 .bf16) (harg10 : arg10.IsWhole) (arg11 : Memref sig .tc .vmem S8192x128 .f32) (harg11 : arg11.IsWhole) (arg12 : Memref sig .tc .vmem S8192x1024 .f32) (harg12 : arg12.IsWhole) (arg13 : Memref sig .tc .vmem S64x1024 .f32) (harg13 : arg13.IsWhole) (hc0 : ¬cond0_0 i)
    (x0 : Vec Ideal S1x256x256 .fp8e4m3) (x1 : Vec Ideal S1x1x4x256 .f32) (x2 : Vec Ideal S1x1x8192x128 .fp8e4m3) (x3 : Vec Ideal S1x1x1x8192 .f32) (x4 : Vec Ideal S1x1x64x8192 .fp8e4m3) (x5 : Vec Ideal S1x1x64x128 .f32) (xt0 : TbBuf0 (F := Ideal) c tbM0_0) (k0_hw1 : k0_chk1 (tbM0_0.view.readAt (Elt Ideal) (Rect.unit (s := S4) (k0_off1 i) S1.size (k0_off1_inb i)).toLoadRect xt0 (Shape.Idx.first (numel1_S1.symm ▸ Nat.one_pos)))) (n : ℕ) (hn : n ≤ 8192) (hword : (tbM0_0.view.readAt (Elt Ideal) (Rect.unit (s := S4) (k0_off1 i) S1.size (k0_off1_inb i)).toLoadRect xt0 (Shape.Idx.first (numel1_S1.symm ▸ Nat.one_pos))) = BitVec.ofNat 32 n) (ks : Fin 8192 → EReal) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare (fun i : S8192x128.Idx => ks (i 0)) ∗ (∃ d, owns (c : Thread nD τ) arg12 fullShare d) ∗ (∃ d, owns (c : Thread nD τ) arg13 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (Val.outV n x0 x1 x2 ks x4 x5) ∗ owns (c : Thread nD τ) arg11 fullShare (fun i : S8192x128.Idx => ks (i 0)) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := Ideal)) Variants.none c none) E (cc0_attn i tbM0_0 htbM0_0 arg4 harg4 arg5 harg5 arg6 harg6 arg7 harg7 arg8 harg8 arg9 harg9 arg10 harg10 arg11 harg11 arg12 harg12 arg13 harg13) K := by
    intro E K
    simp only [cc0_attn_eq_skeleton]; unfold cc0_attn_skel
    simp only [k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfs0
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      apply Val.chain (n := n) (hn := hn) (hv1 := hword) (h4 := harg4.read_unread x0) (h5 := harg5.read_unread x1) (h6 := harg6.read_unread x2) (h8 := harg8.read_unread x4) (h9 := harg9.read_unread x5)
      case e6 => rfl
      case e5 => rfl
      case e4 => rfl
      case e3 => rfl
      case e2 => rfl
      case e1 => rfl
      case h11 => exact harg11.read_unread _
      all_goals rfl
    isplitl [HS0]
    · iexists _; isplitr; swap; · iexact HS0
      ipureintro; exact harg11.read_unread _
    isplitl [HS1]
    · iexists _, _; isplitr; swap; · iexact HS1
      ipureintro; rfl
    isplitl [HS2]
    · iexists _, _; isplitr; swap; · iexact HS2
      ipureintro; rfl
    iexact HT0

end Cert.AttnIdeal.Gen

end
-- ==== Proof.AttnIdeal.Track.lean ====
/- What each program of the attention call leaves, and the run with it. -/
module

public import proofs.«01_k».proof.Proof.AttnIdeal.ValA
public import proofs.«01_k».proof.Proof.AttnIdeal.ValB
public import proofs.«01_k».proof.Proof.AttnIdeal.Blocks
public import Idealize.ShloMosaic.Lib.Claim

@[expose] public section

-- membership in a rectangle of production extents (`View.cover_of_tiled`): the elaborator's structural look
-- recurses once per coordinate of the long axes
set_option maxRecDepth 16384

noncomputable section

namespace Cert.AttnIdeal.Track

open Idealize.ShloMosaic Idealize.ShloMosaic.TcCoe Idealize.ShloMosaic.Tactic Cert.AttnIdeal Cert.AttnIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (hO : Ok m)

/-- The length a program reads from the table. -/
def word (t : Fin (cfgM m hO).N) : BitVec 32 :=
  tbM0_0.view.readAt (Elt Ideal) (Rect.unit (s := S4) (k0_off1 (grid0.coords t)) S1.size (k0_off1_inb (grid0.coords t))).toLoadRect (tbl m 0) (Shape.Idx.first (numel1_S1.symm ▸ Nat.one_pos))

/-- Each length read is at most 8192. -/
def Short : Prop := ∀ t : Fin (cfgM m hO).N, (word m hO t).toNat ≤ 8192

/-- The block of results a program leaves. -/
def outAt (c : Dev nD) (t : Fin (cfgM m hO).N) : Vec Ideal S1x256x256 .bf16 :=
  Val.outV (word m hO t).toNat (iblk m hO c 0 t) (iblk m hO c 1 t) (iblk m hO c 2 t) (fun s => iblk m hO c 3 t (ix4 0 0 0 s)) (iblk m hO c 4 t) (iblk m hO c 5 t)

/-- The key scales of a program's head, spread over the lanes. -/
def ksAt (c : Dev nD) (t : Fin (cfgM m hO).N) : Vec Ideal S8192x128 .f32 := fun i => iblk m hO c 3 t (ix4 0 0 0 (i 0))

/-- A program that is not the first of its head has the key scales of the one before it. -/
theorem ksAt_pred (c : Dev nD) (t : Fin (cfgM m hO).N) (h0 : ¬ t.val % 32 = 0) (h : t.val - 1 < (cfgM m hO).N) :
    ksAt m hO c ⟨t.val - 1, h⟩ = ksAt m hO c t := by
  have hN : t.val < 1024 := lt_of_lt_of_eq t.isLt (show (cfgM m hO).N = 1024 from N_0)
  funext i
  refine (iblk_3 m hO c ⟨t.val - 1, h⟩ (i 0)).trans (Eq.trans ?_ (iblk_3 m hO c t (i 0)).symm)
  have eb : gb ⟨t.val - 1, h⟩ = gb t := Fin.ext (by show (t.val - 1) / 256 = t.val / 256; omega)
  have eh : gh ⟨t.val - 1, h⟩ = gh t := Fin.ext (by show (t.val - 1) / 32 % 8 = t.val / 32 % 8; omega)
  exact congrArg₂ (fun a b => V m c main_arg4 (ix4 a b 0 (i 0))) eb eh

/-- What holds between two programs: before the first, every scratch at anything; afterwards the key scales of the last
    program's head, the rest at anything. -/
def PhiS (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (ksAt m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c)

/-- Before the first program. -/
theorem PhiS_zero (c : Dev nD) (n : ℕ) (h : n ≤ (cfgM m hO).N) (hz : n = 0) : PhiS m hO c n h = iprop(Pipeline.ΦA spec0 c ∗ Pipeline.ΦT pre0 (tbl m) c) := by
  subst hz; rfl

/-- After a program. -/
theorem PhiS_succ (c : Dev nD) (n : ℕ) (hn : n < (cfgM m hO).N) :
    PhiS m hO c (n + 1) hn = iprop(iprop(iprop(owns (c : Thread nD τ) scM0_0 fullShare (ksAt m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a program that is not the first. -/
theorem PhiS_pos (c : Dev nD) (n : ℕ) (h : n ≤ (cfgM m hO).N) (hz : n ≠ 0) :
    PhiS m hO c n h = iprop(iprop(iprop(owns (c : Thread nD τ) scM0_0 fullShare (ksAt m hO c ⟨n - 1, by omega⟩) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hH : Hyps m hO) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hH : Hyps m hO) (c : Dev nD) (t : Fin (cfgM m hO).N) :
    (dats m hO hH 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hH : Hyps m hO) (c : Dev nD) (t : Fin (cfgM m hO).N) : (dats m hO hH 0 c).after 0 t = iblk m hO c 0 t := by dsimp only [dats]; try rfl
/-- What window 1 holds after a point of the grid. -/
theorem after0_1 (hH : Hyps m hO) (c : Dev nD) (t : Fin (cfgM m hO).N) : (dats m hO hH 0 c).after 1 t = iblk m hO c 1 t := by dsimp only [dats]; try rfl
/-- What window 2 holds after a point of the grid. -/
theorem after0_2 (hH : Hyps m hO) (c : Dev nD) (t : Fin (cfgM m hO).N) : (dats m hO hH 0 c).after 2 t = iblk m hO c 2 t := by dsimp only [dats]; try rfl
/-- What window 3 holds after a point of the grid. -/
theorem after0_3 (hH : Hyps m hO) (c : Dev nD) (t : Fin (cfgM m hO).N) : (dats m hO hH 0 c).after 3 t = iblk m hO c 3 t := by dsimp only [dats]; try rfl
/-- What window 4 holds after a point of the grid. -/
theorem after0_4 (hH : Hyps m hO) (c : Dev nD) (t : Fin (cfgM m hO).N) : (dats m hO hH 0 c).after 4 t = iblk m hO c 4 t := by dsimp only [dats]; try rfl
/-- What window 5 holds after a point of the grid. -/
theorem after0_5 (hH : Hyps m hO) (c : Dev nD) (t : Fin (cfgM m hO).N) : (dats m hO hH 0 c).after 5 t = iblk m hO c 5 t := by dsimp only [dats]; try rfl
/-- What window 6 holds after a point of the grid. -/
theorem after0_6 (hH : Hyps m hO) (c : Dev nD) (t : Fin (cfgM m hO).N) : (dats m hO hH 0 c).after 6 t = outAt m hO c t := by dsimp only [dats]; try rfl

/-- Each input's current staging buffer holds its block at every point, fetched there or not (`beforeK_W_of`). -/
theorem before0_0 (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- What window 1 holds before a point of the grid. -/
theorem before0_1 (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- What window 2 holds before a point of the grid. -/
theorem before0_2 (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- What window 3 holds before a point of the grid. -/
theorem before0_3 (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- What window 4 holds before a point of the grid. -/
theorem before0_4 (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
/-- What window 5 holds before a point of the grid. -/
theorem before0_5 (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hS : Short m hO) (hH : Hyps m hO) (c : Dev nD) (t : Fin (cfgM m hO).N) :
    bodyPre m hO hH c t ⊢ wp frame (wpE (defs₀ (F := Ideal)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5, after0_6]
  rw [show (dats m hO hH 0 c).Φ t.succ = PhiS m hO c (t.val + 1) t.isLt from rfl, PhiS_succ, PhiT0_eq]
  have hN : t.val < 1024 := lt_of_lt_of_eq t.isLt (show (cfgM m hO).N = 1024 from N_0)
  by_cases h0 : t.val % 32 = 0
  · by_cases hz : t.val = 0
    · rw [PhiS_castSucc m hO hH c t, PhiS_zero m hO c _ _ hz, PhiT0_eq, PhiA0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((valueRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t) (word m hO t).toNat (hS t) (by rw [BitVec.ofNat_toNat, BitVec.setWidth_eq]; rfl)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HT0]; · iexact HT0
      iintro ⟨H0, H1, H2, H3, H4, H5, H6, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m hO hH c t, PhiS_pos m hO c _ _ hz, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((valueRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t) (word m hO t).toNat (hS t) (by rw [BitVec.ofNat_toNat, BitVec.setWidth_eq]; rfl)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      isplitl [HS2]; · iexact HS2
      isplitl [HT0]; · iexact HT0
      iintro ⟨H0, H1, H2, H3, H4, H5, H6, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; have hN : t.val < 1024 := lt_of_lt_of_eq t.isLt (show (cfgM m hO).N = 1024 from N_0); omega
    · rw [PhiS_castSucc m hO hH c t, PhiS_pos m hO c _ _ hz, ksAt_pred m hO c t h0, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((valueRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (Hyps.c0 hH c t) (word m hO t).toNat (hS t) (by rw [BitVec.ofNat_toNat, BitVec.setWidth_eq]; rfl) (fun s => iblk m hO c 3 t (ix4 0 0 0 s))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HT0]; · iexact HT0
      iintro ⟨H0, H1, H2, H3, H4, H5, H6, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hS : Short m hO) (hH : Hyps m hO) (c : Dev nD) : BodyObligation (dats m hO hH 0 c) (defs₀ (F := Ideal)) Variants.none () Set.univ := fun t => by
  rw [bigSep_W0, bigSep_W0, defs₀_row m hO]
  exact triple_restated (sound_body m hO hS hH c t) rfl .rfl fun _ => .rfl

/-- What the launch hands the region (`ΦA`, the tables beside it) is the invariant before the first point. -/
theorem hin (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hH : Hyps m hO) (c : Dev nD) : (dats m hO hH 0 c).Φ (Fin.last (cfgM m hO).N) ⊢ Pipeline.ΦA spec0 c :=
  Phi_out m hO hH c _ (by rw [Fin.val_last]; have : (cfgM m hO).N = 1024 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hS : Short m hO) (hH : Hyps m hO) : θ_run defs (onTc (τ := τ) (main (F := Ideal))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hS hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hS : Short m hO) (hH : Hyps m hO) : θ_run defs (onTc (τ := τ) (main (F := Ideal))) (s₀ m ρ) (Pipeline.FramePost (Pipeline.pin pcfgs fun _ => adm m hO) (dats m hO hH) 0 (V m)) :=
  (θ_run defs _ _).mono (fun _ h => h.1) (run_main_quiescent m ρ hO hS hH)

end Cert.AttnIdeal.Track

end
-- ==== Proof.AttnIdeal.Arr.lean ====
/- What the attention call leaves in its result. -/
module

public import proofs.«01_k».proof.Proof.AttnIdeal.Track
public import Idealize.ShloMosaic.Lib.Pipeline.ValueKit

@[expose] public section

set_option maxRecDepth 16384

noncomputable section

namespace Cert.AttnIdeal.Track

open Idealize.ShloMosaic Idealize.ShloMosaic.TcCoe Cert.AttnIdeal Cert.AttnIdeal.Gen

variable (m : (ℓ : Loc nD τ sig) → Buf (Elt Ideal) ℓ) (hO : Ok m)

/-- Where in the table a program reads its length. -/
theorem off_row (t : Fin grid0.N) : k0_off1 (grid0.coords t) = ![(gb t).val] :=
  (by decide +kernel : ∀ t : Fin grid0.N, k0_off1 (grid0.coords t) = ![(gb t).val]) t

/-- The length a program reads is its row's. -/
theorem word_row (c : Dev nD) (t : Fin (cfgM m hO).N) : word m hO t = m ((c : Thread nD τ).loc main_arg0) (ix1 (gb t)) := by
  obtain rfl : c = 0 := Subsingleton.elim _ _
  have e : word m hO t = tbM0_0.view.read (Elt Ideal) (tbl m 0) (ix1 (gb t)) := by
    refine Val.rd_unit tbM0_0.view (k0_off1_inb (grid0.coords t)) (tbl m 0) rfl _ _ fun a => ?_
    obtain rfl : a = 0 := Subsingleton.elim (α := Fin 1) _ _
    exact Eq.trans (congrFun (off_row t) (0 : Fin 1)).symm rfl
  exact e.trans rfl

/-- What a program's block holds, at any index. -/
theorem out_idx (c : Dev nD) (G : S4x8192x2048.Idx → EReal) (t : Fin (cfgM m hO).N)
    (hG : ∀ q d : Fin 256,
      outAt m hO c t (ix3 0 q d) = G (ix3 (gb t) ⟨256 * (gt t).val + q.val, by omega⟩ ⟨256 * (gh t).val + d.val, by omega⟩))
    (y : S1x256x256.Idx) : outAt m hO c t y = G ((((cfgM m hO).win 6).blk t).view.emb y) := by
  have hy : y = ix3 (0 : Fin 1) (y 1) (y 2) := (eq_ix3 y).trans (congrArg (fun z : Fin 1 => (ix3 z (y 1) (y 2) : S1x256x256.Idx)) (Subsingleton.elim _ _))
  rw [hy]
  exact (hG (y 1) (y 2)).trans (congrArg G (emb_6 m hO t (y 1) (y 2)).symm)

/-- Every element of the result is in some program's block. -/
theorem covered (i : S4x8192x2048.Idx) :
    ∃ t : Fin (cfgM m hO).N, ((cfgM m hO).win 6).flush t = true ∧ i ∈ (((cfgM m hO).win 6).blk t).view.set := by
  have h0 : (i 0).val < 4 := (i 0).isLt
  have h1 : (i 1).val < 8192 := (i 1).isLt
  have h2 : (i 2).val < 2048 := (i 2).isLt
  have hlt : 256 * (i 0).val + 32 * ((i 2).val / 256) + (i 1).val / 256 < 1024 := by omega
  let t : Fin (cfgM m hO).N := ⟨256 * (i 0).val + 32 * ((i 2).val / 256) + (i 1).val / 256, lt_of_lt_of_eq hlt (show 1024 = (cfgM m hO).N from N_0.symm)⟩
  refine ⟨t, flush0_6 (adm m hO) t, ?_⟩
  have e := emb_6 m hO t ⟨(i 1).val % 256, by omega⟩ ⟨(i 2).val % 256, by omega⟩
  have a0 : gb t = i 0 := Fin.ext (by show (256 * (i 0).val + 32 * ((i 2).val / 256) + (i 1).val / 256) / 256 = _; omega)
  have a1 : (⟨256 * (gt t).val + (i 1).val % 256, by omega⟩ : Fin 8192) = i 1 :=
    Fin.ext (by show 256 * ((256 * (i 0).val + 32 * ((i 2).val / 256) + (i 1).val / 256) % 32) + _ = _; omega)
  have a2 : (⟨256 * (gh t).val + (i 2).val % 256, by omega⟩ : Fin 2048) = i 2 :=
    Fin.ext (by show 256 * ((256 * (i 0).val + 32 * ((i 2).val / 256) + (i 1).val / 256) / 32 % 8) + _ = _; omega)
  have ei : (ix3 (gb t) ⟨256 * (gt t).val + (i 1).val % 256, by omega⟩ ⟨256 * (gh t).val + (i 2).val % 256, by omega⟩ : S4x8192x2048.Idx) = i :=
    (congr (congrArg₂ (fun u v => (ix3 u v : Fin 2048 → S4x8192x2048.Idx)) a0 a1) a2).trans (eq_ix3 i).symm
  exact (e.trans ei) ▸ View.emb_mem_set _ _

/-- The result array, given what each program's block holds. -/
theorem arr_eq (hH : Hyps m hO) (c : Dev nD) (G : S4x8192x2048.Idx → EReal)
    (hG : ∀ (t : Fin (cfgM m hO).N) (q d : Fin 256),
      outAt m hO c t (ix3 0 q d) = G (ix3 (gb t) ⟨256 * (gt t).val + q.val, by omega⟩ ⟨256 * (gh t).val + d.val, by omega⟩)) :
    (dats m hO hH 0 c).arrAt 6 (cfgM m hO).N = G := by
  refine (dats m hO hH 0 c).arrAt_eq_of_emb 6 G (fun t hf y => ?_) fun i => covered m hO i
  rw [after0_6]
  exact out_idx m hO c G t (hG t) y

end Cert.AttnIdeal.Track

end
-- ==== Proof.ReferenceIdeal.Arr.lean ====
/- What the reference leaves in its result. -/
module

public import proofs.«01_k».proof.Proof.Gen.ReferenceIdeal.Frame
public import proofs.«01_k».proof.Proof.ReferenceIdeal.Pay
public import Idealize.ShloMosaic.Lib.Pipeline.ValueKit
public import Idealize.ShloMosaic.Lib.Pipeline.ReadBack

@[expose] public section

set_option maxRecDepth 16384

noncomputable section

namespace Cert.ReferenceIdeal.Val

open Idealize.ShloMosaic Idealize.ShloMosaic.TcCoe Cert.ReferenceIdeal Cert.ReferenceIdeal.Gen

/-- The scaled score of a query and a key. -/
def sc (x1 : FVec Ideal S4x2048x8192 .fp8e4m3) (x2 : FVec Ideal S4x8x4x8192 .f32) (x3 : FVec Ideal S4x8x8192x128 .fp8e4m3)
    (x4 : FVec Ideal S4x8x1x8192 .f32) (b : Fin 4) (h : Fin 8) (g : Fin 4) (q s : Fin 8192) : EReal :=
  ((∑ x : Fin 64, x1 (ix3 b ⟨h.val * 256 + g.val * 64 + x.val, by omega⟩ q) * x3 (ix4 b h s ⟨x.val, by omega⟩))
      + ∑ x : Fin 64, x1 (ix3 b ⟨h.val * 256 + g.val * 64 + x.val, by omega⟩ q) * x3 (ix4 b h s ⟨64 + x.val, by omega⟩))
    * (x2 (ix4 b h g q) * Ideal.ofBits FTy.f32 0x3E000000#32) * x4 (ix4 b h 0 s)

/-- One element of the result from the arguments. -/
def val (x0 : IVec S4 32) (x1 : FVec Ideal S4x2048x8192 .fp8e4m3) (x2 : FVec Ideal S4x8x4x8192 .f32) (x3 : FVec Ideal S4x8x8192x128 .fp8e4m3)
    (x4 : FVec Ideal S4x8x1x8192 .f32) (x5 : FVec Ideal S4x8x64x8192 .fp8e4m3) (x6 : FVec Ideal S4x8x64x128 .f32)
    (b : Fin 4) (q : Fin 8192) (cc : Fin 2048) : EReal :=
  refE (x0 (ix1 b)) (sc x1 x2 x3 x4 b ⟨cc.val / 256, by omega⟩ ⟨cc.val / 64 % 4, by omega⟩ q)
    (fun s => x5 (ix4 b ⟨cc.val / 256, by omega⟩ ⟨cc.val % 64, by omega⟩ s))
    (x6 (ix4 b ⟨cc.val / 256, by omega⟩ ⟨cc.val % 64, by omega⟩ 0))

/-- The four lengths, read one by one. -/
theorem pick_ld (x0 : IVec S4 32) (h0 h1 h2 h3) (z0 : (Rect.unit (s := S4) ![0] ![1] h0).shape.Idx) (z1 : (Rect.unit (s := S4) ![1] ![1] h1).shape.Idx)
    (z2 : (Rect.unit (s := S4) ![2] ![1] h2).shape.Idx) (z3 : (Rect.unit (s := S4) ![3] ![1] h3).shape.Idx) (b : Fin 4) :
    pick (View.ld (Val := Elt Ideal) (e' := .i32) x0 (Rect.unit (s := S4) ![0] ![1] h0) z0) (View.ld (Val := Elt Ideal) (e' := .i32) x0 (Rect.unit (s := S4) ![1] ![1] h1) z1)
      (View.ld (Val := Elt Ideal) (e' := .i32) x0 (Rect.unit (s := S4) ![2] ![1] h2) z2) (View.ld (Val := Elt Ideal) (e' := .i32) x0 (Rect.unit (s := S4) ![3] ![1] h3) z3) b = x0 (ix1 b) := by
  have k : ∀ (o : ℕ) (ho : o < 4) (hh) (z : (Rect.unit (s := S4) ![o] ![1] hh).shape.Idx),
      View.ld (Val := Elt Ideal) (e' := .i32) x0 (Rect.unit (s := S4) ![o] ![1] hh) z = x0 (ix1 ⟨o, ho⟩) := by
    intro o ho hh z
    refine View.ld_unit_apply_of _ _ _ _ _ _ fun a => ?_
    obtain rfl : a = 0 := Subsingleton.elim _ _
    have : (z 0).val < 1 := (z 0).isLt
    show o = o + (z 0).val
    omega
  fin_cases b
  · exact k 0 (by omega) _ _
  · exact k 1 (by omega) _ _
  · exact k 2 (by omega) _ _
  · exact k 3 (by omega) _ _

/-- The body's result, element by element. -/
theorem elt (x0 : IVec S4 32) (x1 : FVec Ideal S4x2048x8192 .fp8e4m3) (x2 : FVec Ideal S4x8x4x8192 .f32) (x3 : FVec Ideal S4x8x8192x128 .fp8e4m3)
    (x4 : FVec Ideal S4x8x1x8192 .f32) (x5 : FVec Ideal S4x8x64x8192 .fp8e4m3) (x6 : FVec Ideal S4x8x64x128 .f32)
    (h0 h1 h2 h3) (z0 : (Rect.unit (s := S4) ![0] ![1] h0).shape.Idx) (z1 : (Rect.unit (s := S4) ![1] ![1] h1).shape.Idx)
    (z2 : (Rect.unit (s := S4) ![2] ![1] h2).shape.Idx) (z3 : (Rect.unit (s := S4) ![3] ![1] h3).shape.Idx) (hi hv hl hr)
    (b : Fin 4) (q : Fin 8192) (cc : Fin 2048) :
    k0_pay4 (F := Ideal) x5 (k0_pay1 (F := Ideal) (View.ld (Val := Elt Ideal) (e' := .f32) x6 (Rect.unit (s := S4x8x64x128) ![0, 0, 0, 0] ![4, 8, 64, 1] hv)))
        (k0_pay2 (F := Ideal) x1 (View.ld (Val := Elt Ideal) (e' := .fp8e4m3) x3 (Rect.unit (s := S4x8x8192x128) ![0, 0, 0, 0] ![4, 8, 8192, 64] hl))
          (View.ld (Val := Elt Ideal) (e' := .fp8e4m3) x3 (Rect.unit (s := S4x8x8192x128) ![0, 0, 0, 64] ![4, 8, 8192, 64] hr)) x4 x2)
        (iota .tc S4x8x4x8192x8192 32 [0] hi)
        (k0_pay3 (F := Ideal) (View.ld (Val := Elt Ideal) (e' := .i32) x0 (Rect.unit (s := S4) ![0] ![1] h0) z0))
        (View.ld (Val := Elt Ideal) (e' := .i32) x0 (Rect.unit (s := S4) ![1] ![1] h1) z1)
        (View.ld (Val := Elt Ideal) (e' := .i32) x0 (Rect.unit (s := S4) ![2] ![1] h2) z2)
        (View.ld (Val := Elt Ideal) (e' := .i32) x0 (Rect.unit (s := S4) ![3] ![1] h3) z3) (ix3 b q cc)
      = val x0 x1 x2 x3 x4 x5 x6 b q cc := by
  refine (result _ _ _ _ _ _ _ b q cc).trans ?_
  unfold val
  rw [pick_ld, vscale]
  have e6 : ∀ (b : Fin 4) (h : Fin 8) (d : Fin 64), View.ld (Val := Elt Ideal) (e' := .f32) x6 (Rect.unit (s := S4x8x64x128) ![0, 0, 0, 0] ![4, 8, 64, 1] hv) (ix4 b h d 0)
      = x6 (ix4 b h d 0) := by
    intro b h d
    refine View.ld_unit_apply_of _ _ _ _ _ _ fun a => ?_
    fin_cases a <;> simp [ix4]
  have el : ∀ (b : Fin 4) (h : Fin 8) (s : Fin 8192) (x : Fin 64), View.ld (Val := Elt Ideal) (e' := .fp8e4m3) x3 (Rect.unit (s := S4x8x8192x128) ![0, 0, 0, 0] ![4, 8, 8192, 64] hl) (ix4 b h s x)
      = x3 (ix4 b h s ⟨x.val, by omega⟩) := by
    intro b h s x
    refine View.ld_unit_apply_of _ _ _ _ _ _ fun a => ?_
    fin_cases a <;> simp [ix4]
  have er : ∀ (b : Fin 4) (h : Fin 8) (s : Fin 8192) (x : Fin 64), View.ld (Val := Elt Ideal) (e' := .fp8e4m3) x3 (Rect.unit (s := S4x8x8192x128) ![0, 0, 0, 64] ![4, 8, 8192, 64] hr) (ix4 b h s x)
      = x3 (ix4 b h s ⟨64 + x.val, by omega⟩) := by
    intro b h s x
    refine View.ld_unit_apply_of _ _ _ _ _ _ fun a => ?_
    fin_cases a <;> simp [ix4]
  have es : (fun s : Fin 8192 => k0_pay2 (F := Ideal) x1 (View.ld (Val := Elt Ideal) (e' := .fp8e4m3) x3 (Rect.unit (s := S4x8x8192x128) ![0, 0, 0, 0] ![4, 8, 8192, 64] hl))
          (View.ld (Val := Elt Ideal) (e' := .fp8e4m3) x3 (Rect.unit (s := S4x8x8192x128) ![0, 0, 0, 64] ![4, 8, 8192, 64] hr)) x4 x2
          (ix5 b ⟨cc.val / 256, by omega⟩ ⟨cc.val / 64 % 4, by omega⟩ q s))
      = sc x1 x2 x3 x4 b ⟨cc.val / 256, by omega⟩ ⟨cc.val / 64 % 4, by omega⟩ q := by
    funext s
    refine (scores _ _ _ _ _ _ _ _ _ _).trans ?_
    unfold sc
    exact congrArg₂ (fun u w => (u + w) * _ * _) (Finset.sum_congr rfl fun x _ => congrArg (_ * ·) (el _ _ _ _))
      (Finset.sum_congr rfl fun x _ => congrArg (_ * ·) (er _ _ _ _))
  exact congrArg₂ (fun u w => refE _ u _ w) es (e6 _ _ _)

/-- The same at any index. -/
theorem elt_idx (x0 : IVec S4 32) (x1 : FVec Ideal S4x2048x8192 .fp8e4m3) (x2 : FVec Ideal S4x8x4x8192 .f32) (x3 : FVec Ideal S4x8x8192x128 .fp8e4m3)
    (x4 : FVec Ideal S4x8x1x8192 .f32) (x5 : FVec Ideal S4x8x64x8192 .fp8e4m3) (x6 : FVec Ideal S4x8x64x128 .f32)
    (h0 h1 h2 h3) (z0 : (Rect.unit (s := S4) ![0] ![1] h0).shape.Idx) (z1 : (Rect.unit (s := S4) ![1] ![1] h1).shape.Idx)
    (z2 : (Rect.unit (s := S4) ![2] ![1] h2).shape.Idx) (z3 : (Rect.unit (s := S4) ![3] ![1] h3).shape.Idx) (hi hv hl hr)
    (j : S4x8192x2048.Idx) :
    k0_pay4 (F := Ideal) x5 (k0_pay1 (F := Ideal) (View.ld (Val := Elt Ideal) (e' := .f32) x6 (Rect.unit (s := S4x8x64x128) ![0, 0, 0, 0] ![4, 8, 64, 1] hv)))
        (k0_pay2 (F := Ideal) x1 (View.ld (Val := Elt Ideal) (e' := .fp8e4m3) x3 (Rect.unit (s := S4x8x8192x128) ![0, 0, 0, 0] ![4, 8, 8192, 64] hl))
          (View.ld (Val := Elt Ideal) (e' := .fp8e4m3) x3 (Rect.unit (s := S4x8x8192x128) ![0, 0, 0, 64] ![4, 8, 8192, 64] hr)) x4 x2)
        (iota .tc S4x8x4x8192x8192 32 [0] hi)
        (k0_pay3 (F := Ideal) (View.ld (Val := Elt Ideal) (e' := .i32) x0 (Rect.unit (s := S4) ![0] ![1] h0) z0))
        (View.ld (Val := Elt Ideal) (e' := .i32) x0 (Rect.unit (s := S4) ![1] ![1] h1) z1)
        (View.ld (Val := Elt Ideal) (e' := .i32) x0 (Rect.unit (s := S4) ![2] ![1] h2) z2)
        (View.ld (Val := Elt Ideal) (e' := .i32) x0 (Rect.unit (s := S4) ![3] ![1] h3) z3) j
      = val x0 x1 x2 x3 x4 x5 x6 (j 0) (j 1) (j 2) :=
  (congrArg _ (eq_ix3 j)).trans (elt x0 x1 x2 x3 x4 x5 x6 h0 h1 h2 h3 z0 z1 z2 z3 hi hv hl hr (j 0) (j 1) (j 2))

variable (m : (ℓ : Loc nD τ sig) → Buf (Elt Ideal) ℓ)

/-- The one block of argument 0 is the argument. -/
theorem blk_0 (c : Dev nD) : iblk m c 0 t0_0 = m ((c : Thread nD τ).loc main_arg0) := by
  have e : win0_0.index t0_0 = ![0] := by decide +kernel
  funext y
  blk_simp [iblk]
  congr 1
  blk_ext [iblk, e]

/-- The one block of argument 1 is the argument. -/
theorem blk_1 (c : Dev nD) : iblk m c 1 t0_0 = m ((c : Thread nD τ).loc main_arg1) := by
  have e : win0_1.index t0_0 = ![0, 0, 0] := by decide +kernel
  funext y
  blk_simp [iblk]
  congr 1
  blk_ext [iblk, e]

/-- The one block of argument 2 is the argument. -/
theorem blk_2 (c : Dev nD) : iblk m c 2 t0_0 = m ((c : Thread nD τ).loc main_arg2) := by
  have e : win0_2.index t0_0 = ![0, 0, 0, 0] := by decide +kernel
  funext y
  blk_simp [iblk]
  congr 1
  blk_ext [iblk, e]

/-- The one block of argument 3 is the argument. -/
theorem blk_3 (c : Dev nD) : iblk m c 3 t0_0 = m ((c : Thread nD τ).loc main_arg3) := by
  have e : win0_3.index t0_0 = ![0, 0, 0, 0] := by decide +kernel
  funext y
  blk_simp [iblk]
  congr 1
  blk_ext [iblk, e]

/-- The one block of argument 4 is the argument. -/
theorem blk_4 (c : Dev nD) : iblk m c 4 t0_0 = m ((c : Thread nD τ).loc main_arg4) := by
  have e : win0_4.index t0_0 = ![0, 0, 0, 0] := by decide +kernel
  funext y
  blk_simp [iblk]
  congr 1
  blk_ext [iblk, e]

/-- The one block of argument 5 is the argument. -/
theorem blk_5 (c : Dev nD) : iblk m c 5 t0_0 = m ((c : Thread nD τ).loc main_arg5) := by
  have e : win0_5.index t0_0 = ![0, 0, 0, 0] := by decide +kernel
  funext y
  blk_simp [iblk]
  congr 1
  blk_ext [iblk, e]

/-- The one block of argument 6 is the argument. -/
theorem blk_6 (c : Dev nD) : iblk m c 6 t0_0 = m ((c : Thread nD τ).loc main_arg6) := by
  have e : win0_6.index t0_0 = ![0, 0, 0, 0] := by decide +kernel
  funext y
  blk_simp [iblk]
  congr 1
  blk_ext [iblk, e]

/-- What the body leaves in the result's buffer, from its inputs. -/
theorem out_val (c : Dev nD) (arg0 : Memref sig .tc .smem S4 .i32) (harg0 : arg0.IsWhole) (arg1 : Memref sig .tc .vmem S4x2048x8192 .fp8e4m3) (harg1 : arg1.IsWhole) (arg2 : Memref sig .tc .vmem S4x8x4x8192 .f32) (harg2 : arg2.IsWhole) (arg3 : Memref sig .tc .vmem S4x8x8192x128 .fp8e4m3) (harg3 : arg3.IsWhole) (arg4 : Memref sig .tc .vmem S4x8x1x8192 .f32) (harg4 : arg4.IsWhole) (arg5 : Memref sig .tc .vmem S4x8x64x8192 .fp8e4m3) (harg5 : arg5.IsWhole) (arg6 : Memref sig .tc .vmem S4x8x64x128 .f32) (harg6 : arg6.IsWhole) (arg7 : Memref sig .tc .vmem S4x8192x2048 .bf16) (harg7 : arg7.IsWhole)
    (x0 : IVec S4 32) (x1 : FVec Ideal S4x2048x8192 .fp8e4m3) (x2 : FVec Ideal S4x8x4x8192 .f32) (x3 : FVec Ideal S4x8x8192x128 .fp8e4m3)
    (x4 : FVec Ideal S4x8x1x8192 .f32) (x5 : FVec Ideal S4x8x64x8192 .fp8e4m3) (x6 : FVec Ideal S4x8x64x128 .f32) :
    out0_A_7 (F := Ideal) c arg0 harg0 arg1 harg1 arg2 harg2 arg3 harg3 arg4 harg4 arg5 harg5 arg6 harg6 arg7 harg7 x0 x1 x2 x3 x4 x5 x6 = fun j => val x0 x1 x2 x3 x4 x5 x6 (j 0) (j 1) (j 2) := by
  funext j
  frame_out
  exact elt_idx x0 x1 x2 x3 x4 x5 x6 _ _ _ _ _ _ _ _ _ _ _ _ j

/-- The result array. -/
theorem arr (c : Dev nD) :
    (dats m 0 c).arrAt 7 cfg0.N = fun i : S4x8192x2048.Idx => val (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (i 0) (i 1) (i 2) := by
  refine (dats m 0 c).arrAt_eq_of_after_last 7 t0_0 (by decide +kernel) _ fun j => ?_
  rw [after0_7]
  unfold outsAt0
  rw [out_val, blk_0 m c, blk_1 m c, blk_2 m c, blk_3 m c, blk_4 m c, blk_5 m c, blk_6 m c]
  rfl

end Cert.ReferenceIdeal.Val

end
-- ==== Proof.Algebraic.lean ====
/- The kernel and the reference leave the same result. -/
module

public import proofs.«01_k».proof.Defs
public import proofs.«01_k».proof.Proof.Pre
public import proofs.«01_k».proof.Proof.PreFacts
public import proofs.«01_k».proof.Proof.Join
public import proofs.«01_k».proof.Proof.AttnIdeal.Frame
public import proofs.«01_k».proof.Proof.AttnIdeal.Hyps
public import proofs.«01_k».proof.Proof.AttnIdeal.Blocks
public import proofs.«01_k».proof.Proof.AttnIdeal.Arr
public import proofs.«01_k».proof.Proof.ReferenceIdeal.Arr

@[expose] public section

set_option maxRecDepth 16384

noncomputable section

namespace Cert.ReferenceIdeal.Val

open Idealize.ShloMosaic

/-- The reference's element, its column written as a head, a group and a lane. -/
theorem val_at (x0 : IVec S4 32) (x1 : FVec Ideal S4x2048x8192 .fp8e4m3) (x2 : FVec Ideal S4x8x4x8192 .f32) (x3 : FVec Ideal S4x8x8192x128 .fp8e4m3)
    (x4 : FVec Ideal S4x8x1x8192 .f32) (x5 : FVec Ideal S4x8x64x8192 .fp8e4m3) (x6 : FVec Ideal S4x8x64x128 .f32)
    (b : Fin 4) (q : Fin 8192) (cc : Fin 2048) (h : Fin 8) (g : Fin 4) (d : Fin 64) (e : cc.val = 256 * h.val + 64 * g.val + d.val) :
    val x0 x1 x2 x3 x4 x5 x6 b q cc
      = refE (x0 (ix1 b)) (sc x1 x2 x3 x4 b h g q) (fun s => x5 (ix4 b h d s)) (x6 (ix4 b h d 0)) := by
  have e1 : (⟨cc.val / 256, by omega⟩ : Fin 8) = h := Fin.ext (by show cc.val / 256 = h.val; omega)
  have e2 : (⟨cc.val / 64 % 4, by omega⟩ : Fin 4) = g := Fin.ext (by show cc.val / 64 % 4 = g.val; omega)
  have e3 : (⟨cc.val % 64, by omega⟩ : Fin 64) = d := Fin.ext (by show cc.val % 64 = d.val; omega)
  unfold val
  rw [e1, e2, e3]

end Cert.ReferenceIdeal.Val

namespace Cert.Proof

open Idealize.ShloMosaic Idealize.ShloMosaic.TcCoe Idealize.SL.Sem

section Kernel

open Cert.AttnIdeal Cert.AttnIdeal.Gen

variable (m : (ℓ : Loc nD τ sig) → Buf (Elt Ideal) ℓ)

/-- The reference's result from the kernel's arguments. -/
def goal (c : Dev nD) : S4x8192x2048.Idx → EReal := fun i =>
  Cert.ReferenceIdeal.Val.val (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (i 0) (i 1) (i 2)

/-- A program's block holds the reference's elements. -/
theorem block (hO : Ok m) (c : Dev nD)
    (hl : ∀ i : S4.Idx, ∃ n, n ≤ 8192 ∧ m ((c : Thread nD τ).loc main_arg0) i = BitVec.ofNat 32 n)
    (hq : ∀ i : S4x8x4x8192.Idx, (0 : EReal) < m ((c : Thread nD τ).loc main_arg2) i)
    (hv : ∀ (a : Fin 4) (b : Fin 8) (d : Fin 64) (l : Fin 128),
      m ((c : Thread nD τ).loc main_arg6) (ix4 a b d l) = m ((c : Thread nD τ).loc main_arg6) (ix4 a b d 0))
    (t : Fin (cfgM m hO).N) (q d : Fin 256) :
    Cert.AttnIdeal.Track.outAt m hO c t (ix3 0 q d)
      = goal m c (ix3 (gb t) ⟨256 * (gt t).val + q.val, by omega⟩ ⟨256 * (gh t).val + d.val, by omega⟩) := by
  obtain ⟨n, hn, ew⟩ := hl (ix1 (gb t))
  have ew' : Cert.AttnIdeal.Track.word m hO t = BitVec.ofNat 32 n := (Cert.AttnIdeal.Track.word_row m hO c t).trans ew
  have en : (Cert.AttnIdeal.Track.word m hO t).toNat = n := by
    rw [ew', BitVec.toNat_ofNat]
    exact Nat.mod_eq_of_lt (by omega)
  have er : goal m c (ix3 (gb t) ⟨256 * (gt t).val + q.val, by omega⟩ ⟨256 * (gh t).val + d.val, by omega⟩)
      = Cert.ReferenceIdeal.Val.refE (BitVec.ofNat 32 n)
          (Cert.ReferenceIdeal.Val.sc (m ((c : Thread nD τ).loc main_arg1)) (m ((c : Thread nD τ).loc main_arg2)) (m ((c : Thread nD τ).loc main_arg3))
            (m ((c : Thread nD τ).loc main_arg4)) (gb t) (gh t) ⟨d.val / 64, by omega⟩ ⟨256 * (gt t).val + q.val, by omega⟩)
          (fun s => m ((c : Thread nD τ).loc main_arg5) (ix4 (gb t) (gh t) ⟨d.val % 64, by omega⟩ s))
          (m ((c : Thread nD τ).loc main_arg6) (ix4 (gb t) (gh t) ⟨d.val % 64, by omega⟩ 0)) := by
    refine (Cert.ReferenceIdeal.Val.val_at _ _ _ _ _ _ _ (gb t) ⟨256 * (gt t).val + q.val, by omega⟩ ⟨256 * (gh t).val + d.val, by omega⟩ (gh t)
      ⟨d.val / 64, by omega⟩ ⟨d.val % 64, by omega⟩ ?_).trans ?_
    · show 256 * (gh t).val + d.val = 256 * (gh t).val + 64 * (d.val / 64) + d.val % 64
      omega
    · exact congrArg (fun w => Cert.ReferenceIdeal.Val.refE w _ _ _) ew
  refine Eq.trans ?_ er.symm
  have ek : Cert.AttnIdeal.Track.outAt m hO c t (ix3 0 q d)
      = Cert.AttnIdeal.Val.outE n (iblk m hO c 0 t) (iblk m hO c 1 t) (iblk m hO c 2 t) (fun s => iblk m hO c 3 t (ix4 0 0 0 s)) (iblk m hO c 4 t)
          (iblk m hO c 5 t) ((n + 511) / 512) ⟨d.val / 64, by omega⟩ q ⟨d.val % 64, by omega⟩ := by
    rw [← en]
    rfl
  refine ek.trans (Cert.Join.join hn _ q _ _ _ _ ?_ (fun s => ?_) (fun s => ?_) ?_)
  · rw [iblk_1]; exact hq _
  · have e0 : ∀ x : Fin 64, iblk m hO c 0 t (ix3 0 ⟨64 * (d.val / 64) + x.val, by omega⟩ q)
        = m ((c : Thread nD τ).loc main_arg1) (ix3 (gb t) ⟨(gh t).val * 256 + d.val / 64 * 64 + x.val, by omega⟩ ⟨256 * (gt t).val + q.val, by omega⟩) := by
      intro x
      refine (iblk_0 m hO c t _ q).trans ?_
      exact congrArg (fun z : Fin 2048 => m ((c : Thread nD τ).loc main_arg1) (ix3 (gb t) z ⟨256 * (gt t).val + q.val, by omega⟩))
        (Fin.ext (by show 256 * (gh t).val + (64 * (d.val / 64) + x.val) = (gh t).val * 256 + d.val / 64 * 64 + x.val; omega))
    have e1 := iblk_1 m hO c t ⟨d.val / 64, by omega⟩ q
    have e2 := iblk_2 m hO c t s
    have e3 := iblk_3 m hO c t s
    unfold Cert.ReferenceIdeal.Val.sc Cert.AttnIdeal.Val.dot
    refine congrArg₂ (· * ·) (congrArg₂ (· * ·) (congrArg₂ (· + ·) ?_ ?_) ?_) e3.symm
    · exact Finset.sum_congr rfl fun x _ => (mul_comm _ _).trans (congrArg₂ (· * ·) (e2 _).symm (e0 x).symm)
    · exact Finset.sum_congr rfl fun x _ => (mul_comm _ _).trans (congrArg₂ (· * ·) (e2 _).symm (e0 x).symm)
    · exact congrArg (· * _) e1.symm
  · exact (iblk_4 m hO c t _ s).symm
  · exact ((iblk_5 m hO c t _ _).trans (hv _ _ _ _)).symm

end Kernel

/-- Under the second precondition the idealized kernel runs, leaves its arguments as they were and its counters at zero. -/
theorem frame_pi_pre : Cert.quiescent_AttnIdeal_pre_pre (hAttnIdeal := Cert.AttnIdeal.Gen.facts) (hPre_pre := Cert.Pre_pre.Gen.facts) := by
  intro m ρ h
  haveI := Cert.Pre_pre.Gen.facts
  exact Cert.AttnIdeal.Gen.frame m ρ (Cert.AttnIdeal.Gen.ok_any m)
    (Cert.AttnIdeal.Gen.hyps_of_range m _ (Cert.Range.pre _ _ _ _ _ _ _ (h 0)).1)

/-- The same of the reference. -/
theorem frame_ri_pre : Cert.quiescent_ReferenceIdeal_pre_pre (hReferenceIdeal := Cert.ReferenceIdeal.Gen.facts) (hPre_pre := Cert.Pre_pre.Gen.facts) := by
  intro m ρ _
  exact Cert.ReferenceIdeal.Gen.frame m ρ

/-- From the same arguments, under the second precondition, the idealized kernel and the reference leave the same
    result, and both leave their arguments as they were. -/
theorem algebraic : Cert.algebraic_AttnIdeal_ReferenceIdeal_pre_pre (hAttnIdeal := Cert.AttnIdeal.Gen.facts)
    (hReferenceIdeal := Cert.ReferenceIdeal.Gen.facts) (hPre_pre := Cert.Pre_pre.Gen.facts) := by
  intro m ρ m' ρ' h hagree
  haveI := Cert.Pre_pre.Gen.facts
  have hp := fun c => Cert.Range.pre _ _ _ _ _ _ _ (h c)
  have hO := Cert.AttnIdeal.Gen.ok_any m
  have hH := Cert.AttnIdeal.Gen.hyps_of_range m hO (hp 0).1
  have hS : Cert.AttnIdeal.Track.Short m hO := by
    intro t
    obtain ⟨n, hn, e⟩ := (hp 0).1 (ix1 (Cert.AttnIdeal.Gen.gb t))
    rw [(Cert.AttnIdeal.Track.word_row m hO 0 t).trans e, BitVec.toNat_ofNat]
    exact (Nat.mod_le _ _).trans hn
  refine ⟨fun c => goal m c, ?_, ?_⟩
  · refine (θ_run Cert.AttnIdeal.defs _ _).mono (fun r hr c => ⟨?_, hr.1 c⟩)
      (θ_run_and (Cert.AttnIdeal.Gen.unchanged m ρ hO hH) (Cert.AttnIdeal.Track.run_main m ρ hO hS hH))
    exact (Pipeline.FramePost.out_eq hr.2 c 6).trans (Cert.AttnIdeal.Track.arr_eq m hO hH c (goal m c)
      (block m hO c (hp c).1 (hp c).2.1 (hp c).2.2))
  · refine (θ_run Cert.ReferenceIdeal.defs _ _).mono (fun r hr c => ⟨?_, hr.1 c⟩)
      (θ_run_and (Cert.ReferenceIdeal.Gen.unchanged m' ρ') (Cert.ReferenceIdeal.Gen.run_main m' ρ'))
    obtain ⟨h0, h1, h2, h3, h4, h5, h6⟩ := hagree c
    refine (Pipeline.FramePost.out_eq hr.2 c 7).trans ((Cert.ReferenceIdeal.Val.arr m' c).trans ?_)
    rw [h0, h1, h2, h3, h4, h5, h6]
    rfl

end Cert.Proof

end
-- ==== Proof.lean ====
/- The claims: the frames of the kernel, of the idealized kernel and of the reference, the ledger's one entry
   (Proof/Frames.lean), and the equality of the idealized kernel's result with the reference's (Proof/Algebraic.lean). -/
module

public import proofs.«01_k».proof.Defs
public import proofs.«01_k».proof.Proof.Frames
public import proofs.«01_k».proof.Proof.Algebraic

@[expose] public section

/-- Everything the certificate claims. -/
theorem Cert.Proof.claim : Cert.Claim :=
  ⟨Cert.Attn.Gen.facts, Cert.AttnIdeal.Gen.facts, Cert.ReferenceIdeal.Gen.facts, Cert.Pre_in_range.Gen.facts, Cert.Pre_pre.Gen.facts,
    Cert.Proof.frame_p, Cert.Proof.frame_pi, Cert.Proof.frame_pi_pre, Cert.Proof.frame_ri, Cert.Proof.frame_ri_pre,
    Cert.Proof.preserves, Cert.Proof.algebraic⟩
